-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x6144 : Shape := ⟨2, ![4096, 6144]⟩
abbrev S2048x2 : Shape := ⟨2, ![2048, 2]⟩
abbrev S2048x1 : Shape := ⟨2, ![2048, 1]⟩
abbrev S2048 : Shape := ⟨1, ![2048]⟩
abbrev S5x4096x2048 : Shape := ⟨3, ![5, 4096, 2048]⟩
abbrev S4096x2048 : Shape := ⟨2, ![4096, 2048]⟩
abbrev S6144 : Shape := ⟨1, ![6144]⟩
abbrev S10240 : Shape := ⟨1, ![10240]⟩
abbrev S_ : Shape := ⟨0, ![]⟩
abbrev S16 : Shape := ⟨1, ![16]⟩
abbrev S1x6144 : Shape := ⟨2, ![1, 6144]⟩
abbrev S1x1x2048 : Shape := ⟨3, ![1, 1, 2048]⟩
abbrev S1x2048 : Shape := ⟨2, ![1, 2048]⟩
abbrev S4096x2048x5 : Shape := ⟨3, ![4096, 2048, 5]⟩

abbrev nBuf : Table → Nat
  | .hbm => 13
  | .local .scVector .vmem => 14
  | _ => 0

abbrev bufTy : (tb : Table) → Fin (nBuf tb) → BufTy
  | .hbm, ⟨0, _⟩ => ⟨S4096x6144, .f32⟩
  | .hbm, ⟨1, _⟩ => ⟨S2048x2, .f32⟩
  | .hbm, ⟨2, _⟩ => ⟨S2048x1, .f32⟩
  | .hbm, ⟨3, _⟩ => ⟨S2048, .f32⟩
  | .hbm, ⟨4, _⟩ => ⟨S2048x1, .f32⟩
  | .hbm, ⟨5, _⟩ => ⟨S2048, .f32⟩
  | .hbm, ⟨6, _⟩ => ⟨S5x4096x2048, .f32⟩
  | .hbm, ⟨7, _⟩ => ⟨S4096x2048, .i32⟩
  | .hbm, ⟨8, _⟩ => ⟨S4096x2048x5, .f32⟩
  | .hbm, ⟨9, _⟩ => ⟨S_, .i32⟩
  | .hbm, ⟨10, _⟩ => ⟨S4096x2048, .i32⟩
  | .hbm, ⟨11, _⟩ => ⟨S4096x2048, .i1⟩
  | .hbm, ⟨12, _⟩ => ⟨S4096x2048, .i1⟩
  | .local .scVector .vmem, ⟨0, _⟩ => ⟨S6144, .f32⟩
  | .local .scVector .vmem, ⟨1, _⟩ => ⟨S6144, .f32⟩
  | .local .scVector .vmem, ⟨2, _⟩ => ⟨S6144, .f32⟩
  | .local .scVector .vmem, ⟨3, _⟩ => ⟨S6144, .f32⟩
  | .local .scVector .vmem, ⟨4, _⟩ => ⟨S10240, .f32⟩
  | .local .scVector .vmem, ⟨5, _⟩ => ⟨S10240, .f32⟩
  | .local .scVector .vmem, ⟨6, _⟩ => ⟨S10240, .f32⟩
  | .local .scVector .vmem, ⟨7, _⟩ => ⟨S10240, .f32⟩
  | .local .scVector .vmem, ⟨8, _⟩ => ⟨S2048, .i32⟩
  | .local .scVector .vmem, ⟨9, _⟩ => ⟨S2048, .i32⟩
  | .local .scVector .vmem, ⟨10, _⟩ => ⟨S2048, .i32⟩
  | .local .scVector .vmem, ⟨11, _⟩ => ⟨S2048, .i32⟩
  | .local .scVector .vmem, ⟨12, _⟩ => ⟨S2048, .f32⟩
  | .local .scVector .vmem, ⟨13, _⟩ => ⟨S2048, .f32⟩
  | _, _ => ⟨S4096x6144, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_arg0_scv : Ref sig .scVector := ⟨.hbm, 0, rfl⟩
abbrev main_v1_scv : Ref sig .scVector := ⟨.hbm, 3, rfl⟩
abbrev main_v3_scv : Ref sig .scVector := ⟨.hbm, 5, rfl⟩
abbrev main_v4_0_scv : Ref sig .scVector := ⟨.hbm, 6, rfl⟩
abbrev main_v4_1_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v7 : BitVec 32 := Scalar.addi v2 c0_i32
  let c0_i32_0 : BitVec 32 := 0#32
  ![v7.toNat, 0]
@[reducible] def k0_t1_loop : Scf.Loop 32 :=
  let c0_i32_11 : BitVec 32 := 0#32
  let c32_i32 : BitVec 32 := 32#32
  let v27 : BitVec 32 := Scalar.addi c0_i32_11 c32_i32
  let c1_i32_12 : BitVec 32 := 1#32
  ⟨c0_i32_11, v27, c1_i32_12⟩
def k0_cond1 (k0_t1 : Fin k0_t1_loop.trips) : BitVec 1 :=
  let c0_i32_11 : BitVec 32 := 0#32
  let c1_i32_12 : BitVec 32 := 1#32
  let arg29 : BitVec 32 := Scf.iv c0_i32_11 c1_i32_12 k0_t1
  let c0_i32_134 : BitVec 32 := 0#32
  let v183 : BitVec 1 := Scalar.cmpi .sgt arg29 c0_i32_134
  let v184 : BitVec 32 := Scalar.extui v183
  let c0_i32_135 : BitVec 32 := 0#32
  let v185 : BitVec 1 := Scalar.cmpi .ne v184 c0_i32_135
  v185

def k0_off2 (i : grid0.Coords) (k0_t1 : Fin k0_t1_loop.trips) : Fin 3 → Nat :=
  let c0_i32_297 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_129 : BitVec 32 := 4#32
  let c0_i32_11 : BitVec 32 := 0#32
  let c1_i32_12 : BitVec 32 := 1#32
  let arg29 : BitVec 32 := Scf.iv c0_i32_11 c1_i32_12 k0_t1
  let v176 : BitVec 32 := Scalar.muli c4_i32_129 arg29
  let c0_i32_130 : BitVec 32 := 0#32
  let v177 : BitVec 32 := Scalar.addi v176 c0_i32_130
  let v178 : BitVec 32 := Scalar.addi v2 v177
  let c4_i32_296 : BitVec 32 := 4#32
  let v372 : BitVec 32 := Scalar.subi v178 c4_i32_296
  let c0_i32_299 : BitVec 32 := 0#32
  ![0, v372.toNat, 0]
def k0_off3 (i : grid0.Coords) (k0_t1 : Fin k0_t1_loop.trips) : Fin 3 → Nat :=
  let c1_i32_302 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_129 : BitVec 32 := 4#32
  let c0_i32_11 : BitVec 32 := 0#32
  let c1_i32_12 : BitVec 32 := 1#32
  let arg29 : BitVec 32 := Scf.iv c0_i32_11 c1_i32_12 k0_t1
  let v176 : BitVec 32 := Scalar.muli c4_i32_129 arg29
  let c0_i32_130 : BitVec 32 := 0#32
  let v177 : BitVec 32 := Scalar.addi v176 c0_i32_130
  let v178 : BitVec 32 := Scalar.addi v2 v177
  let c4_i32_296 : BitVec 32 := 4#32
  let v372 : BitVec 32 := Scalar.subi v178 c4_i32_296
  let c0_i32_304 : BitVec 32 := 0#32
  ![1, v372.toNat, 0]
def k0_off4 (i : grid0.Coords) (k0_t1 : Fin k0_t1_loop.trips) : Fin 3 → Nat :=
  let c2_i32_307 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_129 : BitVec 32 := 4#32
  let c0_i32_11 : BitVec 32 := 0#32
  let c1_i32_12 : BitVec 32 := 1#32
  let arg29 : BitVec 32 := Scf.iv c0_i32_11 c1_i32_12 k0_t1
  let v176 : BitVec 32 := Scalar.muli c4_i32_129 arg29
  let c0_i32_130 : BitVec 32 := 0#32
  let v177 : BitVec 32 := Scalar.addi v176 c0_i32_130
  let v178 : BitVec 32 := Scalar.addi v2 v177
  let c4_i32_296 : BitVec 32 := 4#32
  let v372 : BitVec 32 := Scalar.subi v178 c4_i32_296
  let c0_i32_309 : BitVec 32 := 0#32
  ![2, v372.toNat, 0]
def k0_off5 (i : grid0.Coords) (k0_t1 : Fin k0_t1_loop.trips) : Fin 3 → Nat :=
  let c3_i32_312 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_129 : BitVec 32 := 4#32
  let c0_i32_11 : BitVec 32 := 0#32
  let c1_i32_12 : BitVec 32 := 1#32
  let arg29 : BitVec 32 := Scf.iv c0_i32_11 c1_i32_12 k0_t1
  let v176 : BitVec 32 := Scalar.muli c4_i32_129 arg29
  let c0_i32_130 : BitVec 32 := 0#32
  let v177 : BitVec 32 := Scalar.addi v176 c0_i32_130
  let v178 : BitVec 32 := Scalar.addi v2 v177
  let c4_i32_296 : BitVec 32 := 4#32
  let v372 : BitVec 32 := Scalar.subi v178 c4_i32_296
  let c0_i32_314 : BitVec 32 := 0#32
  ![3, v372.toNat, 0]
def k0_off6 (i : grid0.Coords) (k0_t1 : Fin k0_t1_loop.trips) : Fin 3 → Nat :=
  let c4_i32_317 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_129 : BitVec 32 := 4#32
  let c0_i32_11 : BitVec 32 := 0#32
  let c1_i32_12 : BitVec 32 := 1#32
  let arg29 : BitVec 32 := Scf.iv c0_i32_11 c1_i32_12 k0_t1
  let v176 : BitVec 32 := Scalar.muli c4_i32_129 arg29
  let c0_i32_130 : BitVec 32 := 0#32
  let v177 : BitVec 32 := Scalar.addi v176 c0_i32_130
  let v178 : BitVec 32 := Scalar.addi v2 v177
  let c4_i32_296 : BitVec 32 := 4#32
  let v372 : BitVec 32 := Scalar.subi v178 c4_i32_296
  let c0_i32_319 : BitVec 32 := 0#32
  ![4, v372.toNat, 0]
def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_129 : BitVec 32 := 4#32
  let c0_i32_11 : BitVec 32 := 0#32
  let c1_i32_12 : BitVec 32 := 1#32
  let arg29 : BitVec 32 := Scf.iv c0_i32_11 c1_i32_12 k0_t1
  let v176 : BitVec 32 := Scalar.muli c4_i32_129 arg29
  let c0_i32_130 : BitVec 32 := 0#32
  let v177 : BitVec 32 := Scalar.addi v176 c0_i32_130
  let v178 : BitVec 32 := Scalar.addi v2 v177
  let c4_i32_296 : BitVec 32 := 4#32
  let v372 : BitVec 32 := Scalar.subi v178 c4_i32_296
  let c0_i32_322 : BitVec 32 := 0#32
  ![v372.toNat, 0]
@[reducible] def k0_t2_loop : Scf.Loop 32 :=
  let c0_i32_137 : BitVec 32 := 0#32
  let c16_i32 : BitVec 32 := 16#32
  let v186 : BitVec 32 := Scalar.addi c0_i32_137 c16_i32
  let c1_i32_138 : BitVec 32 := 1#32
  ⟨c0_i32_137, v186, c1_i32_138⟩

def k0_chk1 (v376 : IVec S16 32) : Prop :=
  (∀ a x, ((![v376] : Fin 1 → IVec S16 32) a x).toNat < S6144.size a)
theorem k0_idx1_inb : ∀ (v376 : IVec S16 32) (k0_hw1 : k0_chk1 v376), ∀ a x, ((![v376] : Fin 1 → IVec S16 32) a x).toNat < S6144.size a := fun v376 k0_hw1 => k0_hw1

def k0_chk2 (v379 : IVec S16 32) : Prop :=
  (∀ a x, ((![v379] : Fin 1 → IVec S16 32) a x).toNat < S6144.size a)
theorem k0_idx2_inb : ∀ (v379 : IVec S16 32) (k0_hw2 : k0_chk2 v379), ∀ a x, ((![v379] : Fin 1 → IVec S16 32) a x).toNat < S6144.size a := fun v379 k0_hw2 => k0_hw2

def k0_chk3 (v382 : IVec S16 32) : Prop :=
  (∀ a x, ((![v382] : Fin 1 → IVec S16 32) a x).toNat < S6144.size a)
theorem k0_idx3_inb : ∀ (v382 : IVec S16 32) (k0_hw3 : k0_chk3 v382), ∀ a x, ((![v382] : Fin 1 → IVec S16 32) a x).toNat < S6144.size a := fun v382 k0_hw3 => k0_hw3
def k0_off8 (k0_t2 : Fin k0_t2_loop.trips) : Fin 1 → Nat :=
  let c0_i32_137 : BitVec 32 := 0#32
  let c1_i32_138 : BitVec 32 := 1#32
  let arg30 : BitVec 32 := Scf.iv c0_i32_137 c1_i32_138 k0_t2
  let c8_i32 : BitVec 32 := 8#32
  let v372 : BitVec 32 := Scalar.muli arg30 c8_i32
  let c0_i32_296 : BitVec 32 := 0#32
  let v373 : BitVec 32 := Scalar.addi v372 c0_i32_296
  let c16_i32_299 : BitVec 32 := 16#32
  let v384 : BitVec 32 := Scalar.muli v373 c16_i32_299
  let v385 : Index := Scalar.indexCast v384
  ![v385.toNat]
def k0_off9 (k0_t2 : Fin k0_t2_loop.trips) (c0_i32_303 : BitVec 32) : Fin 1 → Nat :=
  let c0_i32_137 : BitVec 32 := 0#32
  let c1_i32_138 : BitVec 32 := 1#32
  let arg30 : BitVec 32 := Scf.iv c0_i32_137 c1_i32_138 k0_t2
  let c8_i32 : BitVec 32 := 8#32
  let v372 : BitVec 32 := Scalar.muli arg30 c8_i32
  let c0_i32_296 : BitVec 32 := 0#32
  let v373 : BitVec 32 := Scalar.addi v372 c0_i32_296
  let c16_i32_302 : BitVec 32 := 16#32
  let v393 : BitVec 32 := Scalar.muli v373 c16_i32_302
  let v394 : BitVec 32 := Scalar.addi c0_i32_303 v393
  let v395 : Index := Scalar.indexCast v394
  ![v395.toNat]

def k0_chk4 (v427 : IVec S16 32) : Prop :=
  (∀ a x, ((![v427] : Fin 1 → IVec S16 32) a x).toNat < S6144.size a)
theorem k0_idx4_inb : ∀ (v427 : IVec S16 32) (k0_hw4 : k0_chk4 v427), ∀ a x, ((![v427] : Fin 1 → IVec S16 32) a x).toNat < S6144.size a := fun v427 k0_hw4 => k0_hw4

def k0_chk5 (v430 : IVec S16 32) : Prop :=
  (∀ a x, ((![v430] : Fin 1 → IVec S16 32) a x).toNat < S6144.size a)
theorem k0_idx5_inb : ∀ (v430 : IVec S16 32) (k0_hw5 : k0_chk5 v430), ∀ a x, ((![v430] : Fin 1 → IVec S16 32) a x).toNat < S6144.size a := fun v430 k0_hw5 => k0_hw5

def k0_chk6 (v433 : IVec S16 32) : Prop :=
  (∀ a x, ((![v433] : Fin 1 → IVec S16 32) a x).toNat < S6144.size a)
theorem k0_idx6_inb : ∀ (v433 : IVec S16 32) (k0_hw6 : k0_chk6 v433), ∀ a x, ((![v433] : Fin 1 → IVec S16 32) a x).toNat < S6144.size a := fun v433 k0_hw6 => k0_hw6
def k0_off10 (k0_t2 : Fin k0_t2_loop.trips) : Fin 1 → Nat :=
  let c0_i32_137 : BitVec 32 := 0#32
  let c1_i32_138 : BitVec 32 := 1#32
  let arg30 : BitVec 32 := Scf.iv c0_i32_137 c1_i32_138 k0_t2
  let c8_i32_315 : BitVec 32 := 8#32
  let v423 : BitVec 32 := Scalar.muli arg30 c8_i32_315
  let c1_i32_316 : BitVec 32 := 1#32
  let v424 : BitVec 32 := Scalar.addi v423 c1_i32_316
  let c16_i32_320 : BitVec 32 := 16#32
  let v435 : BitVec 32 := Scalar.muli v424 c16_i32_320
  let v436 : Index := Scalar.indexCast v435
  ![v436.toNat]
def k0_off11 (k0_t2 : Fin k0_t2_loop.trips) (c0_i32_324 : BitVec 32) : Fin 1 → Nat :=
  let c0_i32_137 : BitVec 32 := 0#32
  let c1_i32_138 : BitVec 32 := 1#32
  let arg30 : BitVec 32 := Scf.iv c0_i32_137 c1_i32_138 k0_t2
  let c8_i32_315 : BitVec 32 := 8#32
  let v423 : BitVec 32 := Scalar.muli arg30 c8_i32_315
  let c1_i32_316 : BitVec 32 := 1#32
  let v424 : BitVec 32 := Scalar.addi v423 c1_i32_316
  let c16_i32_323 : BitVec 32 := 16#32
  let v444 : BitVec 32 := Scalar.muli v424 c16_i32_323
  let v445 : BitVec 32 := Scalar.addi c0_i32_324 v444
  let v446 : Index := Scalar.indexCast v445
  ![v446.toNat]

def k0_chk7 (v478 : IVec S16 32) : Prop :=
  (∀ a x, ((![v478] : Fin 1 → IVec S16 32) a x).toNat < S6144.size a)
theorem k0_idx7_inb : ∀ (v478 : IVec S16 32) (k0_hw7 : k0_chk7 v478), ∀ a x, ((![v478] : Fin 1 → IVec S16 32) a x).toNat < S6144.size a := fun v478 k0_hw7 => k0_hw7

def k0_chk8 (v481 : IVec S16 32) : Prop :=
  (∀ a x, ((![v481] : Fin 1 → IVec S16 32) a x).toNat < S6144.size a)
theorem k0_idx8_inb : ∀ (v481 : IVec S16 32) (k0_hw8 : k0_chk8 v481), ∀ a x, ((![v481] : Fin 1 → IVec S16 32) a x).toNat < S6144.size a := fun v481 k0_hw8 => k0_hw8

def k0_chk9 (v484 : IVec S16 32) : Prop :=
  (∀ a x, ((![v484] : Fin 1 → IVec S16 32) a x).toNat < S6144.size a)
theorem k0_idx9_inb : ∀ (v484 : IVec S16 32) (k0_hw9 : k0_chk9 v484), ∀ a x, ((![v484] : Fin 1 → IVec S16 32) a x).toNat < S6144.size a := fun v484 k0_hw9 => k0_hw9
def k0_off12 (k0_t2 : Fin k0_t2_loop.trips) : Fin 1 → Nat :=
  let c0_i32_137 : BitVec 32 := 0#32
  let c1_i32_138 : BitVec 32 := 1#32
  let arg30 : BitVec 32 := Scf.iv c0_i32_137 c1_i32_138 k0_t2
  let c8_i32_336 : BitVec 32 := 8#32
  let v474 : BitVec 32 := Scalar.muli arg30 c8_i32_336
  let c2_i32_337 : BitVec 32 := 2#32
  let v475 : BitVec 32 := Scalar.addi v474 c2_i32_337
  let c16_i32_341 : BitVec 32 := 16#32
  let v486 : BitVec 32 := Scalar.muli v475 c16_i32_341
  let v487 : Index := Scalar.indexCast v486
  ![v487.toNat]
def k0_off13 (k0_t2 : Fin k0_t2_loop.trips) (c0_i32_345 : BitVec 32) : Fin 1 → Nat :=
  let c0_i32_137 : BitVec 32 := 0#32
  let c1_i32_138 : BitVec 32 := 1#32
  let arg30 : BitVec 32 := Scf.iv c0_i32_137 c1_i32_138 k0_t2
  let c8_i32_336 : BitVec 32 := 8#32
  let v474 : BitVec 32 := Scalar.muli arg30 c8_i32_336
  let c2_i32_337 : BitVec 32 := 2#32
  let v475 : BitVec 32 := Scalar.addi v474 c2_i32_337
  let c16_i32_344 : BitVec 32 := 16#32
  let v495 : BitVec 32 := Scalar.muli v475 c16_i32_344
  let v496 : BitVec 32 := Scalar.addi c0_i32_345 v495
  let v497 : Index := Scalar.indexCast v496
  ![v497.toNat]

def k0_chk10 (v529 : IVec S16 32) : Prop :=
  (∀ a x, ((![v529] : Fin 1 → IVec S16 32) a x).toNat < S6144.size a)
theorem k0_idx10_inb : ∀ (v529 : IVec S16 32) (k0_hw10 : k0_chk10 v529), ∀ a x, ((![v529] : Fin 1 → IVec S16 32) a x).toNat < S6144.size a := fun v529 k0_hw10 => k0_hw10

def k0_chk11 (v532 : IVec S16 32) : Prop :=
  (∀ a x, ((![v532] : Fin 1 → IVec S16 32) a x).toNat < S6144.size a)
theorem k0_idx11_inb : ∀ (v532 : IVec S16 32) (k0_hw11 : k0_chk11 v532), ∀ a x, ((![v532] : Fin 1 → IVec S16 32) a x).toNat < S6144.size a := fun v532 k0_hw11 => k0_hw11

def k0_chk12 (v535 : IVec S16 32) : Prop :=
  (∀ a x, ((![v535] : Fin 1 → IVec S16 32) a x).toNat < S6144.size a)
theorem k0_idx12_inb : ∀ (v535 : IVec S16 32) (k0_hw12 : k0_chk12 v535), ∀ a x, ((![v535] : Fin 1 → IVec S16 32) a x).toNat < S6144.size a := fun v535 k0_hw12 => k0_hw12
def k0_off14 (k0_t2 : Fin k0_t2_loop.trips) : Fin 1 → Nat :=
  let c0_i32_137 : BitVec 32 := 0#32
  let c1_i32_138 : BitVec 32 := 1#32
  let arg30 : BitVec 32 := Scf.iv c0_i32_137 c1_i32_138 k0_t2
  let c8_i32_357 : BitVec 32 := 8#32
  let v525 : BitVec 32 := Scalar.muli arg30 c8_i32_357
  let c3_i32_358 : BitVec 32 := 3#32
  let v526 : BitVec 32 := Scalar.addi v525 c3_i32_358
  let c16_i32_362 : BitVec 32 := 16#32
  let v537 : BitVec 32 := Scalar.muli v526 c16_i32_362
  let v538 : Index := Scalar.indexCast v537
  ![v538.toNat]
def k0_off15 (k0_t2 : Fin k0_t2_loop.trips) (c0_i32_366 : BitVec 32) : Fin 1 → Nat :=
  let c0_i32_137 : BitVec 32 := 0#32
  let c1_i32_138 : BitVec 32 := 1#32
  let arg30 : BitVec 32 := Scf.iv c0_i32_137 c1_i32_138 k0_t2
  let c8_i32_357 : BitVec 32 := 8#32
  let v525 : BitVec 32 := Scalar.muli arg30 c8_i32_357
  let c3_i32_358 : BitVec 32 := 3#32
  let v526 : BitVec 32 := Scalar.addi v525 c3_i32_358
  let c16_i32_365 : BitVec 32 := 16#32
  let v546 : BitVec 32 := Scalar.muli v526 c16_i32_365
  let v547 : BitVec 32 := Scalar.addi c0_i32_366 v546
  let v548 : Index := Scalar.indexCast v547
  ![v548.toNat]

def k0_chk13 (v580 : IVec S16 32) : Prop :=
  (∀ a x, ((![v580] : Fin 1 → IVec S16 32) a x).toNat < S6144.size a)
theorem k0_idx13_inb : ∀ (v580 : IVec S16 32) (k0_hw13 : k0_chk13 v580), ∀ a x, ((![v580] : Fin 1 → IVec S16 32) a x).toNat < S6144.size a := fun v580 k0_hw13 => k0_hw13

def k0_chk14 (v583 : IVec S16 32) : Prop :=
  (∀ a x, ((![v583] : Fin 1 → IVec S16 32) a x).toNat < S6144.size a)
theorem k0_idx14_inb : ∀ (v583 : IVec S16 32) (k0_hw14 : k0_chk14 v583), ∀ a x, ((![v583] : Fin 1 → IVec S16 32) a x).toNat < S6144.size a := fun v583 k0_hw14 => k0_hw14

def k0_chk15 (v586 : IVec S16 32) : Prop :=
  (∀ a x, ((![v586] : Fin 1 → IVec S16 32) a x).toNat < S6144.size a)
theorem k0_idx15_inb : ∀ (v586 : IVec S16 32) (k0_hw15 : k0_chk15 v586), ∀ a x, ((![v586] : Fin 1 → IVec S16 32) a x).toNat < S6144.size a := fun v586 k0_hw15 => k0_hw15
def k0_off16 (k0_t2 : Fin k0_t2_loop.trips) : Fin 1 → Nat :=
  let c0_i32_137 : BitVec 32 := 0#32
  let c1_i32_138 : BitVec 32 := 1#32
  let arg30 : BitVec 32 := Scf.iv c0_i32_137 c1_i32_138 k0_t2
  let c8_i32_378 : BitVec 32 := 8#32
  let v576 : BitVec 32 := Scalar.muli arg30 c8_i32_378
  let c4_i32_379 : BitVec 32 := 4#32
  let v577 : BitVec 32 := Scalar.addi v576 c4_i32_379
  let c16_i32_383 : BitVec 32 := 16#32
  let v588 : BitVec 32 := Scalar.muli v577 c16_i32_383
  let v589 : Index := Scalar.indexCast v588
  ![v589.toNat]
def k0_off17 (k0_t2 : Fin k0_t2_loop.trips) (c0_i32_387 : BitVec 32) : Fin 1 → Nat :=
  let c0_i32_137 : BitVec 32 := 0#32
  let c1_i32_138 : BitVec 32 := 1#32
  let arg30 : BitVec 32 := Scf.iv c0_i32_137 c1_i32_138 k0_t2
  let c8_i32_378 : BitVec 32 := 8#32
  let v576 : BitVec 32 := Scalar.muli arg30 c8_i32_378
  let c4_i32_379 : BitVec 32 := 4#32
  let v577 : BitVec 32 := Scalar.addi v576 c4_i32_379
  let c16_i32_386 : BitVec 32 := 16#32
  let v597 : BitVec 32 := Scalar.muli v577 c16_i32_386
  let v598 : BitVec 32 := Scalar.addi c0_i32_387 v597
  let v599 : Index := Scalar.indexCast v598
  ![v599.toNat]

def k0_chk16 (v631 : IVec S16 32) : Prop :=
  (∀ a x, ((![v631] : Fin 1 → IVec S16 32) a x).toNat < S6144.size a)
theorem k0_idx16_inb : ∀ (v631 : IVec S16 32) (k0_hw16 : k0_chk16 v631), ∀ a x, ((![v631] : Fin 1 → IVec S16 32) a x).toNat < S6144.size a := fun v631 k0_hw16 => k0_hw16

def k0_chk17 (v634 : IVec S16 32) : Prop :=
  (∀ a x, ((![v634] : Fin 1 → IVec S16 32) a x).toNat < S6144.size a)
theorem k0_idx17_inb : ∀ (v634 : IVec S16 32) (k0_hw17 : k0_chk17 v634), ∀ a x, ((![v634] : Fin 1 → IVec S16 32) a x).toNat < S6144.size a := fun v634 k0_hw17 => k0_hw17

def k0_chk18 (v637 : IVec S16 32) : Prop :=
  (∀ a x, ((![v637] : Fin 1 → IVec S16 32) a x).toNat < S6144.size a)
theorem k0_idx18_inb : ∀ (v637 : IVec S16 32) (k0_hw18 : k0_chk18 v637), ∀ a x, ((![v637] : Fin 1 → IVec S16 32) a x).toNat < S6144.size a := fun v637 k0_hw18 => k0_hw18
def k0_off18 (k0_t2 : Fin k0_t2_loop.trips) : Fin 1 → Nat :=
  let c0_i32_137 : BitVec 32 := 0#32
  let c1_i32_138 : BitVec 32 := 1#32
  let arg30 : BitVec 32 := Scf.iv c0_i32_137 c1_i32_138 k0_t2
  let c8_i32_399 : BitVec 32 := 8#32
  let v627 : BitVec 32 := Scalar.muli arg30 c8_i32_399
  let c5_i32 : BitVec 32 := 5#32
  let v628 : BitVec 32 := Scalar.addi v627 c5_i32
  let c16_i32_403 : BitVec 32 := 16#32
  let v639 : BitVec 32 := Scalar.muli v628 c16_i32_403
  let v640 : Index := Scalar.indexCast v639
  ![v640.toNat]
def k0_off19 (k0_t2 : Fin k0_t2_loop.trips) (c0_i32_407 : BitVec 32) : Fin 1 → Nat :=
  let c0_i32_137 : BitVec 32 := 0#32
  let c1_i32_138 : BitVec 32 := 1#32
  let arg30 : BitVec 32 := Scf.iv c0_i32_137 c1_i32_138 k0_t2
  let c8_i32_399 : BitVec 32 := 8#32
  let v627 : BitVec 32 := Scalar.muli arg30 c8_i32_399
  let c5_i32 : BitVec 32 := 5#32
  let v628 : BitVec 32 := Scalar.addi v627 c5_i32
  let c16_i32_406 : BitVec 32 := 16#32
  let v648 : BitVec 32 := Scalar.muli v628 c16_i32_406
  let v649 : BitVec 32 := Scalar.addi c0_i32_407 v648
  let v650 : Index := Scalar.indexCast v649
  ![v650.toNat]

def k0_chk19 (v682 : IVec S16 32) : Prop :=
  (∀ a x, ((![v682] : Fin 1 → IVec S16 32) a x).toNat < S6144.size a)
theorem k0_idx19_inb : ∀ (v682 : IVec S16 32) (k0_hw19 : k0_chk19 v682), ∀ a x, ((![v682] : Fin 1 → IVec S16 32) a x).toNat < S6144.size a := fun v682 k0_hw19 => k0_hw19

def k0_chk20 (v685 : IVec S16 32) : Prop :=
  (∀ a x, ((![v685] : Fin 1 → IVec S16 32) a x).toNat < S6144.size a)
theorem k0_idx20_inb : ∀ (v685 : IVec S16 32) (k0_hw20 : k0_chk20 v685), ∀ a x, ((![v685] : Fin 1 → IVec S16 32) a x).toNat < S6144.size a := fun v685 k0_hw20 => k0_hw20

def k0_chk21 (v688 : IVec S16 32) : Prop :=
  (∀ a x, ((![v688] : Fin 1 → IVec S16 32) a x).toNat < S6144.size a)
theorem k0_idx21_inb : ∀ (v688 : IVec S16 32) (k0_hw21 : k0_chk21 v688), ∀ a x, ((![v688] : Fin 1 → IVec S16 32) a x).toNat < S6144.size a := fun v688 k0_hw21 => k0_hw21
def k0_off20 (k0_t2 : Fin k0_t2_loop.trips) : Fin 1 → Nat :=
  let c0_i32_137 : BitVec 32 := 0#32
  let c1_i32_138 : BitVec 32 := 1#32
  let arg30 : BitVec 32 := Scf.iv c0_i32_137 c1_i32_138 k0_t2
  let c8_i32_419 : BitVec 32 := 8#32
  let v678 : BitVec 32 := Scalar.muli arg30 c8_i32_419
  let c6_i32 : BitVec 32 := 6#32
  let v679 : BitVec 32 := Scalar.addi v678 c6_i32
  let c16_i32_423 : BitVec 32 := 16#32
  let v690 : BitVec 32 := Scalar.muli v679 c16_i32_423
  let v691 : Index := Scalar.indexCast v690
  ![v691.toNat]
def k0_off21 (k0_t2 : Fin k0_t2_loop.trips) (c0_i32_427 : BitVec 32) : Fin 1 → Nat :=
  let c0_i32_137 : BitVec 32 := 0#32
  let c1_i32_138 : BitVec 32 := 1#32
  let arg30 : BitVec 32 := Scf.iv c0_i32_137 c1_i32_138 k0_t2
  let c8_i32_419 : BitVec 32 := 8#32
  let v678 : BitVec 32 := Scalar.muli arg30 c8_i32_419
  let c6_i32 : BitVec 32 := 6#32
  let v679 : BitVec 32 := Scalar.addi v678 c6_i32
  let c16_i32_426 : BitVec 32 := 16#32
  let v699 : BitVec 32 := Scalar.muli v679 c16_i32_426
  let v700 : BitVec 32 := Scalar.addi c0_i32_427 v699
  let v701 : Index := Scalar.indexCast v700
  ![v701.toNat]

def k0_chk22 (v733 : IVec S16 32) : Prop :=
  (∀ a x, ((![v733] : Fin 1 → IVec S16 32) a x).toNat < S6144.size a)
theorem k0_idx22_inb : ∀ (v733 : IVec S16 32) (k0_hw22 : k0_chk22 v733), ∀ a x, ((![v733] : Fin 1 → IVec S16 32) a x).toNat < S6144.size a := fun v733 k0_hw22 => k0_hw22

def k0_chk23 (v736 : IVec S16 32) : Prop :=
  (∀ a x, ((![v736] : Fin 1 → IVec S16 32) a x).toNat < S6144.size a)
theorem k0_idx23_inb : ∀ (v736 : IVec S16 32) (k0_hw23 : k0_chk23 v736), ∀ a x, ((![v736] : Fin 1 → IVec S16 32) a x).toNat < S6144.size a := fun v736 k0_hw23 => k0_hw23

def k0_chk24 (v739 : IVec S16 32) : Prop :=
  (∀ a x, ((![v739] : Fin 1 → IVec S16 32) a x).toNat < S6144.size a)
theorem k0_idx24_inb : ∀ (v739 : IVec S16 32) (k0_hw24 : k0_chk24 v739), ∀ a x, ((![v739] : Fin 1 → IVec S16 32) a x).toNat < S6144.size a := fun v739 k0_hw24 => k0_hw24
def k0_off22 (k0_t2 : Fin k0_t2_loop.trips) : Fin 1 → Nat :=
  let c0_i32_137 : BitVec 32 := 0#32
  let c1_i32_138 : BitVec 32 := 1#32
  let arg30 : BitVec 32 := Scf.iv c0_i32_137 c1_i32_138 k0_t2
  let c8_i32_439 : BitVec 32 := 8#32
  let v729 : BitVec 32 := Scalar.muli arg30 c8_i32_439
  let c7_i32 : BitVec 32 := 7#32
  let v730 : BitVec 32 := Scalar.addi v729 c7_i32
  let c16_i32_443 : BitVec 32 := 16#32
  let v741 : BitVec 32 := Scalar.muli v730 c16_i32_443
  let v742 : Index := Scalar.indexCast v741
  ![v742.toNat]
def k0_off23 (k0_t2 : Fin k0_t2_loop.trips) (c0_i32_447 : BitVec 32) : Fin 1 → Nat :=
  let c0_i32_137 : BitVec 32 := 0#32
  let c1_i32_138 : BitVec 32 := 1#32
  let arg30 : BitVec 32 := Scf.iv c0_i32_137 c1_i32_138 k0_t2
  let c8_i32_439 : BitVec 32 := 8#32
  let v729 : BitVec 32 := Scalar.muli arg30 c8_i32_439
  let c7_i32 : BitVec 32 := 7#32
  let v730 : BitVec 32 := Scalar.addi v729 c7_i32
  let c16_i32_446 : BitVec 32 := 16#32
  let v750 : BitVec 32 := Scalar.muli v730 c16_i32_446
  let v751 : BitVec 32 := Scalar.addi c0_i32_447 v750
  let v752 : Index := Scalar.indexCast v751
  ![v752.toNat]
def k0_off24 (i : grid0.Coords) (k0_t1 : Fin k0_t1_loop.trips) (c0_i32_130 : BitVec 32) : Fin 3 → Nat :=
  let c0_i32_140 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_129 : BitVec 32 := 4#32
  let c0_i32_11 : BitVec 32 := 0#32
  let c1_i32_12 : BitVec 32 := 1#32
  let arg29 : BitVec 32 := Scf.iv c0_i32_11 c1_i32_12 k0_t1
  let v176 : BitVec 32 := Scalar.muli c4_i32_129 arg29
  let v177 : BitVec 32 := Scalar.addi v176 c0_i32_130
  let v178 : BitVec 32 := Scalar.addi v2 v177
  let c0_i32_142 : BitVec 32 := 0#32
  ![0, v178.toNat, 0]
def k0_off25 (i : grid0.Coords) (k0_t1 : Fin k0_t1_loop.trips) (c0_i32_130 : BitVec 32) : Fin 3 → Nat :=
  let c1_i32_145 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_129 : BitVec 32 := 4#32
  let c0_i32_11 : BitVec 32 := 0#32
  let c1_i32_12 : BitVec 32 := 1#32
  let arg29 : BitVec 32 := Scf.iv c0_i32_11 c1_i32_12 k0_t1
  let v176 : BitVec 32 := Scalar.muli c4_i32_129 arg29
  let v177 : BitVec 32 := Scalar.addi v176 c0_i32_130
  let v178 : BitVec 32 := Scalar.addi v2 v177
  let c0_i32_147 : BitVec 32 := 0#32
  ![1, v178.toNat, 0]
def k0_off26 (i : grid0.Coords) (k0_t1 : Fin k0_t1_loop.trips) (c0_i32_130 : BitVec 32) : Fin 3 → Nat :=
  let c2_i32_150 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_129 : BitVec 32 := 4#32
  let c0_i32_11 : BitVec 32 := 0#32
  let c1_i32_12 : BitVec 32 := 1#32
  let arg29 : BitVec 32 := Scf.iv c0_i32_11 c1_i32_12 k0_t1
  let v176 : BitVec 32 := Scalar.muli c4_i32_129 arg29
  let v177 : BitVec 32 := Scalar.addi v176 c0_i32_130
  let v178 : BitVec 32 := Scalar.addi v2 v177
  let c0_i32_152 : BitVec 32 := 0#32
  ![2, v178.toNat, 0]
def k0_off27 (i : grid0.Coords) (k0_t1 : Fin k0_t1_loop.trips) (c0_i32_130 : BitVec 32) : Fin 3 → Nat :=
  let c3_i32_155 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_129 : BitVec 32 := 4#32
  let c0_i32_11 : BitVec 32 := 0#32
  let c1_i32_12 : BitVec 32 := 1#32
  let arg29 : BitVec 32 := Scf.iv c0_i32_11 c1_i32_12 k0_t1
  let v176 : BitVec 32 := Scalar.muli c4_i32_129 arg29
  let v177 : BitVec 32 := Scalar.addi v176 c0_i32_130
  let v178 : BitVec 32 := Scalar.addi v2 v177
  let c0_i32_157 : BitVec 32 := 0#32
  ![3, v178.toNat, 0]
def k0_off28 (i : grid0.Coords) (k0_t1 : Fin k0_t1_loop.trips) (c0_i32_130 : BitVec 32) : Fin 3 → Nat :=
  let c4_i32_160 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_129 : BitVec 32 := 4#32
  let c0_i32_11 : BitVec 32 := 0#32
  let c1_i32_12 : BitVec 32 := 1#32
  let arg29 : BitVec 32 := Scf.iv c0_i32_11 c1_i32_12 k0_t1
  let v176 : BitVec 32 := Scalar.muli c4_i32_129 arg29
  let v177 : BitVec 32 := Scalar.addi v176 c0_i32_130
  let v178 : BitVec 32 := Scalar.addi v2 v177
  let c0_i32_162 : BitVec 32 := 0#32
  ![4, v178.toNat, 0]
def k0_off29 (i : grid0.Coords) (k0_t1 : Fin k0_t1_loop.trips) (c0_i32_130 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_129 : BitVec 32 := 4#32
  let c0_i32_11 : BitVec 32 := 0#32
  let c1_i32_12 : BitVec 32 := 1#32
  let arg29 : BitVec 32 := Scf.iv c0_i32_11 c1_i32_12 k0_t1
  let v176 : BitVec 32 := Scalar.muli c4_i32_129 arg29
  let v177 : BitVec 32 := Scalar.addi v176 c0_i32_130
  let v178 : BitVec 32 := Scalar.addi v2 v177
  let c0_i32_165 : BitVec 32 := 0#32
  ![v178.toNat, 0]
def k0_cond2 (k0_t1 : Fin k0_t1_loop.trips) : BitVec 1 :=
  let c4_i32_129 : BitVec 32 := 4#32
  let c0_i32_11 : BitVec 32 := 0#32
  let c1_i32_12 : BitVec 32 := 1#32
  let arg29 : BitVec 32 := Scf.iv c0_i32_11 c1_i32_12 k0_t1
  let v176 : BitVec 32 := Scalar.muli c4_i32_129 arg29
  let c0_i32_130 : BitVec 32 := 0#32
  let v177 : BitVec 32 := Scalar.addi v176 c0_i32_130
  let c4_i32_167 : BitVec 32 := 4#32
  let v221 : BitVec 32 := Scalar.addi v177 c4_i32_167
  let c128_i32_168 : BitVec 32 := 128#32
  let v222 : BitVec 1 := Scalar.cmpi .slt v221 c128_i32_168
  let v223 : BitVec 32 := Scalar.extui v222
  let c0_i32_169 : BitVec 32 := 0#32
  let v224 : BitVec 1 := Scalar.cmpi .ne v223 c0_i32_169
  v224

def k0_off30 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_129 : BitVec 32 := 4#32
  let c0_i32_11 : BitVec 32 := 0#32
  let c1_i32_12 : BitVec 32 := 1#32
  let arg29 : BitVec 32 := Scf.iv c0_i32_11 c1_i32_12 k0_t1
  let v176 : BitVec 32 := Scalar.muli c4_i32_129 arg29
  let c0_i32_130 : BitVec 32 := 0#32
  let v177 : BitVec 32 := Scalar.addi v176 c0_i32_130
  let v178 : BitVec 32 := Scalar.addi v2 v177
  let c4_i32_296 : BitVec 32 := 4#32
  let v372 : BitVec 32 := Scalar.addi v178 c4_i32_296
  let c0_i32_297 : BitVec 32 := 0#32
  ![v372.toNat, 0]
def k0_cond3 (k0_t1 : Fin k0_t1_loop.trips) : BitVec 1 :=
  let c0_i32_11 : BitVec 32 := 0#32
  let c1_i32_12 : BitVec 32 := 1#32
  let arg29 : BitVec 32 := Scf.iv c0_i32_11 c1_i32_12 k0_t1
  let c0_i32_175 : BitVec 32 := 0#32
  let v232 : BitVec 1 := Scalar.cmpi .sgt arg29 c0_i32_175
  let v233 : BitVec 32 := Scalar.extui v232
  let c0_i32_176 : BitVec 32 := 0#32
  let v234 : BitVec 1 := Scalar.cmpi .ne v233 c0_i32_176
  v234

def k0_off31 (i : grid0.Coords) (k0_t1 : Fin k0_t1_loop.trips) : Fin 3 → Nat :=
  let c0_i32_297 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_170 : BitVec 32 := 4#32
  let c0_i32_11 : BitVec 32 := 0#32
  let c1_i32_12 : BitVec 32 := 1#32
  let arg29 : BitVec 32 := Scf.iv c0_i32_11 c1_i32_12 k0_t1
  let v225 : BitVec 32 := Scalar.muli c4_i32_170 arg29
  let c1_i32_171 : BitVec 32 := 1#32
  let v226 : BitVec 32 := Scalar.addi v225 c1_i32_171
  let v227 : BitVec 32 := Scalar.addi v2 v226
  let c4_i32_296 : BitVec 32 := 4#32
  let v372 : BitVec 32 := Scalar.subi v227 c4_i32_296
  let c0_i32_299 : BitVec 32 := 0#32
  ![0, v372.toNat, 0]
def k0_off32 (i : grid0.Coords) (k0_t1 : Fin k0_t1_loop.trips) : Fin 3 → Nat :=
  let c1_i32_302 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_170 : BitVec 32 := 4#32
  let c0_i32_11 : BitVec 32 := 0#32
  let c1_i32_12 : BitVec 32 := 1#32
  let arg29 : BitVec 32 := Scf.iv c0_i32_11 c1_i32_12 k0_t1
  let v225 : BitVec 32 := Scalar.muli c4_i32_170 arg29
  let c1_i32_171 : BitVec 32 := 1#32
  let v226 : BitVec 32 := Scalar.addi v225 c1_i32_171
  let v227 : BitVec 32 := Scalar.addi v2 v226
  let c4_i32_296 : BitVec 32 := 4#32
  let v372 : BitVec 32 := Scalar.subi v227 c4_i32_296
  let c0_i32_304 : BitVec 32 := 0#32
  ![1, v372.toNat, 0]
def k0_off33 (i : grid0.Coords) (k0_t1 : Fin k0_t1_loop.trips) : Fin 3 → Nat :=
  let c2_i32_307 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_170 : BitVec 32 := 4#32
  let c0_i32_11 : BitVec 32 := 0#32
  let c1_i32_12 : BitVec 32 := 1#32
  let arg29 : BitVec 32 := Scf.iv c0_i32_11 c1_i32_12 k0_t1
  let v225 : BitVec 32 := Scalar.muli c4_i32_170 arg29
  let c1_i32_171 : BitVec 32 := 1#32
  let v226 : BitVec 32 := Scalar.addi v225 c1_i32_171
  let v227 : BitVec 32 := Scalar.addi v2 v226
  let c4_i32_296 : BitVec 32 := 4#32
  let v372 : BitVec 32 := Scalar.subi v227 c4_i32_296
  let c0_i32_309 : BitVec 32 := 0#32
  ![2, v372.toNat, 0]
def k0_off34 (i : grid0.Coords) (k0_t1 : Fin k0_t1_loop.trips) : Fin 3 → Nat :=
  let c3_i32_312 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_170 : BitVec 32 := 4#32
  let c0_i32_11 : BitVec 32 := 0#32
  let c1_i32_12 : BitVec 32 := 1#32
  let arg29 : BitVec 32 := Scf.iv c0_i32_11 c1_i32_12 k0_t1
  let v225 : BitVec 32 := Scalar.muli c4_i32_170 arg29
  let c1_i32_171 : BitVec 32 := 1#32
  let v226 : BitVec 32 := Scalar.addi v225 c1_i32_171
  let v227 : BitVec 32 := Scalar.addi v2 v226
  let c4_i32_296 : BitVec 32 := 4#32
  let v372 : BitVec 32 := Scalar.subi v227 c4_i32_296
  let c0_i32_314 : BitVec 32 := 0#32
  ![3, v372.toNat, 0]
def k0_off35 (i : grid0.Coords) (k0_t1 : Fin k0_t1_loop.trips) : Fin 3 → Nat :=
  let c4_i32_317 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_170 : BitVec 32 := 4#32
  let c0_i32_11 : BitVec 32 := 0#32
  let c1_i32_12 : BitVec 32 := 1#32
  let arg29 : BitVec 32 := Scf.iv c0_i32_11 c1_i32_12 k0_t1
  let v225 : BitVec 32 := Scalar.muli c4_i32_170 arg29
  let c1_i32_171 : BitVec 32 := 1#32
  let v226 : BitVec 32 := Scalar.addi v225 c1_i32_171
  let v227 : BitVec 32 := Scalar.addi v2 v226
  let c4_i32_296 : BitVec 32 := 4#32
  let v372 : BitVec 32 := Scalar.subi v227 c4_i32_296
  let c0_i32_319 : BitVec 32 := 0#32
  ![4, v372.toNat, 0]
def k0_off36 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_170 : BitVec 32 := 4#32
  let c0_i32_11 : BitVec 32 := 0#32
  let c1_i32_12 : BitVec 32 := 1#32
  let arg29 : BitVec 32 := Scf.iv c0_i32_11 c1_i32_12 k0_t1
  let v225 : BitVec 32 := Scalar.muli c4_i32_170 arg29
  let c1_i32_171 : BitVec 32 := 1#32
  let v226 : BitVec 32 := Scalar.addi v225 c1_i32_171
  let v227 : BitVec 32 := Scalar.addi v2 v226
  let c4_i32_296 : BitVec 32 := 4#32
  let v372 : BitVec 32 := Scalar.subi v227 c4_i32_296
  let c0_i32_322 : BitVec 32 := 0#32
  ![v372.toNat, 0]
@[reducible] def k0_t3_loop : Scf.Loop 32 :=
  let c0_i32_178 : BitVec 32 := 0#32
  let c16_i32_179 : BitVec 32 := 16#32
  let v235 : BitVec 32 := Scalar.addi c0_i32_178 c16_i32_179
  let c1_i32_180 : BitVec 32 := 1#32
  ⟨c0_i32_178, v235, c1_i32_180⟩

def k0_chk25 (v376 : IVec S16 32) : Prop :=
  (∀ a x, ((![v376] : Fin 1 → IVec S16 32) a x).toNat < S6144.size a)
theorem k0_idx25_inb : ∀ (v376 : IVec S16 32) (k0_hw25 : k0_chk25 v376), ∀ a x, ((![v376] : Fin 1 → IVec S16 32) a x).toNat < S6144.size a := fun v376 k0_hw25 => k0_hw25

def k0_chk26 (v379 : IVec S16 32) : Prop :=
  (∀ a x, ((![v379] : Fin 1 → IVec S16 32) a x).toNat < S6144.size a)
theorem k0_idx26_inb : ∀ (v379 : IVec S16 32) (k0_hw26 : k0_chk26 v379), ∀ a x, ((![v379] : Fin 1 → IVec S16 32) a x).toNat < S6144.size a := fun v379 k0_hw26 => k0_hw26

def k0_chk27 (v382 : IVec S16 32) : Prop :=
  (∀ a x, ((![v382] : Fin 1 → IVec S16 32) a x).toNat < S6144.size a)
theorem k0_idx27_inb : ∀ (v382 : IVec S16 32) (k0_hw27 : k0_chk27 v382), ∀ a x, ((![v382] : Fin 1 → IVec S16 32) a x).toNat < S6144.size a := fun v382 k0_hw27 => k0_hw27
def k0_off37 (k0_t3 : Fin k0_t3_loop.trips) : Fin 1 → Nat :=
  let c0_i32_178 : BitVec 32 := 0#32
  let c1_i32_180 : BitVec 32 := 1#32
  let arg30 : BitVec 32 := Scf.iv c0_i32_178 c1_i32_180 k0_t3
  let c8_i32 : BitVec 32 := 8#32
  let v372 : BitVec 32 := Scalar.muli arg30 c8_i32
  let c0_i32_296 : BitVec 32 := 0#32
  let v373 : BitVec 32 := Scalar.addi v372 c0_i32_296
  let c16_i32_299 : BitVec 32 := 16#32
  let v384 : BitVec 32 := Scalar.muli v373 c16_i32_299
  let v385 : Index := Scalar.indexCast v384
  ![v385.toNat]
def k0_off38 (k0_t3 : Fin k0_t3_loop.trips) (c0_i32_303 : BitVec 32) : Fin 1 → Nat :=
  let c0_i32_178 : BitVec 32 := 0#32
  let c1_i32_180 : BitVec 32 := 1#32
  let arg30 : BitVec 32 := Scf.iv c0_i32_178 c1_i32_180 k0_t3
  let c8_i32 : BitVec 32 := 8#32
  let v372 : BitVec 32 := Scalar.muli arg30 c8_i32
  let c0_i32_296 : BitVec 32 := 0#32
  let v373 : BitVec 32 := Scalar.addi v372 c0_i32_296
  let c16_i32_302 : BitVec 32 := 16#32
  let v393 : BitVec 32 := Scalar.muli v373 c16_i32_302
  let v394 : BitVec 32 := Scalar.addi c0_i32_303 v393
  let v395 : Index := Scalar.indexCast v394
  ![v395.toNat]

def k0_chk28 (v427 : IVec S16 32) : Prop :=
  (∀ a x, ((![v427] : Fin 1 → IVec S16 32) a x).toNat < S6144.size a)
theorem k0_idx28_inb : ∀ (v427 : IVec S16 32) (k0_hw28 : k0_chk28 v427), ∀ a x, ((![v427] : Fin 1 → IVec S16 32) a x).toNat < S6144.size a := fun v427 k0_hw28 => k0_hw28

def k0_chk29 (v430 : IVec S16 32) : Prop :=
  (∀ a x, ((![v430] : Fin 1 → IVec S16 32) a x).toNat < S6144.size a)
theorem k0_idx29_inb : ∀ (v430 : IVec S16 32) (k0_hw29 : k0_chk29 v430), ∀ a x, ((![v430] : Fin 1 → IVec S16 32) a x).toNat < S6144.size a := fun v430 k0_hw29 => k0_hw29

def k0_chk30 (v433 : IVec S16 32) : Prop :=
  (∀ a x, ((![v433] : Fin 1 → IVec S16 32) a x).toNat < S6144.size a)
theorem k0_idx30_inb : ∀ (v433 : IVec S16 32) (k0_hw30 : k0_chk30 v433), ∀ a x, ((![v433] : Fin 1 → IVec S16 32) a x).toNat < S6144.size a := fun v433 k0_hw30 => k0_hw30
def k0_off39 (k0_t3 : Fin k0_t3_loop.trips) : Fin 1 → Nat :=
  let c0_i32_178 : BitVec 32 := 0#32
  let c1_i32_180 : BitVec 32 := 1#32
  let arg30 : BitVec 32 := Scf.iv c0_i32_178 c1_i32_180 k0_t3
  let c8_i32_315 : BitVec 32 := 8#32
  let v423 : BitVec 32 := Scalar.muli arg30 c8_i32_315
  let c1_i32_316 : BitVec 32 := 1#32
  let v424 : BitVec 32 := Scalar.addi v423 c1_i32_316
  let c16_i32_320 : BitVec 32 := 16#32
  let v435 : BitVec 32 := Scalar.muli v424 c16_i32_320
  let v436 : Index := Scalar.indexCast v435
  ![v436.toNat]
def k0_off40 (k0_t3 : Fin k0_t3_loop.trips) (c0_i32_324 : BitVec 32) : Fin 1 → Nat :=
  let c0_i32_178 : BitVec 32 := 0#32
  let c1_i32_180 : BitVec 32 := 1#32
  let arg30 : BitVec 32 := Scf.iv c0_i32_178 c1_i32_180 k0_t3
  let c8_i32_315 : BitVec 32 := 8#32
  let v423 : BitVec 32 := Scalar.muli arg30 c8_i32_315
  let c1_i32_316 : BitVec 32 := 1#32
  let v424 : BitVec 32 := Scalar.addi v423 c1_i32_316
  let c16_i32_323 : BitVec 32 := 16#32
  let v444 : BitVec 32 := Scalar.muli v424 c16_i32_323
  let v445 : BitVec 32 := Scalar.addi c0_i32_324 v444
  let v446 : Index := Scalar.indexCast v445
  ![v446.toNat]

def k0_chk31 (v478 : IVec S16 32) : Prop :=
  (∀ a x, ((![v478] : Fin 1 → IVec S16 32) a x).toNat < S6144.size a)
theorem k0_idx31_inb : ∀ (v478 : IVec S16 32) (k0_hw31 : k0_chk31 v478), ∀ a x, ((![v478] : Fin 1 → IVec S16 32) a x).toNat < S6144.size a := fun v478 k0_hw31 => k0_hw31

def k0_chk32 (v481 : IVec S16 32) : Prop :=
  (∀ a x, ((![v481] : Fin 1 → IVec S16 32) a x).toNat < S6144.size a)
theorem k0_idx32_inb : ∀ (v481 : IVec S16 32) (k0_hw32 : k0_chk32 v481), ∀ a x, ((![v481] : Fin 1 → IVec S16 32) a x).toNat < S6144.size a := fun v481 k0_hw32 => k0_hw32

def k0_chk33 (v484 : IVec S16 32) : Prop :=
  (∀ a x, ((![v484] : Fin 1 → IVec S16 32) a x).toNat < S6144.size a)
theorem k0_idx33_inb : ∀ (v484 : IVec S16 32) (k0_hw33 : k0_chk33 v484), ∀ a x, ((![v484] : Fin 1 → IVec S16 32) a x).toNat < S6144.size a := fun v484 k0_hw33 => k0_hw33
def k0_off41 (k0_t3 : Fin k0_t3_loop.trips) : Fin 1 → Nat :=
  let c0_i32_178 : BitVec 32 := 0#32
  let c1_i32_180 : BitVec 32 := 1#32
  let arg30 : BitVec 32 := Scf.iv c0_i32_178 c1_i32_180 k0_t3
  let c8_i32_336 : BitVec 32 := 8#32
  let v474 : BitVec 32 := Scalar.muli arg30 c8_i32_336
  let c2_i32_337 : BitVec 32 := 2#32
  let v475 : BitVec 32 := Scalar.addi v474 c2_i32_337
  let c16_i32_341 : BitVec 32 := 16#32
  let v486 : BitVec 32 := Scalar.muli v475 c16_i32_341
  let v487 : Index := Scalar.indexCast v486
  ![v487.toNat]
def k0_off42 (k0_t3 : Fin k0_t3_loop.trips) (c0_i32_345 : BitVec 32) : Fin 1 → Nat :=
  let c0_i32_178 : BitVec 32 := 0#32
  let c1_i32_180 : BitVec 32 := 1#32
  let arg30 : BitVec 32 := Scf.iv c0_i32_178 c1_i32_180 k0_t3
  let c8_i32_336 : BitVec 32 := 8#32
  let v474 : BitVec 32 := Scalar.muli arg30 c8_i32_336
  let c2_i32_337 : BitVec 32 := 2#32
  let v475 : BitVec 32 := Scalar.addi v474 c2_i32_337
  let c16_i32_344 : BitVec 32 := 16#32
  let v495 : BitVec 32 := Scalar.muli v475 c16_i32_344
  let v496 : BitVec 32 := Scalar.addi c0_i32_345 v495
  let v497 : Index := Scalar.indexCast v496
  ![v497.toNat]

def k0_chk34 (v529 : IVec S16 32) : Prop :=
  (∀ a x, ((![v529] : Fin 1 → IVec S16 32) a x).toNat < S6144.size a)
theorem k0_idx34_inb : ∀ (v529 : IVec S16 32) (k0_hw34 : k0_chk34 v529), ∀ a x, ((![v529] : Fin 1 → IVec S16 32) a x).toNat < S6144.size a := fun v529 k0_hw34 => k0_hw34

def k0_chk35 (v532 : IVec S16 32) : Prop :=
  (∀ a x, ((![v532] : Fin 1 → IVec S16 32) a x).toNat < S6144.size a)
theorem k0_idx35_inb : ∀ (v532 : IVec S16 32) (k0_hw35 : k0_chk35 v532), ∀ a x, ((![v532] : Fin 1 → IVec S16 32) a x).toNat < S6144.size a := fun v532 k0_hw35 => k0_hw35

def k0_chk36 (v535 : IVec S16 32) : Prop :=
  (∀ a x, ((![v535] : Fin 1 → IVec S16 32) a x).toNat < S6144.size a)
theorem k0_idx36_inb : ∀ (v535 : IVec S16 32) (k0_hw36 : k0_chk36 v535), ∀ a x, ((![v535] : Fin 1 → IVec S16 32) a x).toNat < S6144.size a := fun v535 k0_hw36 => k0_hw36
def k0_off43 (k0_t3 : Fin k0_t3_loop.trips) : Fin 1 → Nat :=
  let c0_i32_178 : BitVec 32 := 0#32
  let c1_i32_180 : BitVec 32 := 1#32
  let arg30 : BitVec 32 := Scf.iv c0_i32_178 c1_i32_180 k0_t3
  let c8_i32_357 : BitVec 32 := 8#32
  let v525 : BitVec 32 := Scalar.muli arg30 c8_i32_357
  let c3_i32_358 : BitVec 32 := 3#32
  let v526 : BitVec 32 := Scalar.addi v525 c3_i32_358
  let c16_i32_362 : BitVec 32 := 16#32
  let v537 : BitVec 32 := Scalar.muli v526 c16_i32_362
  let v538 : Index := Scalar.indexCast v537
  ![v538.toNat]
def k0_off44 (k0_t3 : Fin k0_t3_loop.trips) (c0_i32_366 : BitVec 32) : Fin 1 → Nat :=
  let c0_i32_178 : BitVec 32 := 0#32
  let c1_i32_180 : BitVec 32 := 1#32
  let arg30 : BitVec 32 := Scf.iv c0_i32_178 c1_i32_180 k0_t3
  let c8_i32_357 : BitVec 32 := 8#32
  let v525 : BitVec 32 := Scalar.muli arg30 c8_i32_357
  let c3_i32_358 : BitVec 32 := 3#32
  let v526 : BitVec 32 := Scalar.addi v525 c3_i32_358
  let c16_i32_365 : BitVec 32 := 16#32
  let v546 : BitVec 32 := Scalar.muli v526 c16_i32_365
  let v547 : BitVec 32 := Scalar.addi c0_i32_366 v546
  let v548 : Index := Scalar.indexCast v547
  ![v548.toNat]

def k0_chk37 (v580 : IVec S16 32) : Prop :=
  (∀ a x, ((![v580] : Fin 1 → IVec S16 32) a x).toNat < S6144.size a)
theorem k0_idx37_inb : ∀ (v580 : IVec S16 32) (k0_hw37 : k0_chk37 v580), ∀ a x, ((![v580] : Fin 1 → IVec S16 32) a x).toNat < S6144.size a := fun v580 k0_hw37 => k0_hw37

def k0_chk38 (v583 : IVec S16 32) : Prop :=
  (∀ a x, ((![v583] : Fin 1 → IVec S16 32) a x).toNat < S6144.size a)
theorem k0_idx38_inb : ∀ (v583 : IVec S16 32) (k0_hw38 : k0_chk38 v583), ∀ a x, ((![v583] : Fin 1 → IVec S16 32) a x).toNat < S6144.size a := fun v583 k0_hw38 => k0_hw38

def k0_chk39 (v586 : IVec S16 32) : Prop :=
  (∀ a x, ((![v586] : Fin 1 → IVec S16 32) a x).toNat < S6144.size a)
theorem k0_idx39_inb : ∀ (v586 : IVec S16 32) (k0_hw39 : k0_chk39 v586), ∀ a x, ((![v586] : Fin 1 → IVec S16 32) a x).toNat < S6144.size a := fun v586 k0_hw39 => k0_hw39
def k0_off45 (k0_t3 : Fin k0_t3_loop.trips) : Fin 1 → Nat :=
  let c0_i32_178 : BitVec 32 := 0#32
  let c1_i32_180 : BitVec 32 := 1#32
  let arg30 : BitVec 32 := Scf.iv c0_i32_178 c1_i32_180 k0_t3
  let c8_i32_378 : BitVec 32 := 8#32
  let v576 : BitVec 32 := Scalar.muli arg30 c8_i32_378
  let c4_i32_379 : BitVec 32 := 4#32
  let v577 : BitVec 32 := Scalar.addi v576 c4_i32_379
  let c16_i32_383 : BitVec 32 := 16#32
  let v588 : BitVec 32 := Scalar.muli v577 c16_i32_383
  let v589 : Index := Scalar.indexCast v588
  ![v589.toNat]
def k0_off46 (k0_t3 : Fin k0_t3_loop.trips) (c0_i32_387 : BitVec 32) : Fin 1 → Nat :=
  let c0_i32_178 : BitVec 32 := 0#32
  let c1_i32_180 : BitVec 32 := 1#32
  let arg30 : BitVec 32 := Scf.iv c0_i32_178 c1_i32_180 k0_t3
  let c8_i32_378 : BitVec 32 := 8#32
  let v576 : BitVec 32 := Scalar.muli arg30 c8_i32_378
  let c4_i32_379 : BitVec 32 := 4#32
  let v577 : BitVec 32 := Scalar.addi v576 c4_i32_379
  let c16_i32_386 : BitVec 32 := 16#32
  let v597 : BitVec 32 := Scalar.muli v577 c16_i32_386
  let v598 : BitVec 32 := Scalar.addi c0_i32_387 v597
  let v599 : Index := Scalar.indexCast v598
  ![v599.toNat]

def k0_chk40 (v631 : IVec S16 32) : Prop :=
  (∀ a x, ((![v631] : Fin 1 → IVec S16 32) a x).toNat < S6144.size a)
theorem k0_idx40_inb : ∀ (v631 : IVec S16 32) (k0_hw40 : k0_chk40 v631), ∀ a x, ((![v631] : Fin 1 → IVec S16 32) a x).toNat < S6144.size a := fun v631 k0_hw40 => k0_hw40

def k0_chk41 (v634 : IVec S16 32) : Prop :=
  (∀ a x, ((![v634] : Fin 1 → IVec S16 32) a x).toNat < S6144.size a)
theorem k0_idx41_inb : ∀ (v634 : IVec S16 32) (k0_hw41 : k0_chk41 v634), ∀ a x, ((![v634] : Fin 1 → IVec S16 32) a x).toNat < S6144.size a := fun v634 k0_hw41 => k0_hw41

def k0_chk42 (v637 : IVec S16 32) : Prop :=
  (∀ a x, ((![v637] : Fin 1 → IVec S16 32) a x).toNat < S6144.size a)
theorem k0_idx42_inb : ∀ (v637 : IVec S16 32) (k0_hw42 : k0_chk42 v637), ∀ a x, ((![v637] : Fin 1 → IVec S16 32) a x).toNat < S6144.size a := fun v637 k0_hw42 => k0_hw42
def k0_off47 (k0_t3 : Fin k0_t3_loop.trips) : Fin 1 → Nat :=
  let c0_i32_178 : BitVec 32 := 0#32
  let c1_i32_180 : BitVec 32 := 1#32
  let arg30 : BitVec 32 := Scf.iv c0_i32_178 c1_i32_180 k0_t3
  let c8_i32_399 : BitVec 32 := 8#32
  let v627 : BitVec 32 := Scalar.muli arg30 c8_i32_399
  let c5_i32 : BitVec 32 := 5#32
  let v628 : BitVec 32 := Scalar.addi v627 c5_i32
  let c16_i32_403 : BitVec 32 := 16#32
  let v639 : BitVec 32 := Scalar.muli v628 c16_i32_403
  let v640 : Index := Scalar.indexCast v639
  ![v640.toNat]
def k0_off48 (k0_t3 : Fin k0_t3_loop.trips) (c0_i32_407 : BitVec 32) : Fin 1 → Nat :=
  let c0_i32_178 : BitVec 32 := 0#32
  let c1_i32_180 : BitVec 32 := 1#32
  let arg30 : BitVec 32 := Scf.iv c0_i32_178 c1_i32_180 k0_t3
  let c8_i32_399 : BitVec 32 := 8#32
  let v627 : BitVec 32 := Scalar.muli arg30 c8_i32_399
  let c5_i32 : BitVec 32 := 5#32
  let v628 : BitVec 32 := Scalar.addi v627 c5_i32
  let c16_i32_406 : BitVec 32 := 16#32
  let v648 : BitVec 32 := Scalar.muli v628 c16_i32_406
  let v649 : BitVec 32 := Scalar.addi c0_i32_407 v648
  let v650 : Index := Scalar.indexCast v649
  ![v650.toNat]

def k0_chk43 (v682 : IVec S16 32) : Prop :=
  (∀ a x, ((![v682] : Fin 1 → IVec S16 32) a x).toNat < S6144.size a)
theorem k0_idx43_inb : ∀ (v682 : IVec S16 32) (k0_hw43 : k0_chk43 v682), ∀ a x, ((![v682] : Fin 1 → IVec S16 32) a x).toNat < S6144.size a := fun v682 k0_hw43 => k0_hw43

def k0_chk44 (v685 : IVec S16 32) : Prop :=
  (∀ a x, ((![v685] : Fin 1 → IVec S16 32) a x).toNat < S6144.size a)
theorem k0_idx44_inb : ∀ (v685 : IVec S16 32) (k0_hw44 : k0_chk44 v685), ∀ a x, ((![v685] : Fin 1 → IVec S16 32) a x).toNat < S6144.size a := fun v685 k0_hw44 => k0_hw44

def k0_chk45 (v688 : IVec S16 32) : Prop :=
  (∀ a x, ((![v688] : Fin 1 → IVec S16 32) a x).toNat < S6144.size a)
theorem k0_idx45_inb : ∀ (v688 : IVec S16 32) (k0_hw45 : k0_chk45 v688), ∀ a x, ((![v688] : Fin 1 → IVec S16 32) a x).toNat < S6144.size a := fun v688 k0_hw45 => k0_hw45
def k0_off49 (k0_t3 : Fin k0_t3_loop.trips) : Fin 1 → Nat :=
  let c0_i32_178 : BitVec 32 := 0#32
  let c1_i32_180 : BitVec 32 := 1#32
  let arg30 : BitVec 32 := Scf.iv c0_i32_178 c1_i32_180 k0_t3
  let c8_i32_419 : BitVec 32 := 8#32
  let v678 : BitVec 32 := Scalar.muli arg30 c8_i32_419
  let c6_i32 : BitVec 32 := 6#32
  let v679 : BitVec 32 := Scalar.addi v678 c6_i32
  let c16_i32_423 : BitVec 32 := 16#32
  let v690 : BitVec 32 := Scalar.muli v679 c16_i32_423
  let v691 : Index := Scalar.indexCast v690
  ![v691.toNat]
def k0_off50 (k0_t3 : Fin k0_t3_loop.trips) (c0_i32_427 : BitVec 32) : Fin 1 → Nat :=
  let c0_i32_178 : BitVec 32 := 0#32
  let c1_i32_180 : BitVec 32 := 1#32
  let arg30 : BitVec 32 := Scf.iv c0_i32_178 c1_i32_180 k0_t3
  let c8_i32_419 : BitVec 32 := 8#32
  let v678 : BitVec 32 := Scalar.muli arg30 c8_i32_419
  let c6_i32 : BitVec 32 := 6#32
  let v679 : BitVec 32 := Scalar.addi v678 c6_i32
  let c16_i32_426 : BitVec 32 := 16#32
  let v699 : BitVec 32 := Scalar.muli v679 c16_i32_426
  let v700 : BitVec 32 := Scalar.addi c0_i32_427 v699
  let v701 : Index := Scalar.indexCast v700
  ![v701.toNat]

def k0_chk46 (v733 : IVec S16 32) : Prop :=
  (∀ a x, ((![v733] : Fin 1 → IVec S16 32) a x).toNat < S6144.size a)
theorem k0_idx46_inb : ∀ (v733 : IVec S16 32) (k0_hw46 : k0_chk46 v733), ∀ a x, ((![v733] : Fin 1 → IVec S16 32) a x).toNat < S6144.size a := fun v733 k0_hw46 => k0_hw46

def k0_chk47 (v736 : IVec S16 32) : Prop :=
  (∀ a x, ((![v736] : Fin 1 → IVec S16 32) a x).toNat < S6144.size a)
theorem k0_idx47_inb : ∀ (v736 : IVec S16 32) (k0_hw47 : k0_chk47 v736), ∀ a x, ((![v736] : Fin 1 → IVec S16 32) a x).toNat < S6144.size a := fun v736 k0_hw47 => k0_hw47

def k0_chk48 (v739 : IVec S16 32) : Prop :=
  (∀ a x, ((![v739] : Fin 1 → IVec S16 32) a x).toNat < S6144.size a)
theorem k0_idx48_inb : ∀ (v739 : IVec S16 32) (k0_hw48 : k0_chk48 v739), ∀ a x, ((![v739] : Fin 1 → IVec S16 32) a x).toNat < S6144.size a := fun v739 k0_hw48 => k0_hw48
def k0_off51 (k0_t3 : Fin k0_t3_loop.trips) : Fin 1 → Nat :=
  let c0_i32_178 : BitVec 32 := 0#32
  let c1_i32_180 : BitVec 32 := 1#32
  let arg30 : BitVec 32 := Scf.iv c0_i32_178 c1_i32_180 k0_t3
  let c8_i32_439 : BitVec 32 := 8#32
  let v729 : BitVec 32 := Scalar.muli arg30 c8_i32_439
  let c7_i32 : BitVec 32 := 7#32
  let v730 : BitVec 32 := Scalar.addi v729 c7_i32
  let c16_i32_443 : BitVec 32 := 16#32
  let v741 : BitVec 32 := Scalar.muli v730 c16_i32_443
  let v742 : Index := Scalar.indexCast v741
  ![v742.toNat]
def k0_off52 (k0_t3 : Fin k0_t3_loop.trips) (c0_i32_447 : BitVec 32) : Fin 1 → Nat :=
  let c0_i32_178 : BitVec 32 := 0#32
  let c1_i32_180 : BitVec 32 := 1#32
  let arg30 : BitVec 32 := Scf.iv c0_i32_178 c1_i32_180 k0_t3
  let c8_i32_439 : BitVec 32 := 8#32
  let v729 : BitVec 32 := Scalar.muli arg30 c8_i32_439
  let c7_i32 : BitVec 32 := 7#32
  let v730 : BitVec 32 := Scalar.addi v729 c7_i32
  let c16_i32_446 : BitVec 32 := 16#32
  let v750 : BitVec 32 := Scalar.muli v730 c16_i32_446
  let v751 : BitVec 32 := Scalar.addi c0_i32_447 v750
  let v752 : Index := Scalar.indexCast v751
  ![v752.toNat]
def k0_cond4 (k0_t1 : Fin k0_t1_loop.trips) : BitVec 1 :=
  let c4_i32_170 : BitVec 32 := 4#32
  let c0_i32_11 : BitVec 32 := 0#32
  let c1_i32_12 : BitVec 32 := 1#32
  let arg29 : BitVec 32 := Scf.iv c0_i32_11 c1_i32_12 k0_t1
  let v225 : BitVec 32 := Scalar.muli c4_i32_170 arg29
  let c1_i32_171 : BitVec 32 := 1#32
  let v226 : BitVec 32 := Scalar.addi v225 c1_i32_171
  let c4_i32_209 : BitVec 32 := 4#32
  let v270 : BitVec 32 := Scalar.addi v226 c4_i32_209
  let c128_i32_210 : BitVec 32 := 128#32
  let v271 : BitVec 1 := Scalar.cmpi .slt v270 c128_i32_210
  let v272 : BitVec 32 := Scalar.extui v271
  let c0_i32_211 : BitVec 32 := 0#32
  let v273 : BitVec 1 := Scalar.cmpi .ne v272 c0_i32_211
  v273

def k0_off53 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_170 : BitVec 32 := 4#32
  let c0_i32_11 : BitVec 32 := 0#32
  let c1_i32_12 : BitVec 32 := 1#32
  let arg29 : BitVec 32 := Scf.iv c0_i32_11 c1_i32_12 k0_t1
  let v225 : BitVec 32 := Scalar.muli c4_i32_170 arg29
  let c1_i32_171 : BitVec 32 := 1#32
  let v226 : BitVec 32 := Scalar.addi v225 c1_i32_171
  let v227 : BitVec 32 := Scalar.addi v2 v226
  let c4_i32_296 : BitVec 32 := 4#32
  let v372 : BitVec 32 := Scalar.addi v227 c4_i32_296
  let c0_i32_297 : BitVec 32 := 0#32
  ![v372.toNat, 0]
def k0_cond5 (k0_t1 : Fin k0_t1_loop.trips) : BitVec 1 :=
  let c0_i32_11 : BitVec 32 := 0#32
  let c1_i32_12 : BitVec 32 := 1#32
  let arg29 : BitVec 32 := Scf.iv c0_i32_11 c1_i32_12 k0_t1
  let c0_i32_217 : BitVec 32 := 0#32
  let v281 : BitVec 1 := Scalar.cmpi .sgt arg29 c0_i32_217
  let v282 : BitVec 32 := Scalar.extui v281
  let c0_i32_218 : BitVec 32 := 0#32
  let v283 : BitVec 1 := Scalar.cmpi .ne v282 c0_i32_218
  v283

def k0_off54 (i : grid0.Coords) (k0_t1 : Fin k0_t1_loop.trips) : Fin 3 → Nat :=
  let c0_i32_297 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_212 : BitVec 32 := 4#32
  let c0_i32_11 : BitVec 32 := 0#32
  let c1_i32_12 : BitVec 32 := 1#32
  let arg29 : BitVec 32 := Scf.iv c0_i32_11 c1_i32_12 k0_t1
  let v274 : BitVec 32 := Scalar.muli c4_i32_212 arg29
  let c2_i32_213 : BitVec 32 := 2#32
  let v275 : BitVec 32 := Scalar.addi v274 c2_i32_213
  let v276 : BitVec 32 := Scalar.addi v2 v275
  let c4_i32_296 : BitVec 32 := 4#32
  let v372 : BitVec 32 := Scalar.subi v276 c4_i32_296
  let c0_i32_299 : BitVec 32 := 0#32
  ![0, v372.toNat, 0]
def k0_off55 (i : grid0.Coords) (k0_t1 : Fin k0_t1_loop.trips) : Fin 3 → Nat :=
  let c1_i32_302 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_212 : BitVec 32 := 4#32
  let c0_i32_11 : BitVec 32 := 0#32
  let c1_i32_12 : BitVec 32 := 1#32
  let arg29 : BitVec 32 := Scf.iv c0_i32_11 c1_i32_12 k0_t1
  let v274 : BitVec 32 := Scalar.muli c4_i32_212 arg29
  let c2_i32_213 : BitVec 32 := 2#32
  let v275 : BitVec 32 := Scalar.addi v274 c2_i32_213
  let v276 : BitVec 32 := Scalar.addi v2 v275
  let c4_i32_296 : BitVec 32 := 4#32
  let v372 : BitVec 32 := Scalar.subi v276 c4_i32_296
  let c0_i32_304 : BitVec 32 := 0#32
  ![1, v372.toNat, 0]
def k0_off56 (i : grid0.Coords) (k0_t1 : Fin k0_t1_loop.trips) : Fin 3 → Nat :=
  let c2_i32_307 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_212 : BitVec 32 := 4#32
  let c0_i32_11 : BitVec 32 := 0#32
  let c1_i32_12 : BitVec 32 := 1#32
  let arg29 : BitVec 32 := Scf.iv c0_i32_11 c1_i32_12 k0_t1
  let v274 : BitVec 32 := Scalar.muli c4_i32_212 arg29
  let c2_i32_213 : BitVec 32 := 2#32
  let v275 : BitVec 32 := Scalar.addi v274 c2_i32_213
  let v276 : BitVec 32 := Scalar.addi v2 v275
  let c4_i32_296 : BitVec 32 := 4#32
  let v372 : BitVec 32 := Scalar.subi v276 c4_i32_296
  let c0_i32_309 : BitVec 32 := 0#32
  ![2, v372.toNat, 0]
def k0_off57 (i : grid0.Coords) (k0_t1 : Fin k0_t1_loop.trips) : Fin 3 → Nat :=
  let c3_i32_312 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_212 : BitVec 32 := 4#32
  let c0_i32_11 : BitVec 32 := 0#32
  let c1_i32_12 : BitVec 32 := 1#32
  let arg29 : BitVec 32 := Scf.iv c0_i32_11 c1_i32_12 k0_t1
  let v274 : BitVec 32 := Scalar.muli c4_i32_212 arg29
  let c2_i32_213 : BitVec 32 := 2#32
  let v275 : BitVec 32 := Scalar.addi v274 c2_i32_213
  let v276 : BitVec 32 := Scalar.addi v2 v275
  let c4_i32_296 : BitVec 32 := 4#32
  let v372 : BitVec 32 := Scalar.subi v276 c4_i32_296
  let c0_i32_314 : BitVec 32 := 0#32
  ![3, v372.toNat, 0]
def k0_off58 (i : grid0.Coords) (k0_t1 : Fin k0_t1_loop.trips) : Fin 3 → Nat :=
  let c4_i32_317 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_212 : BitVec 32 := 4#32
  let c0_i32_11 : BitVec 32 := 0#32
  let c1_i32_12 : BitVec 32 := 1#32
  let arg29 : BitVec 32 := Scf.iv c0_i32_11 c1_i32_12 k0_t1
  let v274 : BitVec 32 := Scalar.muli c4_i32_212 arg29
  let c2_i32_213 : BitVec 32 := 2#32
  let v275 : BitVec 32 := Scalar.addi v274 c2_i32_213
  let v276 : BitVec 32 := Scalar.addi v2 v275
  let c4_i32_296 : BitVec 32 := 4#32
  let v372 : BitVec 32 := Scalar.subi v276 c4_i32_296
  let c0_i32_319 : BitVec 32 := 0#32
  ![4, v372.toNat, 0]
def k0_off59 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_212 : BitVec 32 := 4#32
  let c0_i32_11 : BitVec 32 := 0#32
  let c1_i32_12 : BitVec 32 := 1#32
  let arg29 : BitVec 32 := Scf.iv c0_i32_11 c1_i32_12 k0_t1
  let v274 : BitVec 32 := Scalar.muli c4_i32_212 arg29
  let c2_i32_213 : BitVec 32 := 2#32
  let v275 : BitVec 32 := Scalar.addi v274 c2_i32_213
  let v276 : BitVec 32 := Scalar.addi v2 v275
  let c4_i32_296 : BitVec 32 := 4#32
  let v372 : BitVec 32 := Scalar.subi v276 c4_i32_296
  let c0_i32_322 : BitVec 32 := 0#32
  ![v372.toNat, 0]
@[reducible] def k0_t4_loop : Scf.Loop 32 :=
  let c0_i32_220 : BitVec 32 := 0#32
  let c16_i32_221 : BitVec 32 := 16#32
  let v284 : BitVec 32 := Scalar.addi c0_i32_220 c16_i32_221
  let c1_i32_222 : BitVec 32 := 1#32
  ⟨c0_i32_220, v284, c1_i32_222⟩

def k0_chk49 (v376 : IVec S16 32) : Prop :=
  (∀ a x, ((![v376] : Fin 1 → IVec S16 32) a x).toNat < S6144.size a)
theorem k0_idx49_inb : ∀ (v376 : IVec S16 32) (k0_hw49 : k0_chk49 v376), ∀ a x, ((![v376] : Fin 1 → IVec S16 32) a x).toNat < S6144.size a := fun v376 k0_hw49 => k0_hw49

def k0_chk50 (v379 : IVec S16 32) : Prop :=
  (∀ a x, ((![v379] : Fin 1 → IVec S16 32) a x).toNat < S6144.size a)
theorem k0_idx50_inb : ∀ (v379 : IVec S16 32) (k0_hw50 : k0_chk50 v379), ∀ a x, ((![v379] : Fin 1 → IVec S16 32) a x).toNat < S6144.size a := fun v379 k0_hw50 => k0_hw50

def k0_chk51 (v382 : IVec S16 32) : Prop :=
  (∀ a x, ((![v382] : Fin 1 → IVec S16 32) a x).toNat < S6144.size a)
theorem k0_idx51_inb : ∀ (v382 : IVec S16 32) (k0_hw51 : k0_chk51 v382), ∀ a x, ((![v382] : Fin 1 → IVec S16 32) a x).toNat < S6144.size a := fun v382 k0_hw51 => k0_hw51
def k0_off60 (k0_t4 : Fin k0_t4_loop.trips) : Fin 1 → Nat :=
  let c0_i32_220 : BitVec 32 := 0#32
  let c1_i32_222 : BitVec 32 := 1#32
  let arg30 : BitVec 32 := Scf.iv c0_i32_220 c1_i32_222 k0_t4
  let c8_i32 : BitVec 32 := 8#32
  let v372 : BitVec 32 := Scalar.muli arg30 c8_i32
  let c0_i32_296 : BitVec 32 := 0#32
  let v373 : BitVec 32 := Scalar.addi v372 c0_i32_296
  let c16_i32_299 : BitVec 32 := 16#32
  let v384 : BitVec 32 := Scalar.muli v373 c16_i32_299
  let v385 : Index := Scalar.indexCast v384
  ![v385.toNat]
def k0_off61 (k0_t4 : Fin k0_t4_loop.trips) (c0_i32_303 : BitVec 32) : Fin 1 → Nat :=
  let c0_i32_220 : BitVec 32 := 0#32
  let c1_i32_222 : BitVec 32 := 1#32
  let arg30 : BitVec 32 := Scf.iv c0_i32_220 c1_i32_222 k0_t4
  let c8_i32 : BitVec 32 := 8#32
  let v372 : BitVec 32 := Scalar.muli arg30 c8_i32
  let c0_i32_296 : BitVec 32 := 0#32
  let v373 : BitVec 32 := Scalar.addi v372 c0_i32_296
  let c16_i32_302 : BitVec 32 := 16#32
  let v393 : BitVec 32 := Scalar.muli v373 c16_i32_302
  let v394 : BitVec 32 := Scalar.addi c0_i32_303 v393
  let v395 : Index := Scalar.indexCast v394
  ![v395.toNat]

def k0_chk52 (v427 : IVec S16 32) : Prop :=
  (∀ a x, ((![v427] : Fin 1 → IVec S16 32) a x).toNat < S6144.size a)
theorem k0_idx52_inb : ∀ (v427 : IVec S16 32) (k0_hw52 : k0_chk52 v427), ∀ a x, ((![v427] : Fin 1 → IVec S16 32) a x).toNat < S6144.size a := fun v427 k0_hw52 => k0_hw52

def k0_chk53 (v430 : IVec S16 32) : Prop :=
  (∀ a x, ((![v430] : Fin 1 → IVec S16 32) a x).toNat < S6144.size a)
theorem k0_idx53_inb : ∀ (v430 : IVec S16 32) (k0_hw53 : k0_chk53 v430), ∀ a x, ((![v430] : Fin 1 → IVec S16 32) a x).toNat < S6144.size a := fun v430 k0_hw53 => k0_hw53

def k0_chk54 (v433 : IVec S16 32) : Prop :=
  (∀ a x, ((![v433] : Fin 1 → IVec S16 32) a x).toNat < S6144.size a)
theorem k0_idx54_inb : ∀ (v433 : IVec S16 32) (k0_hw54 : k0_chk54 v433), ∀ a x, ((![v433] : Fin 1 → IVec S16 32) a x).toNat < S6144.size a := fun v433 k0_hw54 => k0_hw54
def k0_off62 (k0_t4 : Fin k0_t4_loop.trips) : Fin 1 → Nat :=
  let c0_i32_220 : BitVec 32 := 0#32
  let c1_i32_222 : BitVec 32 := 1#32
  let arg30 : BitVec 32 := Scf.iv c0_i32_220 c1_i32_222 k0_t4
  let c8_i32_315 : BitVec 32 := 8#32
  let v423 : BitVec 32 := Scalar.muli arg30 c8_i32_315
  let c1_i32_316 : BitVec 32 := 1#32
  let v424 : BitVec 32 := Scalar.addi v423 c1_i32_316
  let c16_i32_320 : BitVec 32 := 16#32
  let v435 : BitVec 32 := Scalar.muli v424 c16_i32_320
  let v436 : Index := Scalar.indexCast v435
  ![v436.toNat]
def k0_off63 (k0_t4 : Fin k0_t4_loop.trips) (c0_i32_324 : BitVec 32) : Fin 1 → Nat :=
  let c0_i32_220 : BitVec 32 := 0#32
  let c1_i32_222 : BitVec 32 := 1#32
  let arg30 : BitVec 32 := Scf.iv c0_i32_220 c1_i32_222 k0_t4
  let c8_i32_315 : BitVec 32 := 8#32
  let v423 : BitVec 32 := Scalar.muli arg30 c8_i32_315
  let c1_i32_316 : BitVec 32 := 1#32
  let v424 : BitVec 32 := Scalar.addi v423 c1_i32_316
  let c16_i32_323 : BitVec 32 := 16#32
  let v444 : BitVec 32 := Scalar.muli v424 c16_i32_323
  let v445 : BitVec 32 := Scalar.addi c0_i32_324 v444
  let v446 : Index := Scalar.indexCast v445
  ![v446.toNat]

def k0_chk55 (v478 : IVec S16 32) : Prop :=
  (∀ a x, ((![v478] : Fin 1 → IVec S16 32) a x).toNat < S6144.size a)
theorem k0_idx55_inb : ∀ (v478 : IVec S16 32) (k0_hw55 : k0_chk55 v478), ∀ a x, ((![v478] : Fin 1 → IVec S16 32) a x).toNat < S6144.size a := fun v478 k0_hw55 => k0_hw55

def k0_chk56 (v481 : IVec S16 32) : Prop :=
  (∀ a x, ((![v481] : Fin 1 → IVec S16 32) a x).toNat < S6144.size a)
theorem k0_idx56_inb : ∀ (v481 : IVec S16 32) (k0_hw56 : k0_chk56 v481), ∀ a x, ((![v481] : Fin 1 → IVec S16 32) a x).toNat < S6144.size a := fun v481 k0_hw56 => k0_hw56

def k0_chk57 (v484 : IVec S16 32) : Prop :=
  (∀ a x, ((![v484] : Fin 1 → IVec S16 32) a x).toNat < S6144.size a)
theorem k0_idx57_inb : ∀ (v484 : IVec S16 32) (k0_hw57 : k0_chk57 v484), ∀ a x, ((![v484] : Fin 1 → IVec S16 32) a x).toNat < S6144.size a := fun v484 k0_hw57 => k0_hw57
def k0_off64 (k0_t4 : Fin k0_t4_loop.trips) : Fin 1 → Nat :=
  let c0_i32_220 : BitVec 32 := 0#32
  let c1_i32_222 : BitVec 32 := 1#32
  let arg30 : BitVec 32 := Scf.iv c0_i32_220 c1_i32_222 k0_t4
  let c8_i32_336 : BitVec 32 := 8#32
  let v474 : BitVec 32 := Scalar.muli arg30 c8_i32_336
  let c2_i32_337 : BitVec 32 := 2#32
  let v475 : BitVec 32 := Scalar.addi v474 c2_i32_337
  let c16_i32_341 : BitVec 32 := 16#32
  let v486 : BitVec 32 := Scalar.muli v475 c16_i32_341
  let v487 : Index := Scalar.indexCast v486
  ![v487.toNat]
def k0_off65 (k0_t4 : Fin k0_t4_loop.trips) (c0_i32_345 : BitVec 32) : Fin 1 → Nat :=
  let c0_i32_220 : BitVec 32 := 0#32
  let c1_i32_222 : BitVec 32 := 1#32
  let arg30 : BitVec 32 := Scf.iv c0_i32_220 c1_i32_222 k0_t4
  let c8_i32_336 : BitVec 32 := 8#32
  let v474 : BitVec 32 := Scalar.muli arg30 c8_i32_336
  let c2_i32_337 : BitVec 32 := 2#32
  let v475 : BitVec 32 := Scalar.addi v474 c2_i32_337
  let c16_i32_344 : BitVec 32 := 16#32
  let v495 : BitVec 32 := Scalar.muli v475 c16_i32_344
  let v496 : BitVec 32 := Scalar.addi c0_i32_345 v495
  let v497 : Index := Scalar.indexCast v496
  ![v497.toNat]

def k0_chk58 (v529 : IVec S16 32) : Prop :=
  (∀ a x, ((![v529] : Fin 1 → IVec S16 32) a x).toNat < S6144.size a)
theorem k0_idx58_inb : ∀ (v529 : IVec S16 32) (k0_hw58 : k0_chk58 v529), ∀ a x, ((![v529] : Fin 1 → IVec S16 32) a x).toNat < S6144.size a := fun v529 k0_hw58 => k0_hw58

def k0_chk59 (v532 : IVec S16 32) : Prop :=
  (∀ a x, ((![v532] : Fin 1 → IVec S16 32) a x).toNat < S6144.size a)
theorem k0_idx59_inb : ∀ (v532 : IVec S16 32) (k0_hw59 : k0_chk59 v532), ∀ a x, ((![v532] : Fin 1 → IVec S16 32) a x).toNat < S6144.size a := fun v532 k0_hw59 => k0_hw59

def k0_chk60 (v535 : IVec S16 32) : Prop :=
  (∀ a x, ((![v535] : Fin 1 → IVec S16 32) a x).toNat < S6144.size a)
theorem k0_idx60_inb : ∀ (v535 : IVec S16 32) (k0_hw60 : k0_chk60 v535), ∀ a x, ((![v535] : Fin 1 → IVec S16 32) a x).toNat < S6144.size a := fun v535 k0_hw60 => k0_hw60
def k0_off66 (k0_t4 : Fin k0_t4_loop.trips) : Fin 1 → Nat :=
  let c0_i32_220 : BitVec 32 := 0#32
  let c1_i32_222 : BitVec 32 := 1#32
  let arg30 : BitVec 32 := Scf.iv c0_i32_220 c1_i32_222 k0_t4
  let c8_i32_357 : BitVec 32 := 8#32
  let v525 : BitVec 32 := Scalar.muli arg30 c8_i32_357
  let c3_i32_358 : BitVec 32 := 3#32
  let v526 : BitVec 32 := Scalar.addi v525 c3_i32_358
  let c16_i32_362 : BitVec 32 := 16#32
  let v537 : BitVec 32 := Scalar.muli v526 c16_i32_362
  let v538 : Index := Scalar.indexCast v537
  ![v538.toNat]
def k0_off67 (k0_t4 : Fin k0_t4_loop.trips) (c0_i32_366 : BitVec 32) : Fin 1 → Nat :=
  let c0_i32_220 : BitVec 32 := 0#32
  let c1_i32_222 : BitVec 32 := 1#32
  let arg30 : BitVec 32 := Scf.iv c0_i32_220 c1_i32_222 k0_t4
  let c8_i32_357 : BitVec 32 := 8#32
  let v525 : BitVec 32 := Scalar.muli arg30 c8_i32_357
  let c3_i32_358 : BitVec 32 := 3#32
  let v526 : BitVec 32 := Scalar.addi v525 c3_i32_358
  let c16_i32_365 : BitVec 32 := 16#32
  let v546 : BitVec 32 := Scalar.muli v526 c16_i32_365
  let v547 : BitVec 32 := Scalar.addi c0_i32_366 v546
  let v548 : Index := Scalar.indexCast v547
  ![v548.toNat]

def k0_chk61 (v580 : IVec S16 32) : Prop :=
  (∀ a x, ((![v580] : Fin 1 → IVec S16 32) a x).toNat < S6144.size a)
theorem k0_idx61_inb : ∀ (v580 : IVec S16 32) (k0_hw61 : k0_chk61 v580), ∀ a x, ((![v580] : Fin 1 → IVec S16 32) a x).toNat < S6144.size a := fun v580 k0_hw61 => k0_hw61

def k0_chk62 (v583 : IVec S16 32) : Prop :=
  (∀ a x, ((![v583] : Fin 1 → IVec S16 32) a x).toNat < S6144.size a)
theorem k0_idx62_inb : ∀ (v583 : IVec S16 32) (k0_hw62 : k0_chk62 v583), ∀ a x, ((![v583] : Fin 1 → IVec S16 32) a x).toNat < S6144.size a := fun v583 k0_hw62 => k0_hw62

def k0_chk63 (v586 : IVec S16 32) : Prop :=
  (∀ a x, ((![v586] : Fin 1 → IVec S16 32) a x).toNat < S6144.size a)
theorem k0_idx63_inb : ∀ (v586 : IVec S16 32) (k0_hw63 : k0_chk63 v586), ∀ a x, ((![v586] : Fin 1 → IVec S16 32) a x).toNat < S6144.size a := fun v586 k0_hw63 => k0_hw63
def k0_off68 (k0_t4 : Fin k0_t4_loop.trips) : Fin 1 → Nat :=
  let c0_i32_220 : BitVec 32 := 0#32
  let c1_i32_222 : BitVec 32 := 1#32
  let arg30 : BitVec 32 := Scf.iv c0_i32_220 c1_i32_222 k0_t4
  let c8_i32_378 : BitVec 32 := 8#32
  let v576 : BitVec 32 := Scalar.muli arg30 c8_i32_378
  let c4_i32_379 : BitVec 32 := 4#32
  let v577 : BitVec 32 := Scalar.addi v576 c4_i32_379
  let c16_i32_383 : BitVec 32 := 16#32
  let v588 : BitVec 32 := Scalar.muli v577 c16_i32_383
  let v589 : Index := Scalar.indexCast v588
  ![v589.toNat]
def k0_off69 (k0_t4 : Fin k0_t4_loop.trips) (c0_i32_387 : BitVec 32) : Fin 1 → Nat :=
  let c0_i32_220 : BitVec 32 := 0#32
  let c1_i32_222 : BitVec 32 := 1#32
  let arg30 : BitVec 32 := Scf.iv c0_i32_220 c1_i32_222 k0_t4
  let c8_i32_378 : BitVec 32 := 8#32
  let v576 : BitVec 32 := Scalar.muli arg30 c8_i32_378
  let c4_i32_379 : BitVec 32 := 4#32
  let v577 : BitVec 32 := Scalar.addi v576 c4_i32_379
  let c16_i32_386 : BitVec 32 := 16#32
  let v597 : BitVec 32 := Scalar.muli v577 c16_i32_386
  let v598 : BitVec 32 := Scalar.addi c0_i32_387 v597
  let v599 : Index := Scalar.indexCast v598
  ![v599.toNat]

def k0_chk64 (v631 : IVec S16 32) : Prop :=
  (∀ a x, ((![v631] : Fin 1 → IVec S16 32) a x).toNat < S6144.size a)
theorem k0_idx64_inb : ∀ (v631 : IVec S16 32) (k0_hw64 : k0_chk64 v631), ∀ a x, ((![v631] : Fin 1 → IVec S16 32) a x).toNat < S6144.size a := fun v631 k0_hw64 => k0_hw64

def k0_chk65 (v634 : IVec S16 32) : Prop :=
  (∀ a x, ((![v634] : Fin 1 → IVec S16 32) a x).toNat < S6144.size a)
theorem k0_idx65_inb : ∀ (v634 : IVec S16 32) (k0_hw65 : k0_chk65 v634), ∀ a x, ((![v634] : Fin 1 → IVec S16 32) a x).toNat < S6144.size a := fun v634 k0_hw65 => k0_hw65

def k0_chk66 (v637 : IVec S16 32) : Prop :=
  (∀ a x, ((![v637] : Fin 1 → IVec S16 32) a x).toNat < S6144.size a)
theorem k0_idx66_inb : ∀ (v637 : IVec S16 32) (k0_hw66 : k0_chk66 v637), ∀ a x, ((![v637] : Fin 1 → IVec S16 32) a x).toNat < S6144.size a := fun v637 k0_hw66 => k0_hw66
def k0_off70 (k0_t4 : Fin k0_t4_loop.trips) : Fin 1 → Nat :=
  let c0_i32_220 : BitVec 32 := 0#32
  let c1_i32_222 : BitVec 32 := 1#32
  let arg30 : BitVec 32 := Scf.iv c0_i32_220 c1_i32_222 k0_t4
  let c8_i32_399 : BitVec 32 := 8#32
  let v627 : BitVec 32 := Scalar.muli arg30 c8_i32_399
  let c5_i32 : BitVec 32 := 5#32
  let v628 : BitVec 32 := Scalar.addi v627 c5_i32
  let c16_i32_403 : BitVec 32 := 16#32
  let v639 : BitVec 32 := Scalar.muli v628 c16_i32_403
  let v640 : Index := Scalar.indexCast v639
  ![v640.toNat]
def k0_off71 (k0_t4 : Fin k0_t4_loop.trips) (c0_i32_407 : BitVec 32) : Fin 1 → Nat :=
  let c0_i32_220 : BitVec 32 := 0#32
  let c1_i32_222 : BitVec 32 := 1#32
  let arg30 : BitVec 32 := Scf.iv c0_i32_220 c1_i32_222 k0_t4
  let c8_i32_399 : BitVec 32 := 8#32
  let v627 : BitVec 32 := Scalar.muli arg30 c8_i32_399
  let c5_i32 : BitVec 32 := 5#32
  let v628 : BitVec 32 := Scalar.addi v627 c5_i32
  let c16_i32_406 : BitVec 32 := 16#32
  let v648 : BitVec 32 := Scalar.muli v628 c16_i32_406
  let v649 : BitVec 32 := Scalar.addi c0_i32_407 v648
  let v650 : Index := Scalar.indexCast v649
  ![v650.toNat]

def k0_chk67 (v682 : IVec S16 32) : Prop :=
  (∀ a x, ((![v682] : Fin 1 → IVec S16 32) a x).toNat < S6144.size a)
theorem k0_idx67_inb : ∀ (v682 : IVec S16 32) (k0_hw67 : k0_chk67 v682), ∀ a x, ((![v682] : Fin 1 → IVec S16 32) a x).toNat < S6144.size a := fun v682 k0_hw67 => k0_hw67

def k0_chk68 (v685 : IVec S16 32) : Prop :=
  (∀ a x, ((![v685] : Fin 1 → IVec S16 32) a x).toNat < S6144.size a)
theorem k0_idx68_inb : ∀ (v685 : IVec S16 32) (k0_hw68 : k0_chk68 v685), ∀ a x, ((![v685] : Fin 1 → IVec S16 32) a x).toNat < S6144.size a := fun v685 k0_hw68 => k0_hw68

def k0_chk69 (v688 : IVec S16 32) : Prop :=
  (∀ a x, ((![v688] : Fin 1 → IVec S16 32) a x).toNat < S6144.size a)
theorem k0_idx69_inb : ∀ (v688 : IVec S16 32) (k0_hw69 : k0_chk69 v688), ∀ a x, ((![v688] : Fin 1 → IVec S16 32) a x).toNat < S6144.size a := fun v688 k0_hw69 => k0_hw69
def k0_off72 (k0_t4 : Fin k0_t4_loop.trips) : Fin 1 → Nat :=
  let c0_i32_220 : BitVec 32 := 0#32
  let c1_i32_222 : BitVec 32 := 1#32
  let arg30 : BitVec 32 := Scf.iv c0_i32_220 c1_i32_222 k0_t4
  let c8_i32_419 : BitVec 32 := 8#32
  let v678 : BitVec 32 := Scalar.muli arg30 c8_i32_419
  let c6_i32 : BitVec 32 := 6#32
  let v679 : BitVec 32 := Scalar.addi v678 c6_i32
  let c16_i32_423 : BitVec 32 := 16#32
  let v690 : BitVec 32 := Scalar.muli v679 c16_i32_423
  let v691 : Index := Scalar.indexCast v690
  ![v691.toNat]
def k0_off73 (k0_t4 : Fin k0_t4_loop.trips) (c0_i32_427 : BitVec 32) : Fin 1 → Nat :=
  let c0_i32_220 : BitVec 32 := 0#32
  let c1_i32_222 : BitVec 32 := 1#32
  let arg30 : BitVec 32 := Scf.iv c0_i32_220 c1_i32_222 k0_t4
  let c8_i32_419 : BitVec 32 := 8#32
  let v678 : BitVec 32 := Scalar.muli arg30 c8_i32_419
  let c6_i32 : BitVec 32 := 6#32
  let v679 : BitVec 32 := Scalar.addi v678 c6_i32
  let c16_i32_426 : BitVec 32 := 16#32
  let v699 : BitVec 32 := Scalar.muli v679 c16_i32_426
  let v700 : BitVec 32 := Scalar.addi c0_i32_427 v699
  let v701 : Index := Scalar.indexCast v700
  ![v701.toNat]

def k0_chk70 (v733 : IVec S16 32) : Prop :=
  (∀ a x, ((![v733] : Fin 1 → IVec S16 32) a x).toNat < S6144.size a)
theorem k0_idx70_inb : ∀ (v733 : IVec S16 32) (k0_hw70 : k0_chk70 v733), ∀ a x, ((![v733] : Fin 1 → IVec S16 32) a x).toNat < S6144.size a := fun v733 k0_hw70 => k0_hw70

def k0_chk71 (v736 : IVec S16 32) : Prop :=
  (∀ a x, ((![v736] : Fin 1 → IVec S16 32) a x).toNat < S6144.size a)
theorem k0_idx71_inb : ∀ (v736 : IVec S16 32) (k0_hw71 : k0_chk71 v736), ∀ a x, ((![v736] : Fin 1 → IVec S16 32) a x).toNat < S6144.size a := fun v736 k0_hw71 => k0_hw71

def k0_chk72 (v739 : IVec S16 32) : Prop :=
  (∀ a x, ((![v739] : Fin 1 → IVec S16 32) a x).toNat < S6144.size a)
theorem k0_idx72_inb : ∀ (v739 : IVec S16 32) (k0_hw72 : k0_chk72 v739), ∀ a x, ((![v739] : Fin 1 → IVec S16 32) a x).toNat < S6144.size a := fun v739 k0_hw72 => k0_hw72
def k0_off74 (k0_t4 : Fin k0_t4_loop.trips) : Fin 1 → Nat :=
  let c0_i32_220 : BitVec 32 := 0#32
  let c1_i32_222 : BitVec 32 := 1#32
  let arg30 : BitVec 32 := Scf.iv c0_i32_220 c1_i32_222 k0_t4
  let c8_i32_439 : BitVec 32 := 8#32
  let v729 : BitVec 32 := Scalar.muli arg30 c8_i32_439
  let c7_i32 : BitVec 32 := 7#32
  let v730 : BitVec 32 := Scalar.addi v729 c7_i32
  let c16_i32_443 : BitVec 32 := 16#32
  let v741 : BitVec 32 := Scalar.muli v730 c16_i32_443
  let v742 : Index := Scalar.indexCast v741
  ![v742.toNat]
def k0_off75 (k0_t4 : Fin k0_t4_loop.trips) (c0_i32_447 : BitVec 32) : Fin 1 → Nat :=
  let c0_i32_220 : BitVec 32 := 0#32
  let c1_i32_222 : BitVec 32 := 1#32
  let arg30 : BitVec 32 := Scf.iv c0_i32_220 c1_i32_222 k0_t4
  let c8_i32_439 : BitVec 32 := 8#32
  let v729 : BitVec 32 := Scalar.muli arg30 c8_i32_439
  let c7_i32 : BitVec 32 := 7#32
  let v730 : BitVec 32 := Scalar.addi v729 c7_i32
  let c16_i32_446 : BitVec 32 := 16#32
  let v750 : BitVec 32 := Scalar.muli v730 c16_i32_446
  let v751 : BitVec 32 := Scalar.addi c0_i32_447 v750
  let v752 : Index := Scalar.indexCast v751
  ![v752.toNat]
def k0_cond6 (k0_t1 : Fin k0_t1_loop.trips) : BitVec 1 :=
  let c4_i32_212 : BitVec 32 := 4#32
  let c0_i32_11 : BitVec 32 := 0#32
  let c1_i32_12 : BitVec 32 := 1#32
  let arg29 : BitVec 32 := Scf.iv c0_i32_11 c1_i32_12 k0_t1
  let v274 : BitVec 32 := Scalar.muli c4_i32_212 arg29
  let c2_i32_213 : BitVec 32 := 2#32
  let v275 : BitVec 32 := Scalar.addi v274 c2_i32_213
  let c4_i32_251 : BitVec 32 := 4#32
  let v319 : BitVec 32 := Scalar.addi v275 c4_i32_251
  let c128_i32_252 : BitVec 32 := 128#32
  let v320 : BitVec 1 := Scalar.cmpi .slt v319 c128_i32_252
  let v321 : BitVec 32 := Scalar.extui v320
  let c0_i32_253 : BitVec 32 := 0#32
  let v322 : BitVec 1 := Scalar.cmpi .ne v321 c0_i32_253
  v322

def k0_off76 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_212 : BitVec 32 := 4#32
  let c0_i32_11 : BitVec 32 := 0#32
  let c1_i32_12 : BitVec 32 := 1#32
  let arg29 : BitVec 32 := Scf.iv c0_i32_11 c1_i32_12 k0_t1
  let v274 : BitVec 32 := Scalar.muli c4_i32_212 arg29
  let c2_i32_213 : BitVec 32 := 2#32
  let v275 : BitVec 32 := Scalar.addi v274 c2_i32_213
  let v276 : BitVec 32 := Scalar.addi v2 v275
  let c4_i32_296 : BitVec 32 := 4#32
  let v372 : BitVec 32 := Scalar.addi v276 c4_i32_296
  let c0_i32_297 : BitVec 32 := 0#32
  ![v372.toNat, 0]
def k0_cond7 (k0_t1 : Fin k0_t1_loop.trips) : BitVec 1 :=
  let c0_i32_11 : BitVec 32 := 0#32
  let c1_i32_12 : BitVec 32 := 1#32
  let arg29 : BitVec 32 := Scf.iv c0_i32_11 c1_i32_12 k0_t1
  let c0_i32_259 : BitVec 32 := 0#32
  let v330 : BitVec 1 := Scalar.cmpi .sgt arg29 c0_i32_259
  let v331 : BitVec 32 := Scalar.extui v330
  let c0_i32_260 : BitVec 32 := 0#32
  let v332 : BitVec 1 := Scalar.cmpi .ne v331 c0_i32_260
  v332

def k0_off77 (i : grid0.Coords) (k0_t1 : Fin k0_t1_loop.trips) : Fin 3 → Nat :=
  let c0_i32_297 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_254 : BitVec 32 := 4#32
  let c0_i32_11 : BitVec 32 := 0#32
  let c1_i32_12 : BitVec 32 := 1#32
  let arg29 : BitVec 32 := Scf.iv c0_i32_11 c1_i32_12 k0_t1
  let v323 : BitVec 32 := Scalar.muli c4_i32_254 arg29
  let c3_i32_255 : BitVec 32 := 3#32
  let v324 : BitVec 32 := Scalar.addi v323 c3_i32_255
  let v325 : BitVec 32 := Scalar.addi v2 v324
  let c4_i32_296 : BitVec 32 := 4#32
  let v372 : BitVec 32 := Scalar.subi v325 c4_i32_296
  let c0_i32_299 : BitVec 32 := 0#32
  ![0, v372.toNat, 0]
def k0_off78 (i : grid0.Coords) (k0_t1 : Fin k0_t1_loop.trips) : Fin 3 → Nat :=
  let c1_i32_302 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_254 : BitVec 32 := 4#32
  let c0_i32_11 : BitVec 32 := 0#32
  let c1_i32_12 : BitVec 32 := 1#32
  let arg29 : BitVec 32 := Scf.iv c0_i32_11 c1_i32_12 k0_t1
  let v323 : BitVec 32 := Scalar.muli c4_i32_254 arg29
  let c3_i32_255 : BitVec 32 := 3#32
  let v324 : BitVec 32 := Scalar.addi v323 c3_i32_255
  let v325 : BitVec 32 := Scalar.addi v2 v324
  let c4_i32_296 : BitVec 32 := 4#32
  let v372 : BitVec 32 := Scalar.subi v325 c4_i32_296
  let c0_i32_304 : BitVec 32 := 0#32
  ![1, v372.toNat, 0]
def k0_off79 (i : grid0.Coords) (k0_t1 : Fin k0_t1_loop.trips) : Fin 3 → Nat :=
  let c2_i32_307 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_254 : BitVec 32 := 4#32
  let c0_i32_11 : BitVec 32 := 0#32
  let c1_i32_12 : BitVec 32 := 1#32
  let arg29 : BitVec 32 := Scf.iv c0_i32_11 c1_i32_12 k0_t1
  let v323 : BitVec 32 := Scalar.muli c4_i32_254 arg29
  let c3_i32_255 : BitVec 32 := 3#32
  let v324 : BitVec 32 := Scalar.addi v323 c3_i32_255
  let v325 : BitVec 32 := Scalar.addi v2 v324
  let c4_i32_296 : BitVec 32 := 4#32
  let v372 : BitVec 32 := Scalar.subi v325 c4_i32_296
  let c0_i32_309 : BitVec 32 := 0#32
  ![2, v372.toNat, 0]
def k0_off80 (i : grid0.Coords) (k0_t1 : Fin k0_t1_loop.trips) : Fin 3 → Nat :=
  let c3_i32_312 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_254 : BitVec 32 := 4#32
  let c0_i32_11 : BitVec 32 := 0#32
  let c1_i32_12 : BitVec 32 := 1#32
  let arg29 : BitVec 32 := Scf.iv c0_i32_11 c1_i32_12 k0_t1
  let v323 : BitVec 32 := Scalar.muli c4_i32_254 arg29
  let c3_i32_255 : BitVec 32 := 3#32
  let v324 : BitVec 32 := Scalar.addi v323 c3_i32_255
  let v325 : BitVec 32 := Scalar.addi v2 v324
  let c4_i32_296 : BitVec 32 := 4#32
  let v372 : BitVec 32 := Scalar.subi v325 c4_i32_296
  let c0_i32_314 : BitVec 32 := 0#32
  ![3, v372.toNat, 0]
def k0_off81 (i : grid0.Coords) (k0_t1 : Fin k0_t1_loop.trips) : Fin 3 → Nat :=
  let c4_i32_317 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_254 : BitVec 32 := 4#32
  let c0_i32_11 : BitVec 32 := 0#32
  let c1_i32_12 : BitVec 32 := 1#32
  let arg29 : BitVec 32 := Scf.iv c0_i32_11 c1_i32_12 k0_t1
  let v323 : BitVec 32 := Scalar.muli c4_i32_254 arg29
  let c3_i32_255 : BitVec 32 := 3#32
  let v324 : BitVec 32 := Scalar.addi v323 c3_i32_255
  let v325 : BitVec 32 := Scalar.addi v2 v324
  let c4_i32_296 : BitVec 32 := 4#32
  let v372 : BitVec 32 := Scalar.subi v325 c4_i32_296
  let c0_i32_319 : BitVec 32 := 0#32
  ![4, v372.toNat, 0]
def k0_off82 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_254 : BitVec 32 := 4#32
  let c0_i32_11 : BitVec 32 := 0#32
  let c1_i32_12 : BitVec 32 := 1#32
  let arg29 : BitVec 32 := Scf.iv c0_i32_11 c1_i32_12 k0_t1
  let v323 : BitVec 32 := Scalar.muli c4_i32_254 arg29
  let c3_i32_255 : BitVec 32 := 3#32
  let v324 : BitVec 32 := Scalar.addi v323 c3_i32_255
  let v325 : BitVec 32 := Scalar.addi v2 v324
  let c4_i32_296 : BitVec 32 := 4#32
  let v372 : BitVec 32 := Scalar.subi v325 c4_i32_296
  let c0_i32_322 : BitVec 32 := 0#32
  ![v372.toNat, 0]
@[reducible] def k0_t5_loop : Scf.Loop 32 :=
  let c0_i32_262 : BitVec 32 := 0#32
  let c16_i32_263 : BitVec 32 := 16#32
  let v333 : BitVec 32 := Scalar.addi c0_i32_262 c16_i32_263
  let c1_i32_264 : BitVec 32 := 1#32
  ⟨c0_i32_262, v333, c1_i32_264⟩

def k0_chk73 (v376 : IVec S16 32) : Prop :=
  (∀ a x, ((![v376] : Fin 1 → IVec S16 32) a x).toNat < S6144.size a)
theorem k0_idx73_inb : ∀ (v376 : IVec S16 32) (k0_hw73 : k0_chk73 v376), ∀ a x, ((![v376] : Fin 1 → IVec S16 32) a x).toNat < S6144.size a := fun v376 k0_hw73 => k0_hw73

def k0_chk74 (v379 : IVec S16 32) : Prop :=
  (∀ a x, ((![v379] : Fin 1 → IVec S16 32) a x).toNat < S6144.size a)
theorem k0_idx74_inb : ∀ (v379 : IVec S16 32) (k0_hw74 : k0_chk74 v379), ∀ a x, ((![v379] : Fin 1 → IVec S16 32) a x).toNat < S6144.size a := fun v379 k0_hw74 => k0_hw74

def k0_chk75 (v382 : IVec S16 32) : Prop :=
  (∀ a x, ((![v382] : Fin 1 → IVec S16 32) a x).toNat < S6144.size a)
theorem k0_idx75_inb : ∀ (v382 : IVec S16 32) (k0_hw75 : k0_chk75 v382), ∀ a x, ((![v382] : Fin 1 → IVec S16 32) a x).toNat < S6144.size a := fun v382 k0_hw75 => k0_hw75
def k0_off83 (k0_t5 : Fin k0_t5_loop.trips) : Fin 1 → Nat :=
  let c0_i32_262 : BitVec 32 := 0#32
  let c1_i32_264 : BitVec 32 := 1#32
  let arg30 : BitVec 32 := Scf.iv c0_i32_262 c1_i32_264 k0_t5
  let c8_i32 : BitVec 32 := 8#32
  let v372 : BitVec 32 := Scalar.muli arg30 c8_i32
  let c0_i32_296 : BitVec 32 := 0#32
  let v373 : BitVec 32 := Scalar.addi v372 c0_i32_296
  let c16_i32_299 : BitVec 32 := 16#32
  let v384 : BitVec 32 := Scalar.muli v373 c16_i32_299
  let v385 : Index := Scalar.indexCast v384
  ![v385.toNat]
def k0_off84 (k0_t5 : Fin k0_t5_loop.trips) (c0_i32_303 : BitVec 32) : Fin 1 → Nat :=
  let c0_i32_262 : BitVec 32 := 0#32
  let c1_i32_264 : BitVec 32 := 1#32
  let arg30 : BitVec 32 := Scf.iv c0_i32_262 c1_i32_264 k0_t5
  let c8_i32 : BitVec 32 := 8#32
  let v372 : BitVec 32 := Scalar.muli arg30 c8_i32
  let c0_i32_296 : BitVec 32 := 0#32
  let v373 : BitVec 32 := Scalar.addi v372 c0_i32_296
  let c16_i32_302 : BitVec 32 := 16#32
  let v393 : BitVec 32 := Scalar.muli v373 c16_i32_302
  let v394 : BitVec 32 := Scalar.addi c0_i32_303 v393
  let v395 : Index := Scalar.indexCast v394
  ![v395.toNat]

def k0_chk76 (v427 : IVec S16 32) : Prop :=
  (∀ a x, ((![v427] : Fin 1 → IVec S16 32) a x).toNat < S6144.size a)
theorem k0_idx76_inb : ∀ (v427 : IVec S16 32) (k0_hw76 : k0_chk76 v427), ∀ a x, ((![v427] : Fin 1 → IVec S16 32) a x).toNat < S6144.size a := fun v427 k0_hw76 => k0_hw76

def k0_chk77 (v430 : IVec S16 32) : Prop :=
  (∀ a x, ((![v430] : Fin 1 → IVec S16 32) a x).toNat < S6144.size a)
theorem k0_idx77_inb : ∀ (v430 : IVec S16 32) (k0_hw77 : k0_chk77 v430), ∀ a x, ((![v430] : Fin 1 → IVec S16 32) a x).toNat < S6144.size a := fun v430 k0_hw77 => k0_hw77

def k0_chk78 (v433 : IVec S16 32) : Prop :=
  (∀ a x, ((![v433] : Fin 1 → IVec S16 32) a x).toNat < S6144.size a)
theorem k0_idx78_inb : ∀ (v433 : IVec S16 32) (k0_hw78 : k0_chk78 v433), ∀ a x, ((![v433] : Fin 1 → IVec S16 32) a x).toNat < S6144.size a := fun v433 k0_hw78 => k0_hw78
def k0_off85 (k0_t5 : Fin k0_t5_loop.trips) : Fin 1 → Nat :=
  let c0_i32_262 : BitVec 32 := 0#32
  let c1_i32_264 : BitVec 32 := 1#32
  let arg30 : BitVec 32 := Scf.iv c0_i32_262 c1_i32_264 k0_t5
  let c8_i32_315 : BitVec 32 := 8#32
  let v423 : BitVec 32 := Scalar.muli arg30 c8_i32_315
  let c1_i32_316 : BitVec 32 := 1#32
  let v424 : BitVec 32 := Scalar.addi v423 c1_i32_316
  let c16_i32_320 : BitVec 32 := 16#32
  let v435 : BitVec 32 := Scalar.muli v424 c16_i32_320
  let v436 : Index := Scalar.indexCast v435
  ![v436.toNat]
def k0_off86 (k0_t5 : Fin k0_t5_loop.trips) (c0_i32_324 : BitVec 32) : Fin 1 → Nat :=
  let c0_i32_262 : BitVec 32 := 0#32
  let c1_i32_264 : BitVec 32 := 1#32
  let arg30 : BitVec 32 := Scf.iv c0_i32_262 c1_i32_264 k0_t5
  let c8_i32_315 : BitVec 32 := 8#32
  let v423 : BitVec 32 := Scalar.muli arg30 c8_i32_315
  let c1_i32_316 : BitVec 32 := 1#32
  let v424 : BitVec 32 := Scalar.addi v423 c1_i32_316
  let c16_i32_323 : BitVec 32 := 16#32
  let v444 : BitVec 32 := Scalar.muli v424 c16_i32_323
  let v445 : BitVec 32 := Scalar.addi c0_i32_324 v444
  let v446 : Index := Scalar.indexCast v445
  ![v446.toNat]

def k0_chk79 (v478 : IVec S16 32) : Prop :=
  (∀ a x, ((![v478] : Fin 1 → IVec S16 32) a x).toNat < S6144.size a)
theorem k0_idx79_inb : ∀ (v478 : IVec S16 32) (k0_hw79 : k0_chk79 v478), ∀ a x, ((![v478] : Fin 1 → IVec S16 32) a x).toNat < S6144.size a := fun v478 k0_hw79 => k0_hw79

def k0_chk80 (v481 : IVec S16 32) : Prop :=
  (∀ a x, ((![v481] : Fin 1 → IVec S16 32) a x).toNat < S6144.size a)
theorem k0_idx80_inb : ∀ (v481 : IVec S16 32) (k0_hw80 : k0_chk80 v481), ∀ a x, ((![v481] : Fin 1 → IVec S16 32) a x).toNat < S6144.size a := fun v481 k0_hw80 => k0_hw80

def k0_chk81 (v484 : IVec S16 32) : Prop :=
  (∀ a x, ((![v484] : Fin 1 → IVec S16 32) a x).toNat < S6144.size a)
theorem k0_idx81_inb : ∀ (v484 : IVec S16 32) (k0_hw81 : k0_chk81 v484), ∀ a x, ((![v484] : Fin 1 → IVec S16 32) a x).toNat < S6144.size a := fun v484 k0_hw81 => k0_hw81
def k0_off87 (k0_t5 : Fin k0_t5_loop.trips) : Fin 1 → Nat :=
  let c0_i32_262 : BitVec 32 := 0#32
  let c1_i32_264 : BitVec 32 := 1#32
  let arg30 : BitVec 32 := Scf.iv c0_i32_262 c1_i32_264 k0_t5
  let c8_i32_336 : BitVec 32 := 8#32
  let v474 : BitVec 32 := Scalar.muli arg30 c8_i32_336
  let c2_i32_337 : BitVec 32 := 2#32
  let v475 : BitVec 32 := Scalar.addi v474 c2_i32_337
  let c16_i32_341 : BitVec 32 := 16#32
  let v486 : BitVec 32 := Scalar.muli v475 c16_i32_341
  let v487 : Index := Scalar.indexCast v486
  ![v487.toNat]
def k0_off88 (k0_t5 : Fin k0_t5_loop.trips) (c0_i32_345 : BitVec 32) : Fin 1 → Nat :=
  let c0_i32_262 : BitVec 32 := 0#32
  let c1_i32_264 : BitVec 32 := 1#32
  let arg30 : BitVec 32 := Scf.iv c0_i32_262 c1_i32_264 k0_t5
  let c8_i32_336 : BitVec 32 := 8#32
  let v474 : BitVec 32 := Scalar.muli arg30 c8_i32_336
  let c2_i32_337 : BitVec 32 := 2#32
  let v475 : BitVec 32 := Scalar.addi v474 c2_i32_337
  let c16_i32_344 : BitVec 32 := 16#32
  let v495 : BitVec 32 := Scalar.muli v475 c16_i32_344
  let v496 : BitVec 32 := Scalar.addi c0_i32_345 v495
  let v497 : Index := Scalar.indexCast v496
  ![v497.toNat]

def k0_chk82 (v529 : IVec S16 32) : Prop :=
  (∀ a x, ((![v529] : Fin 1 → IVec S16 32) a x).toNat < S6144.size a)
theorem k0_idx82_inb : ∀ (v529 : IVec S16 32) (k0_hw82 : k0_chk82 v529), ∀ a x, ((![v529] : Fin 1 → IVec S16 32) a x).toNat < S6144.size a := fun v529 k0_hw82 => k0_hw82

def k0_chk83 (v532 : IVec S16 32) : Prop :=
  (∀ a x, ((![v532] : Fin 1 → IVec S16 32) a x).toNat < S6144.size a)
theorem k0_idx83_inb : ∀ (v532 : IVec S16 32) (k0_hw83 : k0_chk83 v532), ∀ a x, ((![v532] : Fin 1 → IVec S16 32) a x).toNat < S6144.size a := fun v532 k0_hw83 => k0_hw83

def k0_chk84 (v535 : IVec S16 32) : Prop :=
  (∀ a x, ((![v535] : Fin 1 → IVec S16 32) a x).toNat < S6144.size a)
theorem k0_idx84_inb : ∀ (v535 : IVec S16 32) (k0_hw84 : k0_chk84 v535), ∀ a x, ((![v535] : Fin 1 → IVec S16 32) a x).toNat < S6144.size a := fun v535 k0_hw84 => k0_hw84
def k0_off89 (k0_t5 : Fin k0_t5_loop.trips) : Fin 1 → Nat :=
  let c0_i32_262 : BitVec 32 := 0#32
  let c1_i32_264 : BitVec 32 := 1#32
  let arg30 : BitVec 32 := Scf.iv c0_i32_262 c1_i32_264 k0_t5
  let c8_i32_357 : BitVec 32 := 8#32
  let v525 : BitVec 32 := Scalar.muli arg30 c8_i32_357
  let c3_i32_358 : BitVec 32 := 3#32
  let v526 : BitVec 32 := Scalar.addi v525 c3_i32_358
  let c16_i32_362 : BitVec 32 := 16#32
  let v537 : BitVec 32 := Scalar.muli v526 c16_i32_362
  let v538 : Index := Scalar.indexCast v537
  ![v538.toNat]
def k0_off90 (k0_t5 : Fin k0_t5_loop.trips) (c0_i32_366 : BitVec 32) : Fin 1 → Nat :=
  let c0_i32_262 : BitVec 32 := 0#32
  let c1_i32_264 : BitVec 32 := 1#32
  let arg30 : BitVec 32 := Scf.iv c0_i32_262 c1_i32_264 k0_t5
  let c8_i32_357 : BitVec 32 := 8#32
  let v525 : BitVec 32 := Scalar.muli arg30 c8_i32_357
  let c3_i32_358 : BitVec 32 := 3#32
  let v526 : BitVec 32 := Scalar.addi v525 c3_i32_358
  let c16_i32_365 : BitVec 32 := 16#32
  let v546 : BitVec 32 := Scalar.muli v526 c16_i32_365
  let v547 : BitVec 32 := Scalar.addi c0_i32_366 v546
  let v548 : Index := Scalar.indexCast v547
  ![v548.toNat]

def k0_chk85 (v580 : IVec S16 32) : Prop :=
  (∀ a x, ((![v580] : Fin 1 → IVec S16 32) a x).toNat < S6144.size a)
theorem k0_idx85_inb : ∀ (v580 : IVec S16 32) (k0_hw85 : k0_chk85 v580), ∀ a x, ((![v580] : Fin 1 → IVec S16 32) a x).toNat < S6144.size a := fun v580 k0_hw85 => k0_hw85

def k0_chk86 (v583 : IVec S16 32) : Prop :=
  (∀ a x, ((![v583] : Fin 1 → IVec S16 32) a x).toNat < S6144.size a)
theorem k0_idx86_inb : ∀ (v583 : IVec S16 32) (k0_hw86 : k0_chk86 v583), ∀ a x, ((![v583] : Fin 1 → IVec S16 32) a x).toNat < S6144.size a := fun v583 k0_hw86 => k0_hw86

def k0_chk87 (v586 : IVec S16 32) : Prop :=
  (∀ a x, ((![v586] : Fin 1 → IVec S16 32) a x).toNat < S6144.size a)
theorem k0_idx87_inb : ∀ (v586 : IVec S16 32) (k0_hw87 : k0_chk87 v586), ∀ a x, ((![v586] : Fin 1 → IVec S16 32) a x).toNat < S6144.size a := fun v586 k0_hw87 => k0_hw87
def k0_off91 (k0_t5 : Fin k0_t5_loop.trips) : Fin 1 → Nat :=
  let c0_i32_262 : BitVec 32 := 0#32
  let c1_i32_264 : BitVec 32 := 1#32
  let arg30 : BitVec 32 := Scf.iv c0_i32_262 c1_i32_264 k0_t5
  let c8_i32_378 : BitVec 32 := 8#32
  let v576 : BitVec 32 := Scalar.muli arg30 c8_i32_378
  let c4_i32_379 : BitVec 32 := 4#32
  let v577 : BitVec 32 := Scalar.addi v576 c4_i32_379
  let c16_i32_383 : BitVec 32 := 16#32
  let v588 : BitVec 32 := Scalar.muli v577 c16_i32_383
  let v589 : Index := Scalar.indexCast v588
  ![v589.toNat]
def k0_off92 (k0_t5 : Fin k0_t5_loop.trips) (c0_i32_387 : BitVec 32) : Fin 1 → Nat :=
  let c0_i32_262 : BitVec 32 := 0#32
  let c1_i32_264 : BitVec 32 := 1#32
  let arg30 : BitVec 32 := Scf.iv c0_i32_262 c1_i32_264 k0_t5
  let c8_i32_378 : BitVec 32 := 8#32
  let v576 : BitVec 32 := Scalar.muli arg30 c8_i32_378
  let c4_i32_379 : BitVec 32 := 4#32
  let v577 : BitVec 32 := Scalar.addi v576 c4_i32_379
  let c16_i32_386 : BitVec 32 := 16#32
  let v597 : BitVec 32 := Scalar.muli v577 c16_i32_386
  let v598 : BitVec 32 := Scalar.addi c0_i32_387 v597
  let v599 : Index := Scalar.indexCast v598
  ![v599.toNat]

def k0_chk88 (v631 : IVec S16 32) : Prop :=
  (∀ a x, ((![v631] : Fin 1 → IVec S16 32) a x).toNat < S6144.size a)
theorem k0_idx88_inb : ∀ (v631 : IVec S16 32) (k0_hw88 : k0_chk88 v631), ∀ a x, ((![v631] : Fin 1 → IVec S16 32) a x).toNat < S6144.size a := fun v631 k0_hw88 => k0_hw88

def k0_chk89 (v634 : IVec S16 32) : Prop :=
  (∀ a x, ((![v634] : Fin 1 → IVec S16 32) a x).toNat < S6144.size a)
theorem k0_idx89_inb : ∀ (v634 : IVec S16 32) (k0_hw89 : k0_chk89 v634), ∀ a x, ((![v634] : Fin 1 → IVec S16 32) a x).toNat < S6144.size a := fun v634 k0_hw89 => k0_hw89

def k0_chk90 (v637 : IVec S16 32) : Prop :=
  (∀ a x, ((![v637] : Fin 1 → IVec S16 32) a x).toNat < S6144.size a)
theorem k0_idx90_inb : ∀ (v637 : IVec S16 32) (k0_hw90 : k0_chk90 v637), ∀ a x, ((![v637] : Fin 1 → IVec S16 32) a x).toNat < S6144.size a := fun v637 k0_hw90 => k0_hw90
def k0_off93 (k0_t5 : Fin k0_t5_loop.trips) : Fin 1 → Nat :=
  let c0_i32_262 : BitVec 32 := 0#32
  let c1_i32_264 : BitVec 32 := 1#32
  let arg30 : BitVec 32 := Scf.iv c0_i32_262 c1_i32_264 k0_t5
  let c8_i32_399 : BitVec 32 := 8#32
  let v627 : BitVec 32 := Scalar.muli arg30 c8_i32_399
  let c5_i32 : BitVec 32 := 5#32
  let v628 : BitVec 32 := Scalar.addi v627 c5_i32
  let c16_i32_403 : BitVec 32 := 16#32
  let v639 : BitVec 32 := Scalar.muli v628 c16_i32_403
  let v640 : Index := Scalar.indexCast v639
  ![v640.toNat]
def k0_off94 (k0_t5 : Fin k0_t5_loop.trips) (c0_i32_407 : BitVec 32) : Fin 1 → Nat :=
  let c0_i32_262 : BitVec 32 := 0#32
  let c1_i32_264 : BitVec 32 := 1#32
  let arg30 : BitVec 32 := Scf.iv c0_i32_262 c1_i32_264 k0_t5
  let c8_i32_399 : BitVec 32 := 8#32
  let v627 : BitVec 32 := Scalar.muli arg30 c8_i32_399
  let c5_i32 : BitVec 32 := 5#32
  let v628 : BitVec 32 := Scalar.addi v627 c5_i32
  let c16_i32_406 : BitVec 32 := 16#32
  let v648 : BitVec 32 := Scalar.muli v628 c16_i32_406
  let v649 : BitVec 32 := Scalar.addi c0_i32_407 v648
  let v650 : Index := Scalar.indexCast v649
  ![v650.toNat]

def k0_chk91 (v682 : IVec S16 32) : Prop :=
  (∀ a x, ((![v682] : Fin 1 → IVec S16 32) a x).toNat < S6144.size a)
theorem k0_idx91_inb : ∀ (v682 : IVec S16 32) (k0_hw91 : k0_chk91 v682), ∀ a x, ((![v682] : Fin 1 → IVec S16 32) a x).toNat < S6144.size a := fun v682 k0_hw91 => k0_hw91

def k0_chk92 (v685 : IVec S16 32) : Prop :=
  (∀ a x, ((![v685] : Fin 1 → IVec S16 32) a x).toNat < S6144.size a)
theorem k0_idx92_inb : ∀ (v685 : IVec S16 32) (k0_hw92 : k0_chk92 v685), ∀ a x, ((![v685] : Fin 1 → IVec S16 32) a x).toNat < S6144.size a := fun v685 k0_hw92 => k0_hw92

def k0_chk93 (v688 : IVec S16 32) : Prop :=
  (∀ a x, ((![v688] : Fin 1 → IVec S16 32) a x).toNat < S6144.size a)
theorem k0_idx93_inb : ∀ (v688 : IVec S16 32) (k0_hw93 : k0_chk93 v688), ∀ a x, ((![v688] : Fin 1 → IVec S16 32) a x).toNat < S6144.size a := fun v688 k0_hw93 => k0_hw93
def k0_off95 (k0_t5 : Fin k0_t5_loop.trips) : Fin 1 → Nat :=
  let c0_i32_262 : BitVec 32 := 0#32
  let c1_i32_264 : BitVec 32 := 1#32
  let arg30 : BitVec 32 := Scf.iv c0_i32_262 c1_i32_264 k0_t5
  let c8_i32_419 : BitVec 32 := 8#32
  let v678 : BitVec 32 := Scalar.muli arg30 c8_i32_419
  let c6_i32 : BitVec 32 := 6#32
  let v679 : BitVec 32 := Scalar.addi v678 c6_i32
  let c16_i32_423 : BitVec 32 := 16#32
  let v690 : BitVec 32 := Scalar.muli v679 c16_i32_423
  let v691 : Index := Scalar.indexCast v690
  ![v691.toNat]
def k0_off96 (k0_t5 : Fin k0_t5_loop.trips) (c0_i32_427 : BitVec 32) : Fin 1 → Nat :=
  let c0_i32_262 : BitVec 32 := 0#32
  let c1_i32_264 : BitVec 32 := 1#32
  let arg30 : BitVec 32 := Scf.iv c0_i32_262 c1_i32_264 k0_t5
  let c8_i32_419 : BitVec 32 := 8#32
  let v678 : BitVec 32 := Scalar.muli arg30 c8_i32_419
  let c6_i32 : BitVec 32 := 6#32
  let v679 : BitVec 32 := Scalar.addi v678 c6_i32
  let c16_i32_426 : BitVec 32 := 16#32
  let v699 : BitVec 32 := Scalar.muli v679 c16_i32_426
  let v700 : BitVec 32 := Scalar.addi c0_i32_427 v699
  let v701 : Index := Scalar.indexCast v700
  ![v701.toNat]

def k0_chk94 (v733 : IVec S16 32) : Prop :=
  (∀ a x, ((![v733] : Fin 1 → IVec S16 32) a x).toNat < S6144.size a)
theorem k0_idx94_inb : ∀ (v733 : IVec S16 32) (k0_hw94 : k0_chk94 v733), ∀ a x, ((![v733] : Fin 1 → IVec S16 32) a x).toNat < S6144.size a := fun v733 k0_hw94 => k0_hw94

def k0_chk95 (v736 : IVec S16 32) : Prop :=
  (∀ a x, ((![v736] : Fin 1 → IVec S16 32) a x).toNat < S6144.size a)
theorem k0_idx95_inb : ∀ (v736 : IVec S16 32) (k0_hw95 : k0_chk95 v736), ∀ a x, ((![v736] : Fin 1 → IVec S16 32) a x).toNat < S6144.size a := fun v736 k0_hw95 => k0_hw95

def k0_chk96 (v739 : IVec S16 32) : Prop :=
  (∀ a x, ((![v739] : Fin 1 → IVec S16 32) a x).toNat < S6144.size a)
theorem k0_idx96_inb : ∀ (v739 : IVec S16 32) (k0_hw96 : k0_chk96 v739), ∀ a x, ((![v739] : Fin 1 → IVec S16 32) a x).toNat < S6144.size a := fun v739 k0_hw96 => k0_hw96
def k0_off97 (k0_t5 : Fin k0_t5_loop.trips) : Fin 1 → Nat :=
  let c0_i32_262 : BitVec 32 := 0#32
  let c1_i32_264 : BitVec 32 := 1#32
  let arg30 : BitVec 32 := Scf.iv c0_i32_262 c1_i32_264 k0_t5
  let c8_i32_439 : BitVec 32 := 8#32
  let v729 : BitVec 32 := Scalar.muli arg30 c8_i32_439
  let c7_i32 : BitVec 32 := 7#32
  let v730 : BitVec 32 := Scalar.addi v729 c7_i32
  let c16_i32_443 : BitVec 32 := 16#32
  let v741 : BitVec 32 := Scalar.muli v730 c16_i32_443
  let v742 : Index := Scalar.indexCast v741
  ![v742.toNat]
def k0_off98 (k0_t5 : Fin k0_t5_loop.trips) (c0_i32_447 : BitVec 32) : Fin 1 → Nat :=
  let c0_i32_262 : BitVec 32 := 0#32
  let c1_i32_264 : BitVec 32 := 1#32
  let arg30 : BitVec 32 := Scf.iv c0_i32_262 c1_i32_264 k0_t5
  let c8_i32_439 : BitVec 32 := 8#32
  let v729 : BitVec 32 := Scalar.muli arg30 c8_i32_439
  let c7_i32 : BitVec 32 := 7#32
  let v730 : BitVec 32 := Scalar.addi v729 c7_i32
  let c16_i32_446 : BitVec 32 := 16#32
  let v750 : BitVec 32 := Scalar.muli v730 c16_i32_446
  let v751 : BitVec 32 := Scalar.addi c0_i32_447 v750
  let v752 : Index := Scalar.indexCast v751
  ![v752.toNat]
def k0_cond8 (k0_t1 : Fin k0_t1_loop.trips) : BitVec 1 :=
  let c4_i32_254 : BitVec 32 := 4#32
  let c0_i32_11 : BitVec 32 := 0#32
  let c1_i32_12 : BitVec 32 := 1#32
  let arg29 : BitVec 32 := Scf.iv c0_i32_11 c1_i32_12 k0_t1
  let v323 : BitVec 32 := Scalar.muli c4_i32_254 arg29
  let c3_i32_255 : BitVec 32 := 3#32
  let v324 : BitVec 32 := Scalar.addi v323 c3_i32_255
  let c4_i32_293 : BitVec 32 := 4#32
  let v368 : BitVec 32 := Scalar.addi v324 c4_i32_293
  let c128_i32_294 : BitVec 32 := 128#32
  let v369 : BitVec 1 := Scalar.cmpi .slt v368 c128_i32_294
  let v370 : BitVec 32 := Scalar.extui v369
  let c0_i32_295 : BitVec 32 := 0#32
  let v371 : BitVec 1 := Scalar.cmpi .ne v370 c0_i32_295
  v371

def k0_off99 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_254 : BitVec 32 := 4#32
  let c0_i32_11 : BitVec 32 := 0#32
  let c1_i32_12 : BitVec 32 := 1#32
  let arg29 : BitVec 32 := Scf.iv c0_i32_11 c1_i32_12 k0_t1
  let v323 : BitVec 32 := Scalar.muli c4_i32_254 arg29
  let c3_i32_255 : BitVec 32 := 3#32
  let v324 : BitVec 32 := Scalar.addi v323 c3_i32_255
  let v325 : BitVec 32 := Scalar.addi v2 v324
  let c4_i32_296 : BitVec 32 := 4#32
  let v372 : BitVec 32 := Scalar.addi v325 c4_i32_296
  let c0_i32_297 : BitVec 32 := 0#32
  ![v372.toNat, 0]
def k0_off100 (i : grid0.Coords) (c0_i32_15 : BitVec 32) : Fin 3 → Nat :=
  let c0_i32_16 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c128_i32_14 : BitVec 32 := 128#32
  let v28 : BitVec 32 := Scalar.addi v2 c128_i32_14
  let c4_i32 : BitVec 32 := 4#32
  let v29 : BitVec 32 := Scalar.subi v28 c4_i32
  let v30 : BitVec 32 := Scalar.addi v29 c0_i32_15
  let c0_i32_18 : BitVec 32 := 0#32
  ![0, v30.toNat, 0]
def k0_off101 (i : grid0.Coords) (c0_i32_15 : BitVec 32) : Fin 3 → Nat :=
  let c1_i32_21 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c128_i32_14 : BitVec 32 := 128#32
  let v28 : BitVec 32 := Scalar.addi v2 c128_i32_14
  let c4_i32 : BitVec 32 := 4#32
  let v29 : BitVec 32 := Scalar.subi v28 c4_i32
  let v30 : BitVec 32 := Scalar.addi v29 c0_i32_15
  let c0_i32_22 : BitVec 32 := 0#32
  ![1, v30.toNat, 0]
def k0_off102 (i : grid0.Coords) (c0_i32_15 : BitVec 32) : Fin 3 → Nat :=
  let c2_i32_25 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c128_i32_14 : BitVec 32 := 128#32
  let v28 : BitVec 32 := Scalar.addi v2 c128_i32_14
  let c4_i32 : BitVec 32 := 4#32
  let v29 : BitVec 32 := Scalar.subi v28 c4_i32
  let v30 : BitVec 32 := Scalar.addi v29 c0_i32_15
  let c0_i32_26 : BitVec 32 := 0#32
  ![2, v30.toNat, 0]
def k0_off103 (i : grid0.Coords) (c0_i32_15 : BitVec 32) : Fin 3 → Nat :=
  let c3_i32_29 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c128_i32_14 : BitVec 32 := 128#32
  let v28 : BitVec 32 := Scalar.addi v2 c128_i32_14
  let c4_i32 : BitVec 32 := 4#32
  let v29 : BitVec 32 := Scalar.subi v28 c4_i32
  let v30 : BitVec 32 := Scalar.addi v29 c0_i32_15
  let c0_i32_30 : BitVec 32 := 0#32
  ![3, v30.toNat, 0]
def k0_off104 (i : grid0.Coords) (c0_i32_15 : BitVec 32) : Fin 3 → Nat :=
  let c4_i32_33 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c128_i32_14 : BitVec 32 := 128#32
  let v28 : BitVec 32 := Scalar.addi v2 c128_i32_14
  let c4_i32 : BitVec 32 := 4#32
  let v29 : BitVec 32 := Scalar.subi v28 c4_i32
  let v30 : BitVec 32 := Scalar.addi v29 c0_i32_15
  let c0_i32_34 : BitVec 32 := 0#32
  ![4, v30.toNat, 0]
def k0_off105 (i : grid0.Coords) (c0_i32_15 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c128_i32_14 : BitVec 32 := 128#32
  let v28 : BitVec 32 := Scalar.addi v2 c128_i32_14
  let c4_i32 : BitVec 32 := 4#32
  let v29 : BitVec 32 := Scalar.subi v28 c4_i32
  let v30 : BitVec 32 := Scalar.addi v29 c0_i32_15
  let c0_i32_37 : BitVec 32 := 0#32
  ![v30.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x6144 : Shape := ⟨2, ![4096, 6144]⟩
abbrev S2048x2 : Shape := ⟨2, ![2048, 2]⟩
abbrev S4096x2048x3 : Shape := ⟨3, ![4096, 2048, 3]⟩
abbrev S4096x2048x1 : Shape := ⟨3, ![4096, 2048, 1]⟩
abbrev S4096x2048 : Shape := ⟨2, ![4096, 2048]⟩
abbrev S_ : Shape := ⟨0, ![]⟩
abbrev S1x2048x2 : Shape := ⟨3, ![1, 2048, 2]⟩
abbrev S4096x2048x2 : Shape := ⟨3, ![4096, 2048, 2]⟩
abbrev S4096x2048x5 : Shape := ⟨3, ![4096, 2048, 5]⟩

abbrev nBuf : Space → Nat
  | .hbm => 16
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S2048x2, .f32⟩
  | .hbm, ⟨2, _⟩ => ⟨S4096x2048x3, .f32⟩
  | .hbm, ⟨3, _⟩ => ⟨S4096x2048x1, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .i1⟩
  | .hbm, ⟨8, _⟩ => ⟨S1x2048x2, .f32⟩
  | .hbm, ⟨9, _⟩ => ⟨S4096x2048x2, .f32⟩
  | .hbm, ⟨10, _⟩ => ⟨S4096x2048x5, .f32⟩
  | .hbm, ⟨11, _⟩ => ⟨S4096x2048x1, .i1⟩
  | .hbm, ⟨12, _⟩ => ⟨S_, .f32⟩
  | .hbm, ⟨13, _⟩ => ⟨S4096x2048x5, .i1⟩
  | .hbm, ⟨14, _⟩ => ⟨S4096x2048x5, .f32⟩
  | .hbm, ⟨15, _⟩ => ⟨S4096x2048x5, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Program.lean ====
/-
  The tile's program read as what it is: a ring of four slots, each trip of a slot being the same program over that
  slot's buffers and semaphores, and each sixteen-lane group of a slot's inner loop the same program over the group's
  number. The printed body equals this reading by unfolding.
-/
module

public import proofs.«01_k».proof.Defs
public import proofs.«01_k».proof.Proof.Gen.KernelIdeal
public import proofs.«01_k».proof.Proof.Gen.KernelIdeal.Skeleton

@[expose] public section

set_option maxRecDepth 65536

noncomputable section

namespace Cert.Proof.Ring

open Cert.KernelIdeal Cert.KernelIdeal.Gen
open Idealize.ShloMosaic Idealize.SL.Sem

variable {F : FTy → Type} [FloatOps F]

/-- The offset of group `u` of inner trip `k` in a 2048-long row. -/
def gOff (k : Fin k0_t2_loop.trips) (u : BitVec 32) : Fin 1 → Nat :=
  ![(Scalar.indexCast (Scalar.muli (Scalar.addi (Scalar.muli (Scf.iv 0#32 1#32 k) 8#32) u) 16#32)).toNat]

/-- The offset of that group in plane number `c / 2048` of the five staged planes. -/
def gOffC (k : Fin k0_t2_loop.trips) (u c : BitVec 32) : Fin 1 → Nat :=
  ![(Scalar.indexCast (Scalar.addi c (Scalar.muli (Scalar.addi (Scalar.muli (Scf.iv 0#32 1#32 k) 8#32) u) 16#32))).toNat]

theorem gOff_eq : ∀ (k : Fin k0_t2_loop.trips) (u : Fin 8), gOff k (BitVec.ofNat 32 u.val) = ![128 * k.val + 16 * u.val] := by
  decide +kernel

theorem gOffC_eq : ∀ (k : Fin k0_t2_loop.trips) (u : Fin 8) (c : Fin 5),
    gOffC k (BitVec.ofNat 32 u.val) (BitVec.ofNat 32 (2048 * c.val)) = ![2048 * c.val + (128 * k.val + 16 * u.val)] := by
  decide +kernel

theorem gOff_inb (k : Fin k0_t2_loop.trips) (u : Fin 8) : ∀ a, gOff k (BitVec.ofNat 32 u.val) a + S16.size a ≤ S2048.size a := by
  revert k u; decide +kernel

theorem gOffC_inb (k : Fin k0_t2_loop.trips) (u : Fin 8) (c : Fin 5) :
    ∀ a, gOffC k (BitVec.ofNat 32 u.val) (BitVec.ofNat 32 (2048 * c.val)) a + S16.size a ≤ S10240.size a := by
  revert k u c; decide +kernel

/-- The first gather's indices: three times the lane, past the group's start. -/
def gIdx (k : Fin k0_t2_loop.trips) (u : BitVec 32) : IVec S16 32 :=
  addi k0_pay325 (broadcast S16 (Scalar.muli (Scalar.addi (Scalar.muli (Scf.iv 0#32 1#32 k) 8#32) u) 48#32))

/-- One group of sixteen points: gather the three coordinates, load the two encodings, mask by the third coordinate's
    sign, and store the five planes and the mask. -/
def grp {c : Fin τ.nSC} {s : Fin τ.nSub} (xin : Memref sig .scVector .vmem S6144 .f32) (o : Memref sig .scVector .vmem S10240 .f32)
    (mb : Memref sig .scVector .vmem S2048 .i32) (p0 p1 : Memref sig .scVector .vmem S2048 .f32)
    (k : Fin k0_t2_loop.trips) (u : Fin 8) : Prog (TpuEff nD τ sig (Elt F) Λ₀ (.scVector c s)) PUnit := do
  have h1 : k0_chk1 (gIdx k (BitVec.ofNat 32 u.val)) := (← Prog.lift (TpuEff.assume (k0_chk1 (gIdx k (BitVec.ofNat 32 u.val))) (k0_chk1.dec _))).down
  let x0 : Vec F S16 .f32 ← SparseCore.vectorLoadIdx xin ![gIdx k (BitVec.ofNat 32 u.val)] (k0_idx1_inb _ h1) (View.loads_vmem h_S6144)
  have h2 : k0_chk1 (k0_pay2 (gIdx k (BitVec.ofNat 32 u.val))) := (← Prog.lift (TpuEff.assume (k0_chk1 (k0_pay2 (gIdx k (BitVec.ofNat 32 u.val)))) (k0_chk1.dec _))).down
  let x1 : Vec F S16 .f32 ← SparseCore.vectorLoadIdx xin ![k0_pay2 (gIdx k (BitVec.ofNat 32 u.val))] (k0_idx1_inb _ h2) (View.loads_vmem h_S6144)
  have h3 : k0_chk1 (k0_pay3 (gIdx k (BitVec.ofNat 32 u.val))) := (← Prog.lift (TpuEff.assume (k0_chk1 (k0_pay3 (gIdx k (BitVec.ofNat 32 u.val)))) (k0_chk1.dec _))).down
  let x2 : Vec F S16 .f32 ← SparseCore.vectorLoadIdx xin ![k0_pay3 (gIdx k (BitVec.ofNat 32 u.val))] (k0_idx1_inb _ h3) (View.loads_vmem h_S6144)
  let a : Vec F S16 .f32 ← Prog.lift (.load p0 (Rect.unit (s := S2048) (gOff k (BitVec.ofNat 32 u.val)) S16.size (gOff_inb k u)).toLoadRect (View.loadsAt_vmem h_S16))
  let b : Vec F S16 .f32 ← Prog.lift (.load p1 (Rect.unit (s := S2048) (gOff k (BitVec.ofNat 32 u.val)) S16.size (gOff_inb k u)).toLoadRect (View.loadsAt_vmem h_S16))
  let _ : Vec F S16 .f32 ← Prog.lift (.load o (Rect.unit (s := S10240) (gOffC k (BitVec.ofNat 32 u.val) (BitVec.ofNat 32 (2048 * (0 : Fin 5).val))) S16.size (gOffC_inb k u 0)).toLoadRect (View.loadsAt_vmem h_S16))
  Prog.lift (.store o (Rect.unit (s := S10240) (gOffC k (BitVec.ofNat 32 u.val) (BitVec.ofNat 32 (2048 * (0 : Fin 5).val))) S16.size (gOffC_inb k u 0)) (k0_pay5 k0_pay326 x0 x2) Finset.univ (View.stores_vmem_bits_univ h_S16 rfl) (.inl rfl))
  let _ : Vec F S16 .f32 ← Prog.lift (.load o (Rect.unit (s := S10240) (gOffC k (BitVec.ofNat 32 u.val) (BitVec.ofNat 32 (2048 * (1 : Fin 5).val))) S16.size (gOffC_inb k u 1)).toLoadRect (View.loadsAt_vmem h_S16))
  Prog.lift (.store o (Rect.unit (s := S10240) (gOffC k (BitVec.ofNat 32 u.val) (BitVec.ofNat 32 (2048 * (1 : Fin 5).val))) S16.size (gOffC_inb k u 1)) (k0_pay6 k0_pay326 x1 x2) Finset.univ (View.stores_vmem_bits_univ h_S16 rfl) (.inl rfl))
  let _ : Vec F S16 .f32 ← Prog.lift (.load o (Rect.unit (s := S10240) (gOffC k (BitVec.ofNat 32 u.val) (BitVec.ofNat 32 (2048 * (2 : Fin 5).val))) S16.size (gOffC_inb k u 2)).toLoadRect (View.loadsAt_vmem h_S16))
  Prog.lift (.store o (Rect.unit (s := S10240) (gOffC k (BitVec.ofNat 32 u.val) (BitVec.ofNat 32 (2048 * (2 : Fin 5).val))) S16.size (gOffC_inb k u 2)) (k0_pay7 k0_pay326 x2) Finset.univ (View.stores_vmem_bits_univ h_S16 rfl) (.inl rfl))
  let _ : Vec F S16 .f32 ← Prog.lift (.load o (Rect.unit (s := S10240) (gOffC k (BitVec.ofNat 32 u.val) (BitVec.ofNat 32 (2048 * (3 : Fin 5).val))) S16.size (gOffC_inb k u 3)).toLoadRect (View.loadsAt_vmem h_S16))
  Prog.lift (.store o (Rect.unit (s := S10240) (gOffC k (BitVec.ofNat 32 u.val) (BitVec.ofNat 32 (2048 * (3 : Fin 5).val))) S16.size (gOffC_inb k u 3)) (k0_pay8 k0_pay326 x2 a) Finset.univ (View.stores_vmem_bits_univ h_S16 rfl) (.inl rfl))
  let _ : Vec F S16 .f32 ← Prog.lift (.load o (Rect.unit (s := S10240) (gOffC k (BitVec.ofNat 32 u.val) (BitVec.ofNat 32 (2048 * (4 : Fin 5).val))) S16.size (gOffC_inb k u 4)).toLoadRect (View.loadsAt_vmem h_S16))
  Prog.lift (.store o (Rect.unit (s := S10240) (gOffC k (BitVec.ofNat 32 u.val) (BitVec.ofNat 32 (2048 * (4 : Fin 5).val))) S16.size (gOffC_inb k u 4)) (k0_pay9 k0_pay326 b (k0_pay4 x2)) Finset.univ (View.stores_vmem_bits_univ h_S16 rfl) (.inl rfl))
  let _ : Vec F S16 .i32 ← Prog.lift (.load mb (Rect.unit (s := S2048) (gOff k (BitVec.ofNat 32 u.val)) S16.size (gOff_inb k u)).toLoadRect (View.loadsAt_vmem h_S16))
  Prog.lift (.store mb (Rect.unit (s := S2048) (gOff k (BitVec.ofNat 32 u.val)) S16.size (gOff_inb k u)) (k0_pay10 (k0_pay4 x2)) Finset.univ (View.stores_vmem_bits_univ h_S16 rfl) (.inl rfl))

/-- An inner trip: its eight groups. -/
def trip {c : Fin τ.nSC} {s : Fin τ.nSub} (xin : Memref sig .scVector .vmem S6144 .f32) (o : Memref sig .scVector .vmem S10240 .f32)
    (mb : Memref sig .scVector .vmem S2048 .i32) (p0 p1 : Memref sig .scVector .vmem S2048 .f32)
    (k : Fin k0_t2_loop.trips) (_ : Unit) : Prog (TpuEff nD τ sig (Elt F) Λ₀ (.scVector c s)) Unit := do
  grp xin o mb p0 p1 k 0
  grp xin o mb p0 p1 k 1
  grp xin o mb p0 p1 k 2
  grp xin o mb p0 p1 k 3
  grp xin o mb p0 p1 k 4
  grp xin o mb p0 p1 k 5
  grp xin o mb p0 p1 k 6
  grp xin o mb p0 p1 k 7
  pure ⟨⟩

/-- The buffers and semaphores of one ring slot: the staged row, the five staged planes, the staged mask, and the two
    semaphores its copies in and out credit. -/
structure Slot where
  xin : Memref sig .scVector .vmem S6144 .f32
  hxin : xin.IsWhole
  o : Memref sig .scVector .vmem S10240 .f32
  ho : o.IsWhole
  mb : Memref sig .scVector .vmem S2048 .i32
  hmb : mb.IsWhole
  si : DmaSems sig S_
  so : DmaSems sig S_

theorem inb_row5 : ∀ a, (![0, 0, 0] : Fin 3 → Nat) a + S1x1x2048.size a ≤ S5x4096x2048.size a := by decide

theorem inb_row6 : ∀ a, (![0, 0] : Fin 2 → Nat) a + S1x2048.size a ≤ S4096x2048.size a := by decide

section Slots

variable {c : Fin τ.nSC} {s : Fin τ.nSub} (S : Slot) (g2 : Memref sig .scVector .hbm S4096x6144 .f32)
  (g5 : Memref sig .scVector .hbm S5x4096x2048 .f32) (g6 : Memref sig .scVector .hbm S4096x2048 .i32)

/-- Start the copy of the row at `off` into the slot. -/
def issueIn (off : Fin 2 → Nat) (hoff : ∀ a, off a + S1x6144.size a ≤ S4096x6144.size a) :
    Prog (TpuEff nD τ sig (Elt F) Λ₀ (.scVector c s)) PUnit :=
  Prog.lift (.enqueueDma ((g2.slice (Rect.unit (s := S4096x6144) off S1x6144.size hoff) (fun _ => rfl)).squeeze S6144 squeezes_S1x6144_S6144) (.here S.xin) (.dma S.si.sem) ((View.wordExact_bits rfl).reshape _ _) S.hxin.wordExact ⟨Or.inl rfl, trivial⟩)

/-- Wait for the slot's row to have arrived. -/
def waitIn : Prog (TpuEff nD τ sig (Elt F) Λ₀ (.scVector c s)) PUnit :=
  Prog.lift (.waitDma2 S.si.sem ((g2.slice (Rect.unit (s := S4096x6144) ![0, 0] S1x6144.size inb_S4096x6144_S1x6144_0_0) (fun _ => rfl)).squeeze S6144 squeezes_S1x6144_S6144) S.xin ((View.wordExact_bits rfl).reshape _ _) S.hxin.wordExact)

/-- Start the slot's six copies out: the five planes' rows and the mask's row. -/
def issueOut (i : grid0.Coords) (t : Fin k0_t1_loop.trips) (b : Fin 4) : Prog (TpuEff nD τ sig (Elt F) Λ₀ (.scVector c s)) PUnit := do
  Prog.lift (.enqueueDma (S.o.slice (Rect.unit (s := S10240) ![0] S2048.size inb_S10240_S2048_0) (fun _ => rfl)) (.here ((g5.slice (Rect.unit (s := S5x4096x2048) (k0_off24 i t (BitVec.ofNat 32 b.val)) S1x1x2048.size (k0_off24_inb i t b)) (fun _ => rfl)).squeeze S2048 squeezes_S1x1x2048_S2048)) (.dma S.so.sem) (View.wordExact_bits rfl) ((View.wordExact_bits rfl).reshape _ _) ⟨Or.inl rfl, trivial⟩)
  Prog.lift (.enqueueDma (S.o.slice (Rect.unit (s := S10240) ![2048] S2048.size inb_S10240_S2048_2048) (fun _ => rfl)) (.here ((g5.slice (Rect.unit (s := S5x4096x2048) (k0_off25 i t (BitVec.ofNat 32 b.val)) S1x1x2048.size (k0_off25_inb i t b)) (fun _ => rfl)).squeeze S2048 squeezes_S1x1x2048_S2048)) (.dma S.so.sem) (View.wordExact_bits rfl) ((View.wordExact_bits rfl).reshape _ _) ⟨Or.inl rfl, trivial⟩)
  Prog.lift (.enqueueDma (S.o.slice (Rect.unit (s := S10240) ![4096] S2048.size inb_S10240_S2048_4096) (fun _ => rfl)) (.here ((g5.slice (Rect.unit (s := S5x4096x2048) (k0_off26 i t (BitVec.ofNat 32 b.val)) S1x1x2048.size (k0_off26_inb i t b)) (fun _ => rfl)).squeeze S2048 squeezes_S1x1x2048_S2048)) (.dma S.so.sem) (View.wordExact_bits rfl) ((View.wordExact_bits rfl).reshape _ _) ⟨Or.inl rfl, trivial⟩)
  Prog.lift (.enqueueDma (S.o.slice (Rect.unit (s := S10240) ![6144] S2048.size inb_S10240_S2048_6144) (fun _ => rfl)) (.here ((g5.slice (Rect.unit (s := S5x4096x2048) (k0_off27 i t (BitVec.ofNat 32 b.val)) S1x1x2048.size (k0_off27_inb i t b)) (fun _ => rfl)).squeeze S2048 squeezes_S1x1x2048_S2048)) (.dma S.so.sem) (View.wordExact_bits rfl) ((View.wordExact_bits rfl).reshape _ _) ⟨Or.inl rfl, trivial⟩)
  Prog.lift (.enqueueDma (S.o.slice (Rect.unit (s := S10240) ![8192] S2048.size inb_S10240_S2048_8192) (fun _ => rfl)) (.here ((g5.slice (Rect.unit (s := S5x4096x2048) (k0_off28 i t (BitVec.ofNat 32 b.val)) S1x1x2048.size (k0_off28_inb i t b)) (fun _ => rfl)).squeeze S2048 squeezes_S1x1x2048_S2048)) (.dma S.so.sem) (View.wordExact_bits rfl) ((View.wordExact_bits rfl).reshape _ _) ⟨Or.inl rfl, trivial⟩)
  Prog.lift (.enqueueDma S.mb (.here ((g6.slice (Rect.unit (s := S4096x2048) (k0_off29 i t (BitVec.ofNat 32 b.val)) S1x2048.size (k0_off29_inb i t b)) (fun _ => rfl)).squeeze S2048 squeezes_S1x2048_S2048)) (.dma S.so.sem) S.hmb.wordExact ((View.wordExact_bits rfl).reshape _ _) ⟨Or.inl rfl, trivial⟩)

/-- Wait for the slot's six copies out. A wait takes its amount from the destination's shape alone, so the row is not named. -/
def waitOut : Prog (TpuEff nD τ sig (Elt F) Λ₀ (.scVector c s)) PUnit := do
  Prog.lift (.waitDma2 S.so.sem (S.o.slice (Rect.unit (s := S10240) ![0] S2048.size inb_S10240_S2048_0) (fun _ => rfl)) ((g5.slice (Rect.unit (s := S5x4096x2048) ![0, 0, 0] S1x1x2048.size inb_row5) (fun _ => rfl)).squeeze S2048 squeezes_S1x1x2048_S2048) (View.wordExact_bits rfl) ((View.wordExact_bits rfl).reshape _ _))
  Prog.lift (.waitDma2 S.so.sem (S.o.slice (Rect.unit (s := S10240) ![2048] S2048.size inb_S10240_S2048_2048) (fun _ => rfl)) ((g5.slice (Rect.unit (s := S5x4096x2048) ![0, 0, 0] S1x1x2048.size inb_row5) (fun _ => rfl)).squeeze S2048 squeezes_S1x1x2048_S2048) (View.wordExact_bits rfl) ((View.wordExact_bits rfl).reshape _ _))
  Prog.lift (.waitDma2 S.so.sem (S.o.slice (Rect.unit (s := S10240) ![4096] S2048.size inb_S10240_S2048_4096) (fun _ => rfl)) ((g5.slice (Rect.unit (s := S5x4096x2048) ![0, 0, 0] S1x1x2048.size inb_row5) (fun _ => rfl)).squeeze S2048 squeezes_S1x1x2048_S2048) (View.wordExact_bits rfl) ((View.wordExact_bits rfl).reshape _ _))
  Prog.lift (.waitDma2 S.so.sem (S.o.slice (Rect.unit (s := S10240) ![6144] S2048.size inb_S10240_S2048_6144) (fun _ => rfl)) ((g5.slice (Rect.unit (s := S5x4096x2048) ![0, 0, 0] S1x1x2048.size inb_row5) (fun _ => rfl)).squeeze S2048 squeezes_S1x1x2048_S2048) (View.wordExact_bits rfl) ((View.wordExact_bits rfl).reshape _ _))
  Prog.lift (.waitDma2 S.so.sem (S.o.slice (Rect.unit (s := S10240) ![8192] S2048.size inb_S10240_S2048_8192) (fun _ => rfl)) ((g5.slice (Rect.unit (s := S5x4096x2048) ![0, 0, 0] S1x1x2048.size inb_row5) (fun _ => rfl)).squeeze S2048 squeezes_S1x1x2048_S2048) (View.wordExact_bits rfl) ((View.wordExact_bits rfl).reshape _ _))
  Prog.lift (.waitDma2 S.so.sem S.mb ((g6.slice (Rect.unit (s := S4096x2048) ![0, 0] S1x2048.size inb_row6) (fun _ => rfl)).squeeze S2048 squeezes_S1x2048_S2048) S.hmb.wordExact ((View.wordExact_bits rfl).reshape _ _))

/-- A turn of the ring at one slot: the row is waited for, the slot's earlier copies out too (when there are any), the row
    is computed, its copies out are started, and the next row of the slot is asked for (when there is one). -/
def turn (p0 p1 : Memref sig .scVector .vmem S2048 .f32) (i : grid0.Coords) (t : Fin k0_t1_loop.trips) (b : Fin 4)
    (cw cn : BitVec 1) (off : Fin 2 → Nat) (hoff : cn = 1#1 → ∀ a, off a + S1x6144.size a ≤ S4096x6144.size a) :
    Prog (TpuEff nD τ sig (Elt F) Λ₀ (.scVector c s)) PUnit := do
  waitIn S g2
  if _h : cw = 1#1 then do
    waitOut S g5 g6
    pure ⟨⟩
  else do
    pure ⟨⟩
  Scf.Loop.for k0_t2_loop k0_t2_ok ⟨⟩ (trip S.xin S.o S.mb p0 p1)
  issueOut S g5 g6 i t b
  if h : cn = 1#1 then do
    issueIn S g2 off (hoff h)
    pure ⟨⟩
  else do
    pure ⟨⟩

end Slots

end Cert.Proof.Ring
-- ==== Proof.Spec.lean ====
/-
  What a row's computation leaves: the five planes and the mask of a point from the row's coordinates and the two
  encodings, and the index arithmetic of the gathers.
-/
module

public import proofs.«01_k».proof.Proof.Program

@[expose] public section

set_option maxRecDepth 65536

noncomputable section

namespace Cert.Proof.Ring

open Cert.KernelIdeal Cert.KernelIdeal.Gen
open Idealize.ShloMosaic Idealize.SL.Sem

variable {F : FTy → Type} [FloatOps F]

/-- An index of a rank-one shape. -/
abbrev ix6144 (n : Nat) (h : n < 6144) : S6144.Idx := fun a => ⟨n, by obtain rfl : a = 0 := Subsingleton.elim _ _; exact h⟩
abbrev ix2048 (n : Nat) (h : n < 2048) : S2048.Idx := fun a => ⟨n, by obtain rfl : a = 0 := Subsingleton.elim _ _; exact h⟩

/-- Whether a coordinate is positive. -/
def posBit (z : F .f32) : BitVec 1 := FloatOps.cmpf .ogt z (Scalar.ofBits .f32 0x00000000#32)

/-- A masked value. -/
def keep (z v : F .f32) : F .f32 := Scalar.select (posBit z) v (Scalar.ofBits .f32 0x00000000#32)

/-- Plane `c` of a point: its three coordinates and its two encodings, each zero unless the third coordinate is positive. -/
def planeVal (x0 x1 x2 a b : F .f32) (c : Nat) : F .f32 :=
  match c with
  | 0 => keep x2 x0
  | 1 => keep x2 x1
  | 2 => keep x2 x2
  | 3 => keep x2 a
  | _ => keep x2 b

/-- Plane `c` at point `n` of a row. -/
def planeAt (X : S6144.Idx → F .f32) (A B : S2048.Idx → F .f32) (c n : Nat) (h : n < 2048) : F .f32 :=
  planeVal (X (ix6144 (3 * n) (by omega))) (X (ix6144 (3 * n + 1) (by omega))) (X (ix6144 (3 * n + 2) (by omega)))
    (A (ix2048 n h)) (B (ix2048 n h)) c

/-- The mask word at point `n` of a row. -/
def maskAt (X : S6144.Idx → F .f32) (n : Nat) (h : n < 2048) : BitVec 32 :=
  Scalar.select (posBit (X (ix6144 (3 * n + 2) (by omega)))) 1#32 0#32

/-- The staged planes hold the answer for the points below `n`, and the staged mask too. -/
def Done (X : S6144.Idx → F .f32) (A B : S2048.Idx → F .f32) (n : Nat) (Ro : S10240.Idx → F .f32) (Rm : S2048.Idx → BitVec 32) : Prop :=
  (∀ (c : Fin 5) (j : Nat) (hj : j < 2048) (q : S10240.Idx), (q 0).val = 2048 * c.val + j → j < n → Ro q = planeAt X A B c.val j hj)
    ∧ ∀ (j : Nat) (hj : j < 2048) (q : S2048.Idx), (q 0).val = j → j < n → Rm q = maskAt X j hj

theorem lane_word : ∀ (k : Fin k0_t2_loop.trips) (u : Fin 8) (l : Fin 16),
    (IntOp.addi (IntOp.muli (BitVec.ofNat 32 (0 * 16 + l.val)) 3#32) (Scalar.muli (Scalar.addi (Scalar.muli (Scf.iv 0#32 1#32 k) 8#32) (BitVec.ofNat 32 u.val)) 48#32)).toNat
      = 3 * (128 * k.val + 16 * u.val + l.val) := by
  decide +kernel

theorem gIdx_toNat (k : Fin k0_t2_loop.trips) (u : Fin 8) (x : S16.Idx) :
    (gIdx k (BitVec.ofNat 32 u.val) x).toNat = 3 * (128 * k.val + 16 * u.val + (x 0).val) := lane_word k u (x 0)

theorem trips_lt (k : Fin k0_t2_loop.trips) : k.val < 16 := k.isLt

theorem gIdx1_toNat (k : Fin k0_t2_loop.trips) (u : Fin 8) (x : S16.Idx) :
    (k0_pay2 (gIdx k (BitVec.ofNat 32 u.val)) x).toNat = 3 * (128 * k.val + 16 * u.val + (x 0).val) + 1 := by
  show (gIdx k (BitVec.ofNat 32 u.val) x + 1#32).toNat = _
  have h := gIdx_toNat k u x
  have hk := trips_lt k; have hu := u.isLt; have hx : (x 0).val < 16 := (x 0).isLt
  rw [BitVec.toNat_add, h]; exact Nat.mod_eq_of_lt (by show _ < 4294967296; simp; omega)

theorem gIdx2_toNat (k : Fin k0_t2_loop.trips) (u : Fin 8) (x : S16.Idx) :
    (k0_pay3 (gIdx k (BitVec.ofNat 32 u.val)) x).toNat = 3 * (128 * k.val + 16 * u.val + (x 0).val) + 2 := by
  show (gIdx k (BitVec.ofNat 32 u.val) x + 2#32).toNat = _
  have h := gIdx_toNat k u x
  have hk := trips_lt k; have hu := u.isLt; have hx : (x 0).val < 16 := (x 0).isLt
  rw [BitVec.toNat_add, h]; exact Nat.mod_eq_of_lt (by show _ < 4294967296; simp; omega)

theorem chk_of_lt (v : IVec S16 32) (h : ∀ x, (v x).toNat < 6144) : k0_chk1 v := by
  intro a x
  obtain rfl : a = 0 := Subsingleton.elim _ _
  exact h x

theorem gChk0 (k : Fin k0_t2_loop.trips) (u : Fin 8) : k0_chk1 (gIdx k (BitVec.ofNat 32 u.val)) :=
  chk_of_lt _ fun x => by
    rw [gIdx_toNat]; have hk := trips_lt k; have hu := u.isLt; have hx : (x 0).val < 16 := (x 0).isLt; omega

theorem gChk1 (k : Fin k0_t2_loop.trips) (u : Fin 8) : k0_chk1 (k0_pay2 (gIdx k (BitVec.ofNat 32 u.val))) :=
  chk_of_lt _ fun x => by
    rw [gIdx1_toNat]; have hk := trips_lt k; have hu := u.isLt; have hx : (x 0).val < 16 := (x 0).isLt; omega

theorem gChk2 (k : Fin k0_t2_loop.trips) (u : Fin 8) : k0_chk1 (k0_pay3 (gIdx k (BitVec.ofNat 32 u.val))) :=
  chk_of_lt _ fun x => by
    rw [gIdx2_toNat]; have hk := trips_lt k; have hu := u.isLt; have hx : (x 0).val < 16 := (x 0).isLt; omega

/-- A gather by in-range words reads the row at the words' numbers. -/
theorem loadIdx_at (X : Vec F S6144 .f32) (v : IVec S16 32) (h) (x : S16.Idx) (n : Nat) (hn : n < 6144) (e : (v x).toNat = n) :
    loadIdx (F := F) X ![v] h x = X (ix6144 n hn) := by
  unfold loadIdx
  congr 1
  funext a
  obtain rfl : a = 0 := Subsingleton.elim _ _
  exact Fin.ext e

end Cert.Proof.Ring
-- ==== Proof.Base.lean ====
/-
  The program as the launch theorem sees it, and the resources the proof is over.
-/
module

public import proofs.«01_k».proof.Defs
public import proofs.«01_k».proof.Proof.Spec
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Writes
public import Idealize.ShloMosaic.Lib.Tactic

@[expose] public section

noncomputable section

namespace Cert.Proof.Ring

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' tokens, and the counters of the copies. -/
abbrev UH : Type := URounds (GSem nD τ sig) ℕ
abbrev UU : Type := UH × Counters

abbrev EH : Emb UH (MT nD τ sig (HIx 1) (Elt F) ℕ UU ℕ) := embL

end Cert.Proof.Ring
-- ==== Proof.Group.lean ====
/-
  One group of sixteen points, one inner trip of eight groups, and the inner loop: the staged planes and mask hold the
  answer for sixteen more points after a group, for the whole row after the loop.
-/
module

public import proofs.«01_k».proof.Proof.Base

@[expose] public section

set_option maxRecDepth 65536

noncomputable section

namespace Cert.Proof.Ring

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Lane `l` of a rank-one vector of sixteen. -/
abbrev lane16 (l : Nat) (h : l < 16) : S16.Idx := fun a => ⟨l, by obtain rfl : a = 0 := Subsingleton.elim _ _; exact h⟩

section Pure

variable {κ : Kind} {sp : Space} (vo : View sig κ sp S10240 .f32) (fo : vo.ty.Contents (Elt F)) (vm : View sig κ sp S2048 .i32) (fm : vm.ty.Contents (Elt F))

/-- The five pieces a group stores in the staged planes, newest first. -/
def gPieces (k : Fin k0_t2_loop.trips) (u : Fin 8) (w0 w1 w2 w3 w4 : Vec F S16 .f32) : List (View.Piece (Elt F) S10240 .f32) :=
  [⟨Rect.unit (s := S10240) (gOffC k (BitVec.ofNat 32 u.val) (BitVec.ofNat 32 (2048 * (4 : Fin 5).val))) S16.size (gOffC_inb k u 4), w4⟩,
   ⟨Rect.unit (s := S10240) (gOffC k (BitVec.ofNat 32 u.val) (BitVec.ofNat 32 (2048 * (3 : Fin 5).val))) S16.size (gOffC_inb k u 3), w3⟩,
   ⟨Rect.unit (s := S10240) (gOffC k (BitVec.ofNat 32 u.val) (BitVec.ofNat 32 (2048 * (2 : Fin 5).val))) S16.size (gOffC_inb k u 2), w2⟩,
   ⟨Rect.unit (s := S10240) (gOffC k (BitVec.ofNat 32 u.val) (BitVec.ofNat 32 (2048 * (1 : Fin 5).val))) S16.size (gOffC_inb k u 1), w1⟩,
   ⟨Rect.unit (s := S10240) (gOffC k (BitVec.ofNat 32 u.val) (BitVec.ofNat 32 (2048 * (0 : Fin 5).val))) S16.size (gOffC_inb k u 0), w0⟩]

theorem gOffC_zero (k : Fin k0_t2_loop.trips) (u : Fin 8) (c : Fin 5) :
    gOffC k (BitVec.ofNat 32 u.val) (BitVec.ofNat 32 (2048 * c.val)) 0 = 2048 * c.val + (128 * k.val + 16 * u.val) := by
  rw [gOffC_eq]; rfl

theorem gOff_zero (k : Fin k0_t2_loop.trips) (u : Fin 8) : gOff k (BitVec.ofNat 32 u.val) 0 = 128 * k.val + 16 * u.val := by
  rw [gOff_eq]; rfl

theorem gPieces_old (k : Fin k0_t2_loop.trips) (u : Fin 8) (w0 w1 w2 w3 w4 : Vec F S16 .f32) (c : Fin 5) (j : Nat) (q : S10240.Idx)
    (hq : (q 0).val = 2048 * c.val + j) (hj : j < 128 * k.val + 16 * u.val) :
    vo.read (Elt F) (vo.writes (Elt F) fo (gPieces k u w0 w1 w2 w3 w4)) q = vo.read (Elt F) fo q := by
  have hk := trips_lt k; have hu := u.isLt; have hc := c.isLt
  unfold gPieces
  rw [View.read_writes_cons_miss_of_axis vo fo _ _ q 0 _ 16 (gOffC_zero k u 4) rfl rfl (by simp; omega),
    View.read_writes_cons_miss_of_axis vo fo _ _ q 0 _ 16 (gOffC_zero k u 3) rfl rfl (by simp; omega),
    View.read_writes_cons_miss_of_axis vo fo _ _ q 0 _ 16 (gOffC_zero k u 2) rfl rfl (by simp; omega),
    View.read_writes_cons_miss_of_axis vo fo _ _ q 0 _ 16 (gOffC_zero k u 1) rfl rfl (by simp; omega),
    View.read_writes_cons_miss_of_axis vo fo _ _ q 0 _ 16 (gOffC_zero k u 0) rfl rfl (by simp; omega)]
  rfl

/-- The stored plane's payload, by the plane's number. -/
def pickW (w0 w1 w2 w3 w4 : Vec F S16 .f32) : Fin 5 → Vec F S16 .f32
  | 0 => w0
  | 1 => w1
  | 2 => w2
  | 3 => w3
  | 4 => w4

theorem hit_coords (k : Fin k0_t2_loop.trips) (u : Fin 8) (c : Fin 5) (j : Nat) (q : S10240.Idx) (h : j - (128 * k.val + 16 * u.val) < 16)
    (hq : (q 0).val = 2048 * c.val + j) (hj : 128 * k.val + 16 * u.val ≤ j) :
    ∀ a, (q a).val = (Rect.unit (s := S10240) (gOffC k (BitVec.ofNat 32 u.val) (BitVec.ofNat 32 (2048 * c.val))) S16.size (gOffC_inb k u c)).off a
      + (Rect.unit (s := S10240) (gOffC k (BitVec.ofNat 32 u.val) (BitVec.ofNat 32 (2048 * c.val))) S16.size (gOffC_inb k u c)).stride a
        * (lane16 (j - (128 * k.val + 16 * u.val)) h a).val := by
  intro a
  obtain rfl : a = 0 := Subsingleton.elim _ _
  show (q 0).val = gOffC k (BitVec.ofNat 32 u.val) (BitVec.ofNat 32 (2048 * c.val)) 0 + 1 * (j - (128 * k.val + 16 * u.val))
  rw [gOffC_zero, hq]; omega

theorem gPieces_new (k : Fin k0_t2_loop.trips) (u : Fin 8) (w0 w1 w2 w3 w4 : Vec F S16 .f32) (c : Fin 5) (j : Nat) (q : S10240.Idx)
    (hq : (q 0).val = 2048 * c.val + j) (hj : 128 * k.val + 16 * u.val ≤ j) (hj' : j < 128 * k.val + 16 * u.val + 16) :
    vo.read (Elt F) (vo.writes (Elt F) fo (gPieces k u w0 w1 w2 w3 w4)) q
      = pickW w0 w1 w2 w3 w4 c (lane16 (j - (128 * k.val + 16 * u.val)) (by omega)) := by
  have hk := trips_lt k; have hu := u.isLt; have hl : j - (128 * k.val + 16 * u.val) < 16 := by omega
  have hit := hit_coords k u c j q hl hq hj
  unfold gPieces
  match c, hq, hit with
  | 4, hq, hit =>
    rw [View.read_writes_cons_hit_of_coords vo fo _ _ _ _ q hit]; rfl
  | 3, hq, hit =>
    rw [View.read_writes_cons_miss_of_axis vo fo _ _ q 0 _ 16 (gOffC_zero k u 4) rfl rfl (by simp at hq ⊢; omega),
      View.read_writes_cons_hit_of_coords vo fo _ _ _ _ q hit]; rfl
  | 2, hq, hit =>
    rw [View.read_writes_cons_miss_of_axis vo fo _ _ q 0 _ 16 (gOffC_zero k u 4) rfl rfl (by simp at hq ⊢; omega),
      View.read_writes_cons_miss_of_axis vo fo _ _ q 0 _ 16 (gOffC_zero k u 3) rfl rfl (by simp at hq ⊢; omega),
      View.read_writes_cons_hit_of_coords vo fo _ _ _ _ q hit]; rfl
  | 1, hq, hit =>
    rw [View.read_writes_cons_miss_of_axis vo fo _ _ q 0 _ 16 (gOffC_zero k u 4) rfl rfl (by simp at hq ⊢; omega),
      View.read_writes_cons_miss_of_axis vo fo _ _ q 0 _ 16 (gOffC_zero k u 3) rfl rfl (by simp at hq ⊢; omega),
      View.read_writes_cons_miss_of_axis vo fo _ _ q 0 _ 16 (gOffC_zero k u 2) rfl rfl (by simp at hq ⊢; omega),
      View.read_writes_cons_hit_of_coords vo fo _ _ _ _ q hit]; rfl
  | 0, hq, hit =>
    rw [View.read_writes_cons_miss_of_axis vo fo _ _ q 0 _ 16 (gOffC_zero k u 4) rfl rfl (by simp at hq ⊢; omega),
      View.read_writes_cons_miss_of_axis vo fo _ _ q 0 _ 16 (gOffC_zero k u 3) rfl rfl (by simp at hq ⊢; omega),
      View.read_writes_cons_miss_of_axis vo fo _ _ q 0 _ 16 (gOffC_zero k u 2) rfl rfl (by simp at hq ⊢; omega),
      View.read_writes_cons_miss_of_axis vo fo _ _ q 0 _ 16 (gOffC_zero k u 1) rfl rfl (by simp at hq ⊢; omega),
      View.read_writes_cons_hit_of_coords vo fo _ _ _ _ q hit]; rfl

/-- A group's stores take the answer sixteen points on. -/
theorem done_step (X : S6144.Idx → F .f32) (A B : S2048.Idx → F .f32) (k : Fin k0_t2_loop.trips) (u : Fin 8)
    (x0 x1 x2 a b : Vec F S16 .f32)
    (h0 : ∀ l (h : l < 16), x0 (lane16 l h) = X (ix6144 (3 * (128 * k.val + 16 * u.val + l)) (by have := trips_lt k; omega)))
    (h1 : ∀ l (h : l < 16), x1 (lane16 l h) = X (ix6144 (3 * (128 * k.val + 16 * u.val + l) + 1) (by have := trips_lt k; omega)))
    (h2 : ∀ l (h : l < 16), x2 (lane16 l h) = X (ix6144 (3 * (128 * k.val + 16 * u.val + l) + 2) (by have := trips_lt k; omega)))
    (ha : ∀ l (h : l < 16), a (lane16 l h) = A (ix2048 (128 * k.val + 16 * u.val + l) (by have := trips_lt k; omega)))
    (hb : ∀ l (h : l < 16), b (lane16 l h) = B (ix2048 (128 * k.val + 16 * u.val + l) (by have := trips_lt k; omega)))
    (hD : Done X A B (128 * k.val + 16 * u.val) (vo.read (Elt F) fo) (vm.read (Elt F) fm)) :
    Done X A B (128 * k.val + 16 * u.val + 16)
      (vo.read (Elt F) (vo.writes (Elt F) fo (gPieces k u (k0_pay5 k0_pay326 x0 x2) (k0_pay6 k0_pay326 x1 x2) (k0_pay7 k0_pay326 x2)
        (k0_pay8 k0_pay326 x2 a) (k0_pay9 k0_pay326 b (k0_pay4 x2)))))
      (vm.read (Elt F) (vm.writes (Elt F) fm [⟨Rect.unit (s := S2048) (gOff k (BitVec.ofNat 32 u.val)) S16.size (gOff_inb k u), k0_pay10 (k0_pay4 x2)⟩])) := by
  have hk := trips_lt k; have hu := u.isLt
  refine ⟨fun c j hj q hq hjn => ?_, fun j hj q hq hjn => ?_⟩
  · by_cases hlt : j < 128 * k.val + 16 * u.val
    · rw [gPieces_old vo fo k u _ _ _ _ _ c j q hq hlt]; exact hD.1 c j hj q hq hlt
    · rw [gPieces_new vo fo k u _ _ _ _ _ c j q hq (by omega) hjn]
      obtain ⟨l, rfl⟩ : ∃ l, j = 128 * k.val + 16 * u.val + l := ⟨j - (128 * k.val + 16 * u.val), by omega⟩
      have hl : l < 16 := by omega
      rw [show lane16 (128 * k.val + 16 * u.val + l - (128 * k.val + 16 * u.val)) (by omega) = lane16 l hl from funext fun a => Fin.ext (by
        show 128 * k.val + 16 * u.val + l - (128 * k.val + 16 * u.val) = l; omega)]
      unfold planeAt
      rw [← h0 l hl, ← h1 l hl, ← h2 l hl, ← ha l hl, ← hb l hl]
      match c with
      | 0 => rfl
      | 1 => rfl
      | 2 => rfl
      | 3 => rfl
      | 4 => rfl
  · by_cases hlt : j < 128 * k.val + 16 * u.val
    · rw [View.read_writes_cons_miss_of_axis vm fm _ _ q 0 _ 16 (gOff_zero k u) rfl rfl (by omega)]
      exact hD.2 j hj q hq hlt
    · obtain ⟨l, rfl⟩ : ∃ l, j = 128 * k.val + 16 * u.val + l := ⟨j - (128 * k.val + 16 * u.val), by omega⟩
      have hl : l < 16 := by omega
      rw [View.read_writes_cons_hit_of_coords vm fm _ _ _ (lane16 l hl) q (fun a => by
        obtain rfl : a = 0 := Subsingleton.elim _ _
        show (q 0).val = gOff k (BitVec.ofNat 32 u.val) 0 + 1 * l
        rw [gOff_zero, hq]; omega)]
      unfold maskAt
      rw [← h2 l hl]; rfl

/-- The lanes of a group's loads of the encodings. -/
theorem lane_of (k : Fin k0_t2_loop.trips) (u : Fin 8) (l : Nat) (h : l < 16) :
    (Rect.unit (s := S2048) (gOff k (BitVec.ofNat 32 u.val)) S16.size (gOff_inb k u)).toLoadRect.idx (lane16 l h)
      = ix2048 (128 * k.val + 16 * u.val + l) (by have := trips_lt k; omega) := by
  funext a
  obtain rfl : a = 0 := Subsingleton.elim _ _
  apply Fin.ext
  rw [LoadRect.idx_apply]
  show gOff k (BitVec.ofNat 32 u.val) 0 + 1 * l = _
  rw [gOff_zero]; show _ = 128 * k.val + 16 * u.val + l; omega

end Pure

variable (d : Dev nD) (c : Fin τ.nSC) (s : Fin τ.nSub)
variable (xin : Memref sig .scVector .vmem S6144 .f32) (o : Memref sig .scVector .vmem S10240 .f32)
    (mb : Memref sig .scVector .vmem S2048 .i32) (p0 p1 : Memref sig .scVector .vmem S2048 .f32)

/-- A memref's elements at some contents, as the tile holds them. -/
abbrev held {sp : Space} {sh : Shape} {e : EltTy} (m : Memref sig .scVector sp sh e) (q : PosShare TreeShare) (f : Buf (Elt F) (m.view.loc (V d c s))) : sProp 𝕄 :=
  m.view.loc (V d c s) ↦[m.view.set]{q} f

theorem grp_wp (X : S6144.Idx → F .f32) (A B : S2048.Idx → F .f32) (k : Fin k0_t2_loop.trips) (u : Fin 8)
    (fx : Buf (Elt F) (xin.view.loc (V d c s))) (fo : Buf (Elt F) (o.view.loc (V d c s))) (fm : Buf (Elt F) (mb.view.loc (V d c s)))
    (f0 : Buf (Elt F) (p0.view.loc (V d c s))) (f1 : Buf (Elt F) (p1.view.loc (V d c s)))
    (hX : xin.view.read (Elt F) fx = X) (hA : p0.view.read (Elt F) f0 = A) (hB : p1.view.read (Elt F) f1 = B)
    (hD : Done X A B (128 * k.val + 16 * u.val) (o.view.read (Elt F) fo) (mb.view.read (Elt F) fm))
    {α : Type} (kk : PUnit → Prog (TpuEff nD τ sig (Elt F) Λ₀ (.scVector c s)) α) (Q : α → sProp 𝕄) :
    iprop(held d c s xin fullShare fx ∗ held d c s p0 fullShare f0 ∗ held d c s p1 fullShare f1 ∗ held d c s o fullShare fo ∗ held d c s mb fullShare fm)
      ⊢ iprop((∀ fo' fm', ⌜Done X A B (128 * k.val + 16 * u.val + 16) (o.view.read (Elt F) fo') (mb.view.read (Elt F) fm')⌝
          -∗ (held d c s xin fullShare fx ∗ held d c s p0 fullShare f0 ∗ held d c s p1 fullShare f1 ∗ held d c s o fullShare fo' ∗ held d c s mb fullShare fm')
          -∗ wp frame (wpE (defs₀ (F := F)) 𝒱₀ (V d c s) none) Set.univ (kk ⟨⟩) Q)
        -∗ wp frame (wpE (defs₀ (F := F)) 𝒱₀ (V d c s) none) Set.univ (grp xin o mb p0 p1 k u >>= kk) Q) := by
  unfold grp
  simp only [Prog.lift, Prog.bind_op, Prog.bind_ret, Prog.pure_eq_ret, bind_assoc]
  iintro ⟨Hx, H0, H1, Ho, Hm⟩ HK
  rw [wp_assume_of _ _ _ _ (gChk0 k u)]
  iapply (SparseCore.wp_vectorLoadIdx 𝒱₀ (V d c s) none Set.univ (base := xin) (S := xin.view.set) (q := fullShare) (View.set_slice_subset _ _)) $$ Hx; iintro Hx
  rw [wp_assume_of _ _ _ _ (gChk1 k u)]
  iapply (SparseCore.wp_vectorLoadIdx 𝒱₀ (V d c s) none Set.univ (base := xin) (S := xin.view.set) (q := fullShare) (View.set_slice_subset _ _)) $$ Hx; iintro Hx
  rw [wp_assume_of _ _ _ _ (gChk2 k u)]
  iapply (SparseCore.wp_vectorLoadIdx 𝒱₀ (V d c s) none Set.univ (base := xin) (S := xin.view.set) (q := fullShare) (View.set_slice_subset _ _)) $$ Hx; iintro Hx
  sl_exec
  iapply HK $$ %_ %_ [] [Hx H0 H1 Ho Hm]
  rotate_left
  · isplitl [Hx]; · iexact Hx
    isplitl [H0]; · iexact H0
    isplitl [H1]; · iexact H1
    isplitl [Ho]; · iexact Ho
    iexact Hm
  ipureintro
  have hx : (xin.access (.whole S6144)).read (Elt F) fx = X := by
    rw [← hX]; funext y
    show xin.view.read (Elt F) fx ((Rect.whole S6144).emb y) = _
    rw [Rect.emb_whole_apply]
  refine done_step o.view fo mb.view fm X A B k u _ _ _ _ _ ?_ ?_ ?_ ?_ ?_ hD
  · intro l h; rw [hx]; exact loadIdx_at _ _ _ _ _ _ (gIdx_toNat k u _)
  · intro l h; rw [hx]; exact loadIdx_at _ _ _ _ _ _ (gIdx1_toNat k u _)
  · intro l h; rw [hx]; exact loadIdx_at _ _ _ _ _ _ (gIdx2_toNat k u _)
  · intro l h; rw [View.readAt_apply, hA]; exact congrArg A (lane_of k u l h)
  · intro l h; rw [View.readAt_apply, hB]; exact congrArg B (lane_of k u l h)

/-- The buffers of a row's computation, the staged planes and mask holding the answer for the points below `n`. -/
def RowAt (X : S6144.Idx → F .f32) (A B : S2048.Idx → F .f32)
    (fx : Buf (Elt F) (xin.view.loc (V d c s))) (f0 : Buf (Elt F) (p0.view.loc (V d c s))) (f1 : Buf (Elt F) (p1.view.loc (V d c s))) (n : Nat) : sProp 𝕄 :=
  iprop(∃ fo fm, ⌜Done X A B n (o.view.read (Elt F) fo) (mb.view.read (Elt F) fm)⌝
    ∗ (held d c s xin fullShare fx ∗ held d c s p0 fullShare f0 ∗ held d c s p1 fullShare f1 ∗ held d c s o fullShare fo ∗ held d c s mb fullShare fm))

/-- An inner trip computes eight groups. -/
theorem trip_wp (X : S6144.Idx → F .f32) (A B : S2048.Idx → F .f32)
    (fx : Buf (Elt F) (xin.view.loc (V d c s))) (f0 : Buf (Elt F) (p0.view.loc (V d c s))) (f1 : Buf (Elt F) (p1.view.loc (V d c s)))
    (hX : xin.view.read (Elt F) fx = X) (hA : p0.view.read (Elt F) f0 = A) (hB : p1.view.read (Elt F) f1 = B)
    (k : Fin k0_t2_loop.trips) (a : Unit) :
    RowAt d c s xin o mb p0 p1 X A B fx f0 f1 (128 * k.val)
      ⊢ wp frame (wpE (defs₀ (F := F)) 𝒱₀ (V d c s) none) Set.univ (trip xin o mb p0 p1 k a)
          fun _ => RowAt d c s xin o mb p0 p1 X A B fx f0 f1 (128 * (k.val + 1)) := by
  unfold RowAt trip
  iintro ⟨%fo, %fm, %hD, H⟩
  iapply (grp_wp d c s xin o mb p0 p1 X A B k 0 fx _ _ f0 f1 hX hA hB hD) $$ [H]
  · iexact H
  clear hD fo fm
  iintro %fo %fm %hD H
  iapply (grp_wp d c s xin o mb p0 p1 X A B k 1 fx _ _ f0 f1 hX hA hB hD) $$ [H]
  · iexact H
  clear hD fo fm
  iintro %fo %fm %hD H
  iapply (grp_wp d c s xin o mb p0 p1 X A B k 2 fx _ _ f0 f1 hX hA hB hD) $$ [H]
  · iexact H
  clear hD fo fm
  iintro %fo %fm %hD H
  iapply (grp_wp d c s xin o mb p0 p1 X A B k 3 fx _ _ f0 f1 hX hA hB hD) $$ [H]
  · iexact H
  clear hD fo fm
  iintro %fo %fm %hD H
  iapply (grp_wp d c s xin o mb p0 p1 X A B k 4 fx _ _ f0 f1 hX hA hB hD) $$ [H]
  · iexact H
  clear hD fo fm
  iintro %fo %fm %hD H
  iapply (grp_wp d c s xin o mb p0 p1 X A B k 5 fx _ _ f0 f1 hX hA hB hD) $$ [H]
  · iexact H
  clear hD fo fm
  iintro %fo %fm %hD H
  iapply (grp_wp d c s xin o mb p0 p1 X A B k 6 fx _ _ f0 f1 hX hA hB hD) $$ [H]
  · iexact H
  clear hD fo fm
  iintro %fo %fm %hD H
  iapply (grp_wp d c s xin o mb p0 p1 X A B k 7 fx _ _ f0 f1 hX hA hB hD) $$ [H]
  · iexact H
  clear hD fo fm
  iintro %fo %fm %hD H
  rw [Prog.pure_eq_ret, wp_ret]
  imodintro
  iexists fo; iexists fm
  isplitr
  · ipureintro; exact hD
  · iexact H

/-- The inner loop computes the row. -/
theorem row_wp (X : S6144.Idx → F .f32) (A B : S2048.Idx → F .f32)
    (fx : Buf (Elt F) (xin.view.loc (V d c s))) (f0 : Buf (Elt F) (p0.view.loc (V d c s))) (f1 : Buf (Elt F) (p1.view.loc (V d c s)))
    (hX : xin.view.read (Elt F) fx = X) (hA : p0.view.read (Elt F) f0 = A) (hB : p1.view.read (Elt F) f1 = B)
    {α : Type} (kk : PUnit → Prog (TpuEff nD τ sig (Elt F) Λ₀ (.scVector c s)) α) (Q : α → sProp 𝕄) :
    iprop(held d c s xin fullShare fx ∗ held d c s p0 fullShare f0 ∗ held d c s p1 fullShare f1 ∗ (∃ f, held d c s o fullShare f) ∗ (∃ f, held d c s mb fullShare f))
      ⊢ iprop((∀ fo fm, ⌜Done X A B 2048 (o.view.read (Elt F) fo) (mb.view.read (Elt F) fm)⌝
          -∗ (held d c s xin fullShare fx ∗ held d c s p0 fullShare f0 ∗ held d c s p1 fullShare f1 ∗ held d c s o fullShare fo ∗ held d c s mb fullShare fm)
          -∗ wp frame (wpE (defs₀ (F := F)) 𝒱₀ (V d c s) none) Set.univ (kk ⟨⟩) Q)
        -∗ wp frame (wpE (defs₀ (F := F)) 𝒱₀ (V d c s) none) Set.univ (Scf.Loop.for k0_t2_loop k0_t2_ok ⟨⟩ (trip xin o mb p0 p1) >>= kk) Q) := by
  iintro ⟨Hx, H0, H1, ⟨%fo, Ho⟩, ⟨%fm, Hm⟩⟩ HK
  iapply (Scf.wp_for_bind frame (wpE (defs₀ (F := F)) 𝒱₀ (V d c s) none) Set.univ k0_t2_loop.lb k0_t2_loop.ub k0_t2_loop.st k0_t2_ok
    (init := (⟨⟩ : PUnit)) (body := trip xin o mb p0 p1) (I := fun k _ => RowAt d c s xin o mb p0 p1 X A B fx f0 f1 (128 * k))
    (fun k a => trip_wp d c s xin o mb p0 p1 X A B fx f0 f1 hX hA hB k a)) $$ [Hx H0 H1 Ho Hm]
  · unfold RowAt
    iexists fo; iexists fm
    isplitr
    · ipureintro
      exact ⟨fun c j hj q _ h => absurd h (by omega), fun j hj q _ h => absurd h (by omega)⟩
    isplitl [Hx]; · iexact Hx
    isplitl [H0]; · iexact H0
    isplitl [H1]; · iexact H1
    isplitl [Ho]; · iexact Ho
    iexact Hm
  unfold RowAt
  iintro %a ⟨%fo', %fm', %hD, H⟩
  iapply HK $$ %fo' %fm' [] [H]
  · ipureintro; exact hD
  · iexact H

end Cert.Proof.Ring
-- ==== Proof.Rows.lean ====
/-
  The rows of the arrays in main memory that a tile copies: row `r` of the input, row `r` of each output plane, row `r` of
  the mask; their elements, and what a copy of one reads or leaves.
-/
module

public import proofs.«01_k».proof.Proof.Group
public import Idealize.ShloMosaic.Lib.Ring

@[expose] public section

set_option maxRecDepth 65536

noncomputable section

namespace Cert.Proof.Ring

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The input, the planes and the mask, as a tile names them. -/
abbrev gx : Memref sig .scVector .hbm S4096x6144 .f32 := Memref.whole main_arg0_scv
abbrev gp : Memref sig .scVector .hbm S5x4096x2048 .f32 := Memref.whole main_v4_0_scv
abbrev gm : Memref sig .scVector .hbm S4096x2048 .i32 := Memref.whole main_v4_1_scv

theorem inb_x (r : Nat) (h : r < 4096) : ∀ a, (![r, 0] : Fin 2 → Nat) a + S1x6144.size a ≤ S4096x6144.size a
  | 0 => by show r + 1 ≤ 4096; omega
  | 1 => by show 0 + 6144 ≤ 6144; omega

theorem inb_p (c : Fin 5) (r : Nat) (h : r < 4096) : ∀ a, (![c.val, r, 0] : Fin 3 → Nat) a + S1x1x2048.size a ≤ S5x4096x2048.size a
  | 0 => by show c.val + 1 ≤ 5; omega
  | 1 => by show r + 1 ≤ 4096; omega
  | 2 => by show 0 + 2048 ≤ 2048; omega

theorem inb_m (r : Nat) (h : r < 4096) : ∀ a, (![r, 0] : Fin 2 → Nat) a + S1x2048.size a ≤ S4096x2048.size a
  | 0 => by show r + 1 ≤ 4096; omega
  | 1 => by show 0 + 2048 ≤ 2048; omega

theorem inb_o (c : Fin 5) : ∀ a, (![2048 * c.val] : Fin 1 → Nat) a + S2048.size a ≤ S10240.size a
  | 0 => by show 2048 * c.val + 2048 ≤ 10240; omega

/-- Row `r` of the input. -/
abbrev xRow (r : Nat) (h : r < 4096) : Memref sig .scVector .hbm S6144 .f32 :=
  (gx.slice (Rect.unit (s := S4096x6144) ![r, 0] S1x6144.size (inb_x r h)) (fun _ => rfl)).squeeze S6144 squeezes_S1x6144_S6144

/-- Row `r` of plane `c`. -/
abbrev pRow (c : Fin 5) (r : Nat) (h : r < 4096) : Memref sig .scVector .hbm S2048 .f32 :=
  (gp.slice (Rect.unit (s := S5x4096x2048) ![c.val, r, 0] S1x1x2048.size (inb_p c r h)) (fun _ => rfl)).squeeze S2048 squeezes_S1x1x2048_S2048

/-- Row `r` of the mask. -/
abbrev mRow (r : Nat) (h : r < 4096) : Memref sig .scVector .hbm S2048 .i32 :=
  (gm.slice (Rect.unit (s := S4096x2048) ![r, 0] S1x2048.size (inb_m r h)) (fun _ => rfl)).squeeze S2048 squeezes_S1x2048_S2048

/-- Plane `c` of a tile's staged row. -/
abbrev oPlane (o : Memref sig .scVector .vmem S10240 .f32) (c : Fin 5) : Memref sig .scVector .vmem S2048 .f32 :=
  o.slice (Rect.unit (s := S10240) ![2048 * c.val] S2048.size (inb_o c)) (fun _ => rfl)

theorem map_gx (M : Finset S4096x6144.Idx) : Finset.map gx.view.emb M = M := Finset.map_refl
theorem map_gp (M : Finset S5x4096x2048.Idx) : Finset.map gp.view.emb M = M := Finset.map_refl
theorem map_gm (M : Finset S4096x2048.Idx) : Finset.map gm.view.emb M = M := Finset.map_refl

/-- The elements of a row. -/
theorem mem_xRow (r : Nat) (h : r < 4096) (q : S4096x6144.Idx) : q ∈ (xRow r h).view.set ↔ (q 0).val = r := by
  rw [View.set_reshape, View.set_slice, map_gx, Rect.mem_set_unit]
  constructor
  · intro hq; have h0 := hq 0; have e : r ≤ (q 0).val ∧ (q 0).val < r + 1 := h0; omega
  · intro e a
    match a with
    | 0 => show r ≤ (q 0).val ∧ (q 0).val < r + 1; omega
    | 1 => exact ⟨Nat.zero_le _, by have := (q 1).isLt; show (q 1).val < 0 + 6144; simpa using this⟩

theorem mem_pRow (c : Fin 5) (r : Nat) (h : r < 4096) (q : S5x4096x2048.Idx) :
    q ∈ (pRow c r h).view.set ↔ (q 0).val = c.val ∧ (q 1).val = r := by
  rw [View.set_reshape, View.set_slice, map_gp, Rect.mem_set_unit]
  constructor
  · intro hq
    have e0 : c.val ≤ (q 0).val ∧ (q 0).val < c.val + 1 := hq 0
    have e1 : r ≤ (q 1).val ∧ (q 1).val < r + 1 := hq 1
    omega
  · intro e a
    match a with
    | 0 => show c.val ≤ (q 0).val ∧ (q 0).val < c.val + 1; omega
    | 1 => show r ≤ (q 1).val ∧ (q 1).val < r + 1; omega
    | 2 => exact ⟨Nat.zero_le _, by have := (q 2).isLt; show (q 2).val < 0 + 2048; simpa using this⟩

theorem mem_mRow (r : Nat) (h : r < 4096) (q : S4096x2048.Idx) : q ∈ (mRow r h).view.set ↔ (q 0).val = r := by
  rw [View.set_reshape, View.set_slice, map_gm, Rect.mem_set_unit]
  constructor
  · intro hq; have h0 := hq 0; have e : r ≤ (q 0).val ∧ (q 0).val < r + 1 := h0; omega
  · intro e a
    match a with
    | 0 => show r ≤ (q 0).val ∧ (q 0).val < r + 1; omega
    | 1 => exact ⟨Nat.zero_le _, by have := (q 1).isLt; show (q 1).val < 0 + 2048; simpa using this⟩

/-- An index of each array from its coordinates. -/
abbrev ixX (r n : Nat) (hr : r < 4096) (hn : n < 6144) : S4096x6144.Idx
  | 0 => ⟨r, hr⟩
  | 1 => ⟨n, hn⟩
abbrev ixP (c r n : Nat) (hc : c < 5) (hr : r < 4096) (hn : n < 2048) : S5x4096x2048.Idx
  | 0 => ⟨c, hc⟩
  | 1 => ⟨r, hr⟩
  | 2 => ⟨n, hn⟩
abbrev ixM (r n : Nat) (hr : r < 4096) (hn : n < 2048) : S4096x2048.Idx
  | 0 => ⟨r, hr⟩
  | 1 => ⟨n, hn⟩
abbrev ixO (n : Nat) (hn : n < 10240) : S10240.Idx := fun a => ⟨n, by obtain rfl : a = 0 := Subsingleton.elim _ _; exact hn⟩

/-- Where element `k` of a row lies in the array. -/
theorem emb_xRow (r : Nat) (h : r < 4096) (k : S6144.Idx) : (xRow r h).view.emb k = ixX r (k 0).val h (k 0).isLt := by
  show (Rect.unit (s := S4096x6144) ![r, 0] S1x6144.size (inb_x r h)).emb (Shape.reshapeEquiv _ k) = _
  rw [Shape.reshapeEquiv_cons_one]
  funext a
  match a with
  | 0 => exact Fin.ext (by show r + 1 * 0 = r; omega)
  | 1 => exact Fin.ext (by show 0 + 1 * (k 0).val = (k 0).val; omega)

theorem emb_mRow (r : Nat) (h : r < 4096) (k : S2048.Idx) : (mRow r h).view.emb k = ixM r (k 0).val h (k 0).isLt := by
  show (Rect.unit (s := S4096x2048) ![r, 0] S1x2048.size (inb_m r h)).emb (Shape.reshapeEquiv _ k) = _
  rw [Shape.reshapeEquiv_cons_one]
  funext a
  match a with
  | 0 => exact Fin.ext (by show r + 1 * 0 = r; omega)
  | 1 => exact Fin.ext (by show 0 + 1 * (k 0).val = (k 0).val; omega)

theorem emb_pRow (c : Fin 5) (r : Nat) (h : r < 4096) (k : S2048.Idx) :
    (pRow c r h).view.emb k = ixP c.val r (k 0).val c.isLt h (k 0).isLt := by
  have e : (Shape.reshapeEquiv squeezes_S1x1x2048_S2048.numel_eq k : S1x1x2048.Idx) = Fin.cons ⟨0, Nat.one_pos⟩ (Fin.cons ⟨0, Nat.one_pos⟩ k) :=
    Shape.reshapeEquiv_eq_of_rowMajor _ (by
      rw [Shape.rowMajor_val_three, Shape.rowMajor_val_one]
      show 0 * _ + 0 * _ + (k 0).val = (k 0).val
      omega)
  show (Rect.unit (s := S5x4096x2048) ![c.val, r, 0] S1x1x2048.size (inb_p c r h)).emb (Shape.reshapeEquiv squeezes_S1x1x2048_S2048.numel_eq k) = _
  rw [e]
  funext a
  match a with
  | 0 => exact Fin.ext (by show c.val + 1 * 0 = c.val; omega)
  | 1 => exact Fin.ext (by show r + 1 * 0 = r; omega)
  | 2 => exact Fin.ext (by show 0 + 1 * (k 0).val = (k 0).val; omega)

/-- Row `r` of the input's contents. -/
abbrev rowOf (X : S4096x6144.Idx → F .f32) (r : Nat) (h : r < 4096) : S6144.Idx → F .f32 := fun k => X (ixX r (k 0).val h (k 0).isLt)

/-- What the kernel leaves in the planes and in the mask. -/
def planesOf (X : S4096x6144.Idx → F .f32) (A B : S2048.Idx → F .f32) : S5x4096x2048.Idx → F .f32 := fun q =>
  planeAt (rowOf X (q 1).val (q 1).isLt) A B (q 0).val (q 2).val (q 2).isLt
def maskOf (X : S4096x6144.Idx → F .f32) : S4096x2048.Idx → BitVec 32 := fun q =>
  maskAt (rowOf X (q 0).val (q 0).isLt) (q 1).val (q 1).isLt

theorem read_xRow (X : S4096x6144.Idx → F .f32) (r : Nat) (h : r < 4096) : (xRow r h).view.read (Elt F) X = rowOf X r h := by
  funext k
  rw [View.read_apply, emb_xRow]
  rfl

/-- A plane's row copied out of a finished staged row is the answer there. -/
theorem write_pRow (X : S4096x6144.Idx → F .f32) (A B : S2048.Idx → F .f32) (c : Fin 5) (r : Nat) (h : r < 4096)
    (o : Memref sig .scVector .vmem S10240 .f32) (fo : o.view.ty.Contents (Elt F)) (Rm : S2048.Idx → BitVec 32)
    (hD : Done (rowOf X r h) A B 2048 (o.view.read (Elt F) fo) Rm) (f : S5x4096x2048.Idx → F .f32) (q : S5x4096x2048.Idx)
    (hq : q ∈ (pRow c r h).view.set) :
    (pRow c r h).view.write (Elt F) f ((oPlane o c).view.read (Elt F) fo) Finset.univ q = planesOf X A B q := by
  obtain ⟨k, -, rfl⟩ := Finset.mem_map.mp hq
  rw [View.write_emb_of_mem _ _ (Finset.mem_univ k)]
  have e : (oPlane o c).view.read (Elt F) fo k = o.view.read (Elt F) fo ((Rect.unit (s := S10240) ![2048 * c.val] S2048.size (inb_o c)).emb k) := rfl
  rw [e, hD.1 c (k 0).val (k 0).isLt _ (by show 2048 * c.val + 1 * (k 0).val = _; omega) (k 0).isLt]
  rw [emb_pRow]
  rfl

theorem write_mRow (X : S4096x6144.Idx → F .f32) (A B : S2048.Idx → F .f32) (r : Nat) (h : r < 4096)
    (mb : Memref sig .scVector .vmem S2048 .i32) (fm : mb.view.ty.Contents (Elt F)) (Ro : S10240.Idx → F .f32)
    (hD : Done (rowOf X r h) A B 2048 Ro (mb.view.read (Elt F) fm)) (f : S4096x2048.Idx → BitVec 32) (q : S4096x2048.Idx)
    (hq : q ∈ (mRow r h).view.set) :
    (mRow r h).view.write (Elt F) f (mb.view.read (Elt F) fm) Finset.univ q = maskOf X q := by
  obtain ⟨k, -, rfl⟩ := Finset.mem_map.mp hq
  rw [View.write_emb_of_mem _ _ (Finset.mem_univ k)]
  rw [hD.2 (k 0).val (k 0).isLt k rfl (k 0).isLt]
  rw [emb_mRow]
  rfl

theorem credit_zero : (pRow 0 0 (by decide)).view.dmaCredit = (mRow 0 (by decide)).view.dmaCredit := by decide +kernel

/-- A copy of a plane's row and a copy of the mask's row count the same. -/
theorem credit_p (c : Fin 5) (r : Nat) (h : r < 4096) : (pRow c r h).view.dmaCredit = (mRow r h).view.dmaCredit := credit_zero

/-- The five planes of a staged row are the whole row. -/
theorem mem_oPlane (o : Memref sig .scVector .vmem S10240 .f32) (c : Fin 5) (k : S10240.Idx) :
    o.view.emb k ∈ (oPlane o c).view.set ↔ (k 0).val / 2048 = c.val := by
  rw [show (oPlane o c).view.set = o.view.setOn (Rect.unit (s := S10240) ![2048 * c.val] S2048.size (inb_o c)).set from View.set_slice _ _,
    View.mem_setOn, Rect.mem_set_unit]
  constructor
  · intro hq; have e : 2048 * c.val ≤ (k 0).val ∧ (k 0).val < 2048 * c.val + 2048 := hq 0; omega
  · intro e a
    obtain rfl : a = 0 := Subsingleton.elim _ _
    show 2048 * c.val ≤ (k 0).val ∧ (k 0).val < 2048 * c.val + 2048
    omega

theorem oPlane_disjoint (o : Memref sig .scVector .vmem S10240 .f32) (c c' : Fin 5) (h : c ≠ c') :
    Disjoint (oPlane o c).view.set (oPlane o c').view.set := by
  rw [Finset.disjoint_left]
  intro q hq hq'
  have hs : q ∈ o.view.set := View.set_slice_subset _ _ hq
  obtain ⟨k, -, rfl⟩ := Finset.mem_map.mp hs
  exact h (Fin.ext (((mem_oPlane o c k).mp hq).symm.trans ((mem_oPlane o c' k).mp hq')))

theorem oPlane_union (o : Memref sig .scVector .vmem S10240 .f32) :
    (Finset.univ : Finset (Fin 5)).biUnion (fun c => (oPlane o c).view.set) = o.view.set := by
  ext q
  rw [Finset.mem_biUnion]
  constructor
  · rintro ⟨c, -, hq⟩; exact View.set_slice_subset _ _ hq
  · intro hq
    obtain ⟨k, -, rfl⟩ := Finset.mem_map.mp hq
    have hk : (k 0).val < 10240 := (k 0).isLt
    obtain ⟨c, hc⟩ : ∃ c : Fin 5, (k 0).val / 2048 = c.val := ⟨⟨(k 0).val / 2048, by omega⟩, rfl⟩
    exact ⟨c, Finset.mem_univ _, (mem_oPlane o c k).mpr hc⟩

end Cert.Proof.Ring
-- ==== Proof.Copies.lean ====
/-
  A slot's copies: a row asked for and waited for, six copies out started and waited for.
-/
module

public import proofs.«01_k».proof.Proof.Rows

@[expose] public section

set_option maxRecDepth 65536

noncomputable section

namespace Cert.Proof.Ring

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The counters of the copies. -/
abbrev EC : UEmb Counters (MT nD τ sig (HIx 1) (Elt F) ℕ UU ℕ) := countersEmb (U := UU)

variable (d : Dev nD) (c : Fin τ.nSC) (s : Fin τ.nSub)

/-- What the tile owes, having waited on nothing but copies since `W`. -/
def Owed (O : CellTallies nD τ sig (HIx 1)) (W : Waits sig (HIx 1)) : sProp 𝕄 :=
  iprop(∃ W', ⌜∀ p ∈ W', p ∈ W ∨ p.2 = none⌝ ∗ owes (V d c s) O W')

variable (S : Slot) (X : S4096x6144.Idx → F .f32) (A B : S2048.Idx → F .f32)

/-- The slot's input buffer, idle. -/
def inFree : sProp 𝕄 := iprop((∃ f, held (F := F) d c s S.xin fullShare f) ∗ semVal (V d c s, .dma S.si.sem) 0)

/-- The slot's input buffer, row `r` on its way in. -/
def inFlight (r : Nat) (h : r < 4096) : sProp 𝕄 :=
  Transfers.Flight EC (V d c s) (.dma S.si.sem) none S.xin.view.dmaCredit
    iprop((∃ f, ⌜S.xin.view.read (Elt F) f = rowOf X r h⌝ ∗ held d c s S.xin fullShare f) ∗ held d c s (xRow r h) fullShare X)

/-- Row `r` of the planes and of the mask at given contents. -/
def outRow (P : S5x4096x2048.Idx → F .f32) (M : S4096x2048.Idx → BitVec 32) (r : Nat) (h : r < 4096) : sProp 𝕄 :=
  iprop(bigSep Finset.univ (fun p : Fin 5 => held d c s (pRow p r h) fullShare P) ∗ held (F := F) d c s (mRow r h) fullShare M)

/-- The slot's staged buffers, idle. -/
def outFree : sProp 𝕄 :=
  iprop((∃ f, held (F := F) d c s S.o fullShare f) ∗ (∃ f, held (F := F) d c s S.mb fullShare f) ∗ semVal (V d c s, .dma S.so.sem) 0)

/-- What each of the six copies out of a finished row delivers: five planes' rows, then the mask's. -/
def outPay (r : Nat) (h : r < 4096) (fo : Buf (Elt F) (S.o.view.loc (V d c s))) (fm : Buf (Elt F) (S.mb.view.loc (V d c s))) (t : Fin 6) : sProp 𝕄 :=
  if ht : t.val < 5 then iprop(held d c s (pRow ⟨t.val, ht⟩ r h) fullShare (planesOf X A B) ∗ held d c s (oPlane S.o ⟨t.val, ht⟩) fullShare fo)
  else iprop(held (F := F) d c s (mRow r h) fullShare (maskOf X) ∗ held d c s S.mb fullShare fm)

instance outPay_storable (r : Nat) (h : r < 4096) (fo) (fm) (t : Fin 6) : Storable (upEmb : UEmb _ 𝕄) (outPay d c s S X A B r h fo fm t) := by
  unfold outPay; split <;> infer_instance

theorem outPay_plane (r : Nat) (h : r < 4096) (fo) (fm) (p : Fin 5) (hp : p.val < 6) :
    (outPay d c s S X A B r h fo fm ⟨p.val, hp⟩ : sProp 𝕄)
      = iprop(held d c s (pRow p r h) fullShare (planesOf X A B) ∗ held d c s (oPlane S.o p) fullShare fo) := dif_pos p.isLt

theorem outPay_mask (r : Nat) (h : r < 4096) (fo) (fm) (hp : 5 < 6) :
    (outPay d c s S X A B r h fo fm ⟨5, hp⟩ : sProp 𝕄)
      = iprop(held (F := F) d c s (mRow r h) fullShare (maskOf X) ∗ held d c s S.mb fullShare fm) := dif_neg (Nat.lt_irrefl 5)

theorem bigSep_five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, bigSep_insert (by decide), bigSep_insert (by decide),
    bigSep_insert (by decide), bigSep_insert (by decide), bigSep_singleton]
  rfl

theorem bigSep_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide, bigSep_insert (by decide), bigSep_insert (by decide),
    bigSep_insert (by decide), bigSep_insert (by decide), bigSep_insert (by decide), bigSep_singleton]
  rfl

/-- A staged row is its five planes. -/
theorem held_planes (o : Memref sig .scVector .vmem S10240 .f32) (fo : Buf (Elt F) (o.view.loc (V d c s))) :
    (held d c s o fullShare fo : sProp 𝕄) = bigSep Finset.univ (fun p : Fin 5 => held d c s (oPlane o p) fullShare fo) := by
  unfold held
  rw [← oPlane_union o]
  exact pointsTo_biUnion _ _ fun p _ p' _ h => oPlane_disjoint o p p' h

/-- The six deliveries are the answer's row and the staged buffers. -/
theorem outPay_all (r : Nat) (h : r < 4096) (fo) (fm) :
    (bigSep Finset.univ (outPay d c s S X A B r h fo fm) : sProp 𝕄)
      ⊢ iprop(outRow d c s (planesOf X A B) (maskOf X) r h ∗ held d c s S.o fullShare fo ∗ held d c s S.mb fullShare fm) := by
  unfold outRow
  rw [held_planes, bigSep_five, bigSep_five, bigSep_six]
  rw [show outPay d c s S X A B r h fo fm 0 = _ from outPay_plane d c s S X A B r h fo fm 0 (by decide),
    show outPay d c s S X A B r h fo fm 1 = _ from outPay_plane d c s S X A B r h fo fm 1 (by decide),
    show outPay d c s S X A B r h fo fm 2 = _ from outPay_plane d c s S X A B r h fo fm 2 (by decide),
    show outPay d c s S X A B r h fo fm 3 = _ from outPay_plane d c s S X A B r h fo fm 3 (by decide),
    show outPay d c s S X A B r h fo fm 4 = _ from outPay_plane d c s S X A B r h fo fm 4 (by decide),
    show outPay d c s S X A B r h fo fm 5 = _ from outPay_mask d c s S X A B r h fo fm (by decide)]
  iintro ⟨⟨H0, G0⟩, ⟨H1, G1⟩, ⟨H2, G2⟩, ⟨H3, G3⟩, ⟨H4, G4⟩, ⟨H5, G5⟩⟩
  iframe

/-- What a copy out counts. -/
def nOut : ℕ := (mRow 0 (by decide)).view.dmaCredit

theorem nOut_pos : 0 < nOut := View.dmaCredit_pos _ (by decide)

theorem amount_p (p : Fin 5) (r : Nat) (h : r < 4096) (x : DmaSem sig) : (pRow p r h).view.amount (.dma x) = nOut := credit_p p r h
theorem amount_m (r : Nat) (h : r < 4096) (x : DmaSem sig) : (mRow r h).view.amount (.dma x) = nOut := rfl
theorem credit_out (p : Fin 5) (r : Nat) (h : r < 4096) : (pRow p r h).view.dmaCredit = nOut := credit_p p r h
theorem credit_mask (r : Nat) (h : r < 4096) : (mRow r h).view.dmaCredit = nOut := rfl

attribute [irreducible] nOut

/-- The slot's staged buffers, row `r` on its way out. -/
def outFlight (r : Nat) (h : r < 4096) : sProp 𝕄 :=
  iprop(∃ fo fm, Transfers.Batch EC (V d c s) (.dma S.so.sem) none nOut (outPay d c s S X A B r h fo fm) 6 0)

variable {α : Type} (kk : PUnit → Prog (TpuEff nD τ sig (Elt F) Λ₀ (.scVector c s)) α) (Q : α → sProp (MT nD τ sig (HIx 1) (Elt F) ℕ UU ℕ))

theorem issueIn_wp (r : Nat) (h : r < 4096) (off : Fin 2 → Nat) (hoff : ∀ a, off a + S1x6144.size a ≤ S4096x6144.size a) (e : off = ![r, 0]) :
    iprop(held d c s (xRow r h) fullShare X ∗ inFree d c s S)
      ⊢ iprop((inFlight d c s S X r h -∗ wp frame (wpE (defs₀ (F := F)) 𝒱₀ (V d c s) none) Set.univ (kk ⟨⟩) Q)
        -∗ wp frame (wpE (defs₀ (F := F)) 𝒱₀ (V d c s) none) Set.univ (issueIn S gx off hoff >>= kk) Q) := by
  subst e
  unfold inFree
  iintro ⟨Hx, ⟨%f, Hf⟩, Hs⟩ HK
  iapply (Transfers.wp_dmaLocal EC 𝒱₀ (V d c s) none (src := xRow r h) (dst := S.xin) none S.xin.view.dmaCredit rfl
    (View.dmaCredit_pos _ (by decide)) Finset.Subset.rfl) $$ [Hx Hf Hs]
  · isplitl [Hx]; · iexact Hx
    isplitl [Hf]; · iexact Hf
    iexact Hs
  iintro Hfl
  iapply HK
  unfold inFlight
  iapply (Transfers.Flight_mono EC (V d c s) _) $$ Hfl
  iintro ⟨Hd, Hs⟩
  isplitl [Hd]
  · iexists _
    isplitr
    rotate_left
    · iexact Hd
    · ipureintro
      exact (View.read_write_univ _ _).trans (read_xRow X r h)
  · iexact Hs

theorem waitIn_wp (O : CellTallies nD τ sig (HIx 1)) (W : Waits sig (HIx 1)) (r : Nat) (h : r < 4096) :
    iprop(Transfers.MayWaits (V d c s) none O ∗ Owed d c s O W ∗ inFlight d c s S X r h)
      ⊢ iprop((Owed d c s O W -∗ (∃ f, ⌜S.xin.view.read (Elt F) f = rowOf X r h⌝ ∗ held d c s S.xin fullShare f)
            -∗ held d c s (xRow r h) fullShare X -∗ semVal (V d c s, .dma S.si.sem) 0 -∗ wp frame (wpE (defs₀ (F := F)) 𝒱₀ (V d c s) none) Set.univ (kk ⟨⟩) Q)
        -∗ wp frame (wpE (defs₀ (F := F)) 𝒱₀ (V d c s) none) Set.univ (waitIn S gx >>= kk) Q) := by
  unfold inFlight Owed
  iintro ⟨#HM, ⟨%W', %hW, HO⟩, HF⟩ HK
  iapply (Transfers.wp_waitLocalO EC 𝒱₀ (V d c s) none (dstw := S.xin) none rfl) $$ [HF HO]
  · isplitl [HF]; · iexact HF
    isplitl [HO]; · iexact HO
    iapply (Transfers.MayWaits.elim (SemLoc.dma S.si.sem)) $$ HM
  iintro ⟨⟨Hf, Hx⟩, Hs, HO⟩
  iapply HK $$ [HO] [Hf] [Hx] [Hs]
  rotate_left
  · iexact Hf
  · iexact Hx
  · iexact Hs
  iexists _
  isplitr
  rotate_left
  · iexact HO
  · ipureintro
    intro p hp
    rcases Finset.mem_insert.mp hp with rfl | hp
    · exact Or.inr rfl
    · exact hW p hp

/-- One plane's row is sent. -/
theorem sendPlane_wp (r : Nat) (h : r < 4096) (P : S5x4096x2048.Idx → F .f32)
    (fo : Buf (Elt F) (S.o.view.loc (V d c s))) (fm : Buf (Elt F) (S.mb.view.loc (V d c s)))
    (hD : Done (rowOf X r h) A B 2048 (S.o.view.read (Elt F) fo) (S.mb.view.read (Elt F) fm))
    (p : Fin 5) (off : Fin 3 → Nat) (hoff : ∀ a, off a + S1x1x2048.size a ≤ S5x4096x2048.size a) (e : off = ![p.val, r, 0]) :
    iprop(held d c s (oPlane S.o p) fullShare fo ∗ held d c s (pRow p r h) fullShare P
        ∗ Transfers.Batch EC (V d c s) (.dma S.so.sem) none nOut (outPay d c s S X A B r h fo fm) p.val 0)
      ⊢ iprop((Transfers.Batch EC (V d c s) (.dma S.so.sem) none nOut (outPay d c s S X A B r h fo fm) (p.val + 1) 0
            -∗ wp frame (wpE (defs₀ (F := F)) 𝒱₀ (V d c s) none) Set.univ (kk ⟨⟩) Q)
        -∗ wp frame (wpE (defs₀ (F := F)) 𝒱₀ (V d c s) none) Set.univ
            (Prog.lift (.enqueueDma (oPlane S.o p) (.here ((gp.slice (Rect.unit (s := S5x4096x2048) off S1x1x2048.size hoff) (fun _ => rfl)).squeeze S2048 squeezes_S1x1x2048_S2048)) (.dma S.so.sem) (View.wordExact_bits rfl) ((View.wordExact_bits rfl).reshape _ _) ⟨Or.inl rfl, trivial⟩) >>= kk) Q) := by
  subst e
  have hp : p.val < 6 := by omega
  have hpay : iprop(((pRow p r h).view.loc (V d c s) ↦[(pRow p r h).view.set]{fullShare}
        ((pRow p r h).view.write (Elt F) P ((oPlane S.o p).view.read (Elt F) fo) Finset.univ))
      ∗ ((oPlane S.o p).view.loc (V d c s) ↦[(oPlane S.o p).view.set]{fullShare} fo)) ⊢ outPay d c s S X A B r h fo fm ⟨p.val, hp⟩ := by
    rw [outPay_plane]
    refine sep_mono (Entails.of_eq ?_) .rfl
    exact pointsTo_congr fun q hq => write_pRow X A B p r h S.o fo _ hD P q hq
  exact @Transfers.wp_dmaBatch nD τ sig (HIx 1) _ (Elt F) ℕ _ UU _ ℕ EC _ _ (defs₀ (F := F)) 𝒱₀ (V d c s) none α Q .vmem .hbm S2048 .f32 6 _ _ S2048 .f32 (oPlane S.o p) .same (pRow p r h) (.dma S.so.sem) (View.wordExact_bits rfl) ((View.wordExact_bits rfl).reshape _ _) ⟨Or.inl rfl, trivial⟩ kk fullShare fo (pRow p r h).view.set P (outPay d c s S X A B r h fo fm) p.val 0 none nOut
    (amount_p p r h S.so.sem) Finset.Subset.rfl hp (Nat.zero_le _) hpay

/-- The mask's row is sent. -/
theorem sendMask_wp (r : Nat) (h : r < 4096) (M : S4096x2048.Idx → BitVec 32)
    (fo : Buf (Elt F) (S.o.view.loc (V d c s))) (fm : Buf (Elt F) (S.mb.view.loc (V d c s)))
    (hD : Done (rowOf X r h) A B 2048 (S.o.view.read (Elt F) fo) (S.mb.view.read (Elt F) fm))
    (off : Fin 2 → Nat) (hoff : ∀ a, off a + S1x2048.size a ≤ S4096x2048.size a) (e : off = ![r, 0]) :
    iprop(held d c s S.mb fullShare fm ∗ held (F := F) d c s (mRow r h) fullShare M
        ∗ Transfers.Batch EC (V d c s) (.dma S.so.sem) none nOut (outPay d c s S X A B r h fo fm) 5 0)
      ⊢ iprop((Transfers.Batch EC (V d c s) (.dma S.so.sem) none nOut (outPay d c s S X A B r h fo fm) 6 0
            -∗ wp frame (wpE (defs₀ (F := F)) 𝒱₀ (V d c s) none) Set.univ (kk ⟨⟩) Q)
        -∗ wp frame (wpE (defs₀ (F := F)) 𝒱₀ (V d c s) none) Set.univ
            (Prog.lift (.enqueueDma S.mb (.here ((gm.slice (Rect.unit (s := S4096x2048) off S1x2048.size hoff) (fun _ => rfl)).squeeze S2048 squeezes_S1x2048_S2048)) (.dma S.so.sem) S.hmb.wordExact ((View.wordExact_bits rfl).reshape _ _) ⟨Or.inl rfl, trivial⟩) >>= kk) Q) := by
  subst e
  have hpay : iprop(((mRow r h).view.loc (V d c s) ↦[(mRow r h).view.set]{fullShare}
        ((mRow r h).view.write (Elt F) M (S.mb.view.read (Elt F) fm) Finset.univ))
      ∗ (S.mb.view.loc (V d c s) ↦[S.mb.view.set]{fullShare} fm)) ⊢ outPay d c s S X A B r h fo fm ⟨5, by decide⟩ := by
    rw [outPay_mask]
    refine sep_mono (Entails.of_eq ?_) .rfl
    exact pointsTo_congr fun q hq => write_mRow X A B r h S.mb fm _ hD M q hq
  exact @Transfers.wp_dmaBatch nD τ sig (HIx 1) _ (Elt F) ℕ _ UU _ ℕ EC _ _ (defs₀ (F := F)) 𝒱₀ (V d c s) none α Q .vmem .hbm S2048 .i32 6 _ _ S2048 .i32 S.mb .same (mRow r h) (.dma S.so.sem) S.hmb.wordExact ((View.wordExact_bits rfl).reshape _ _) ⟨Or.inl rfl, trivial⟩ kk fullShare fm (mRow r h).view.set M (outPay d c s S X A B r h fo fm) 5 0 none nOut
    (amount_m r h S.so.sem) Finset.Subset.rfl (by decide) (Nat.zero_le _) hpay

/-- The slot's six copies out are started. -/
theorem issueOut_wp (i : grid0.Coords) (t : Fin k0_t1_loop.trips) (b : Fin 4) (r : Nat) (h : r < 4096)
    (hr : 256 * (i 1).val + 128 * (i 0).val + 4 * t.val + b.val = r) (P : S5x4096x2048.Idx → F .f32) (M : S4096x2048.Idx → BitVec 32)
    (fo : Buf (Elt F) (S.o.view.loc (V d c s))) (fm : Buf (Elt F) (S.mb.view.loc (V d c s)))
    (hD : Done (rowOf X r h) A B 2048 (S.o.view.read (Elt F) fo) (S.mb.view.read (Elt F) fm)) :
    iprop(outRow d c s P M r h ∗ held d c s S.o fullShare fo ∗ held d c s S.mb fullShare fm ∗ semVal (V d c s, .dma S.so.sem) 0)
      ⊢ iprop((outFlight d c s S X A B r h -∗ wp frame (wpE (defs₀ (F := F)) 𝒱₀ (V d c s) none) Set.univ (kk ⟨⟩) Q)
        -∗ wp frame (wpE (defs₀ (F := F)) 𝒱₀ (V d c s) none) Set.univ (issueOut S gp gm i t b >>= kk) Q) := by
  subst hr
  unfold outRow issueOut
  simp only [bind_assoc]
  rw [held_planes, bigSep_five, bigSep_five]
  iintro ⟨⟨⟨P0, P1, P2, P3, P4⟩, P5⟩, ⟨O0, O1, O2, O3, O4⟩, O5, Hs⟩ HK
  imod (Transfers.batch_alloc' EC (V d c s) none nOut (outPay d c s S X A B _ h fo fm) (sm := .dma S.so.sem) (E := Set.univ)) $$ Hs with HB
  iapply (sendPlane_wp d c s S X A B _ Q _ h P fo fm hD 0 _ _ (k0_off24_eq i t b)) $$ [O0 P0 HB]
  · isplitl [O0]; · iexact O0
    isplitl [P0]; · iexact P0
    iexact HB
  iintro HB
  iapply (sendPlane_wp d c s S X A B _ Q _ h P fo fm hD 1 _ _ (k0_off25_eq i t b)) $$ [O1 P1 HB]
  · isplitl [O1]; · iexact O1
    isplitl [P1]; · iexact P1
    iexact HB
  iintro HB
  iapply (sendPlane_wp d c s S X A B _ Q _ h P fo fm hD 2 _ _ (k0_off26_eq i t b)) $$ [O2 P2 HB]
  · isplitl [O2]; · iexact O2
    isplitl [P2]; · iexact P2
    iexact HB
  iintro HB
  iapply (sendPlane_wp d c s S X A B _ Q _ h P fo fm hD 3 _ _ (k0_off27_eq i t b)) $$ [O3 P3 HB]
  · isplitl [O3]; · iexact O3
    isplitl [P3]; · iexact P3
    iexact HB
  iintro HB
  iapply (sendPlane_wp d c s S X A B _ Q _ h P fo fm hD 4 _ _ (k0_off28_eq i t b)) $$ [O4 P4 HB]
  · isplitl [O4]; · iexact O4
    isplitl [P4]; · iexact P4
    iexact HB
  iintro HB
  iapply (sendMask_wp d c s S X A B kk Q _ h M fo fm hD _ _ (k0_off29_eq i t b)) $$ [O5 P5 HB]
  · isplitl [O5]; · iexact O5
    isplitl [P5]; · iexact P5
    iexact HB
  iintro HB
  iapply HK
  unfold outFlight
  iexists fo, fm
  iexact HB

/-- One of the first five waits for the slot's copies out. -/
theorem waitSent_wp {sh sh' : Shape} {e e' : EltTy} {sp sp' : Space} {κ' : Kind} (O : CellTallies nD τ sig (HIx 1)) (W : Waits sig (HIx 1)) (D : Fin 6 → sProp (MT nD τ sig (HIx 1) (Elt F) ℕ UU ℕ)) (k : ℕ) (hk : k < 5)
    (srcw : Memref sig .scVector sp' sh' e') (dstw : Memref sig κ' sp sh e) (hsrc : srcw.view.WordExact) (hdst : dstw.view.WordExact)
    (hN : dstw.view.dmaCredit = nOut) :
    iprop(Transfers.MayWaits (V d c s) none O ∗ Owed d c s O W ∗ Transfers.Batch EC (V d c s) (.dma S.so.sem) none nOut D 6 (k * nOut))
      ⊢ iprop((Owed d c s O W -∗ Transfers.Batch EC (V d c s) (.dma S.so.sem) none nOut D 6 ((k + 1) * nOut)
            -∗ wp frame (wpE (defs₀ (F := F)) 𝒱₀ (V d c s) none) Set.univ (kk ⟨⟩) Q)
        -∗ wp frame (wpE (defs₀ (F := F)) 𝒱₀ (V d c s) none) Set.univ (Prog.lift (.waitDma2 S.so.sem srcw dstw hsrc hdst) >>= kk) Q) := by
  unfold Owed
  iintro ⟨#HM, ⟨%W', %hW, HO⟩, HB⟩ HK
  have hu : k * nOut + nOut < nOut * 6 := by
    rw [← Nat.succ_mul, Nat.mul_comm nOut 6]
    exact Nat.mul_lt_mul_of_pos_right (by omega) nOut_pos
  iapply (Transfers.wp_waitBatchO EC 𝒱₀ (V d c s) none (dstw := dstw) none hN (D := D) hu) $$ [HB HO]
  · isplitl [HB]; · iexact HB
    isplitl [HO]; · iexact HO
    iapply (Transfers.MayWaits.elim (SemLoc.dma S.so.sem)) $$ HM
  rw [show k * nOut + nOut = (k + 1) * nOut by ring]
  iintro ⟨HB, HO⟩
  iapply HK $$ [HO] [HB]
  rotate_left
  · iexact HB
  iexists _
  isplitr
  rotate_left
  · iexact HO
  · ipureintro
    intro p hp
    rcases Finset.mem_insert.mp hp with rfl | hp
    · exact Or.inr rfl
    · exact hW p hp

/-- The slot's six copies out are waited for. -/
theorem waitOut_wp (O : CellTallies nD τ sig (HIx 1)) (W : Waits sig (HIx 1)) (r : Nat) (h : r < 4096) :
    iprop(Transfers.MayWaits (V d c s) none O ∗ Owed d c s O W ∗ outFlight d c s S X A B r h)
      ⊢ iprop((Owed d c s O W -∗ outRow d c s (planesOf X A B) (maskOf X) r h -∗ outFree d c s S
            -∗ wp frame (wpE (defs₀ (F := F)) 𝒱₀ (V d c s) none) Set.univ (kk ⟨⟩) Q)
        -∗ wp frame (wpE (defs₀ (F := F)) 𝒱₀ (V d c s) none) Set.univ (waitOut S gp gm >>= kk) Q) := by
  unfold outFlight waitOut
  simp only [bind_assoc]
  iintro ⟨#HM, HO, ⟨%fo, %fm, HB⟩⟩ HK
  iapply (waitSent_wp d c s S _ Q O W _ 0 (by decide) _ _ _ _ (credit_out 0 0 (by decide))) $$ [HO HB]
  · rw [Nat.zero_mul]; iframe; iexact HM
  iintro HO HB
  iapply (waitSent_wp d c s S _ Q O W _ 1 (by decide) _ _ _ _ (credit_out 0 0 (by decide))) $$ [HO HB]
  · iframe; iexact HM
  iintro HO HB
  iapply (waitSent_wp d c s S _ Q O W _ 2 (by decide) _ _ _ _ (credit_out 0 0 (by decide))) $$ [HO HB]
  · iframe; iexact HM
  iintro HO HB
  iapply (waitSent_wp d c s S _ Q O W _ 3 (by decide) _ _ _ _ (credit_out 0 0 (by decide))) $$ [HO HB]
  · iframe; iexact HM
  iintro HO HB
  iapply (waitSent_wp d c s S _ Q O W _ 4 (by decide) _ _ _ _ (credit_out 0 0 (by decide))) $$ [HO HB]
  · iframe; iexact HM
  iintro HO HB
  unfold Owed
  icases HO with ⟨%W', %hW, HO⟩
  iapply (Transfers.wp_waitBatchLastO EC 𝒱₀ (V d c s) none (dstw := mRow 0 (by decide)) none (N := nOut) (credit_mask 0 (by decide)) nOut_pos
    (D := outPay d c s S X A B r h fo fm) (u := 5 * nOut) (by omega)) $$ [HB HO]
  · isplitl [HB]; · iexact HB
    isplitl [HO]; · iexact HO
    iapply (Transfers.MayWaits.elim (SemLoc.dma S.so.sem)) $$ HM
  iintro ⟨HD, Hs, HO⟩
  ihave HD' := (outPay_all d c s S X A B r h fo fm) $$ HD
  icases HD' with ⟨HR, Ho, Hm⟩
  iapply HK $$ [HO] [HR] [Ho Hm Hs]
  rotate_left
  · iexact HR
  · unfold outFree
    isplitl [Ho]; · iexists fo; iexact Ho
    isplitl [Hm]; · iexists fm; iexact Hm
    iexact Hs
  iexists _
  isplitr
  rotate_left
  · iexact HO
  · ipureintro
    intro p hp
    rcases Finset.mem_insert.mp hp with rfl | hp
    · exact Or.inr rfl
    · exact hW p hp

end Cert.Proof.Ring
-- ==== Proof.EqA.lean ====
/-
  The printed inner trips are the common one.
-/
module

public import proofs.«01_k».proof.Proof.Program

@[expose] public section

set_option maxRecDepth 65536

noncomputable section

namespace Cert.Proof.Ring

open Cert.KernelIdeal Cert.KernelIdeal.Gen
open Idealize.ShloMosaic Idealize.SL.Sem

variable {F : FTy → Type} [FloatOps F]

section Eq

variable (i : grid0.Coords) (arg2 : Memref sig .scVector .hbm S4096x6144 .f32) (harg2 : arg2.IsWhole) (arg3 : Memref sig .scVector .hbm S2048 .f32) (harg3 : arg3.IsWhole) (arg4 : Memref sig .scVector .hbm S2048 .f32) (harg4 : arg4.IsWhole) (arg5 : Memref sig .scVector .hbm S5x4096x2048 .f32) (harg5 : arg5.IsWhole) (arg6 : Memref sig .scVector .hbm S4096x2048 .i32) (harg6 : arg6.IsWhole) (arg7 : Memref sig .scVector .vmem S6144 .f32) (harg7 : arg7.IsWhole) (arg8 : Memref sig .scVector .vmem S6144 .f32) (harg8 : arg8.IsWhole) (arg9 : Memref sig .scVector .vmem S6144 .f32) (harg9 : arg9.IsWhole) (arg10 : Memref sig .scVector .vmem S6144 .f32) (harg10 : arg10.IsWhole) (arg11 : Memref sig .scVector .vmem S10240 .f32) (harg11 : arg11.IsWhole) (arg12 : Memref sig .scVector .vmem S10240 .f32) (harg12 : arg12.IsWhole) (arg13 : Memref sig .scVector .vmem S10240 .f32) (harg13 : arg13.IsWhole) (arg14 : Memref sig .scVector .vmem S10240 .f32) (harg14 : arg14.IsWhole) (arg15 : Memref sig .scVector .vmem S2048 .i32) (harg15 : arg15.IsWhole) (arg16 : Memref sig .scVector .vmem S2048 .i32) (harg16 : arg16.IsWhole) (arg17 : Memref sig .scVector .vmem S2048 .i32) (harg17 : arg17.IsWhole) (arg18 : Memref sig .scVector .vmem S2048 .i32) (harg18 : arg18.IsWhole) (arg19 : Memref sig .scVector .vmem S2048 .f32) (harg19 : arg19.IsWhole) (arg20 : Memref sig .scVector .vmem S2048 .f32) (harg20 : arg20.IsWhole) (arg21 arg22 arg23 arg24 arg25 arg26 arg27 arg28 v176_r0 v176_r1 : DmaSems sig S_)

set_option maxHeartbeats 4000000 in
/-- Slot 0's inner trip is the common one over the slot's buffers. -/
theorem t2_body_eq (v2 c0 c1 : BitVec 32) (t : Fin k0_t1_loop.trips) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 arg27 arg28 v176_r0 v176_r1 v2 k0_pay325 (k0_pay326 (F := F)) c0 c1 t
      = trip (F := F) arg7 arg11 arg15 arg19 arg20 := by
  funext k u
  simp only [k0_t2_body, trip, grp, k0_part2, k0_part3, k0_part4, k0_part5, k0_part6, k0_part7, k0_part8, k0_part9, k0_part10, k0_part11, bind_assoc, pure_bind]
  rfl

set_option maxHeartbeats 4000000 in
/-- Slot 1's inner trip is the common one over the slot's buffers. -/
theorem t3_body_eq (c0 : BitVec 32) (t : Fin k0_t1_loop.trips) :
    k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 arg27 arg28 v176_r0 v176_r1 k0_pay325 (k0_pay326 (F := F)) t c0
      = trip (F := F) arg8 arg12 arg16 arg19 arg20 := by
  funext k u
  simp only [k0_t3_body, trip, grp, k0_part13, k0_part14, k0_part15, k0_part16, k0_part17, k0_part18, k0_part19, k0_part20, k0_part21, k0_part22, bind_assoc, pure_bind]
  rfl

set_option maxHeartbeats 4000000 in
/-- Slot 2's inner trip is the common one over the slot's buffers. -/
theorem t4_body_eq (v2 c0 c1 c2 : BitVec 32) (t : Fin k0_t1_loop.trips) :
    k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 arg27 arg28 v176_r0 v176_r1 v2 k0_pay325 (k0_pay326 (F := F)) t c0 c1 c2
      = trip (F := F) arg9 arg13 arg17 arg19 arg20 := by
  funext k u
  simp only [k0_t4_body, trip, grp, k0_part24, k0_part25, k0_part26, k0_part27, k0_part28, k0_part29, k0_part30, k0_part31, k0_part32, k0_part33, bind_assoc, pure_bind]
  rfl

set_option maxHeartbeats 4000000 in
/-- Slot 3's inner trip is the common one over the slot's buffers. -/
theorem t5_body_eq (v2 c0 c1 : BitVec 32) (w : BitVec 1) (t : Fin k0_t1_loop.trips) :
    k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 arg27 arg28 v176_r0 v176_r1 v2 k0_pay325 (k0_pay326 (F := F)) t c0 c1 w
      = trip (F := F) arg10 arg14 arg18 arg19 arg20 := by
  funext k u
  simp only [k0_t5_body, trip, grp, k0_part35, k0_part36, k0_part37, k0_part38, k0_part39, k0_part40, k0_part41, k0_part42, k0_part43, k0_part44, bind_assoc, pure_bind]
  rfl

end Eq

end Cert.Proof.Ring
-- ==== Proof.EqB.lean ====
/-
  The printed ring trip is the four slots' turns.
-/
module

public import proofs.«01_k».proof.Proof.EqA

@[expose] public section

set_option maxRecDepth 65536

noncomputable section

namespace Cert.Proof.Ring

open Cert.KernelIdeal Cert.KernelIdeal.Gen
open Idealize.ShloMosaic Idealize.SL.Sem

variable {F : FTy → Type} [FloatOps F]

/-- The buffer a piece of a memref lies in is the memref's. -/
theorem piece_ref {κ : Kind} {sp : Space} {s s2 : Shape} {e : EltTy} (m : Memref sig κ sp s e) (r : Rect s) (h) (hs) :
    ((m.slice r h).squeeze s2 hs).view.ref = m.view.ref := rfl

/-- The ring looks back past its first trip exactly when slot 0 does. -/
theorem cond_wait (t : Fin k0_t1_loop.trips) : k0_cond3 t = k0_cond1 t ∧ k0_cond5 t = k0_cond1 t ∧ k0_cond7 t = k0_cond1 t := by
  revert t; decide +kernel

/-- The ring asks for another row at every slot exactly when it does at slot 0. -/
theorem cond_next (t : Fin k0_t1_loop.trips) : k0_cond4 t = k0_cond2 t ∧ k0_cond6 t = k0_cond2 t ∧ k0_cond8 t = k0_cond2 t := by
  revert t; decide +kernel

section Eq

variable (i : grid0.Coords) (arg2 : Memref sig .scVector .hbm S4096x6144 .f32) (harg2 : arg2.IsWhole) (arg3 : Memref sig .scVector .hbm S2048 .f32) (harg3 : arg3.IsWhole) (arg4 : Memref sig .scVector .hbm S2048 .f32) (harg4 : arg4.IsWhole) (arg5 : Memref sig .scVector .hbm S5x4096x2048 .f32) (harg5 : arg5.IsWhole) (arg6 : Memref sig .scVector .hbm S4096x2048 .i32) (harg6 : arg6.IsWhole) (arg7 : Memref sig .scVector .vmem S6144 .f32) (harg7 : arg7.IsWhole) (arg8 : Memref sig .scVector .vmem S6144 .f32) (harg8 : arg8.IsWhole) (arg9 : Memref sig .scVector .vmem S6144 .f32) (harg9 : arg9.IsWhole) (arg10 : Memref sig .scVector .vmem S6144 .f32) (harg10 : arg10.IsWhole) (arg11 : Memref sig .scVector .vmem S10240 .f32) (harg11 : arg11.IsWhole) (arg12 : Memref sig .scVector .vmem S10240 .f32) (harg12 : arg12.IsWhole) (arg13 : Memref sig .scVector .vmem S10240 .f32) (harg13 : arg13.IsWhole) (arg14 : Memref sig .scVector .vmem S10240 .f32) (harg14 : arg14.IsWhole) (arg15 : Memref sig .scVector .vmem S2048 .i32) (harg15 : arg15.IsWhole) (arg16 : Memref sig .scVector .vmem S2048 .i32) (harg16 : arg16.IsWhole) (arg17 : Memref sig .scVector .vmem S2048 .i32) (harg17 : arg17.IsWhole) (arg18 : Memref sig .scVector .vmem S2048 .i32) (harg18 : arg18.IsWhole) (arg19 : Memref sig .scVector .vmem S2048 .f32) (harg19 : arg19.IsWhole) (arg20 : Memref sig .scVector .vmem S2048 .f32) (harg20 : arg20.IsWhole) (arg21 arg22 arg23 arg24 arg25 arg26 arg27 arg28 v176_r0 v176_r1 : DmaSems sig S_)

set_option maxHeartbeats 4000000 in
/-- A trip of the ring: the four slots' turns. -/
theorem t1_body_eq (v2 : BitVec 32) (t : Fin k0_t1_loop.trips) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 arg27 arg28 v176_r0 v176_r1 v2 t ⟨⟩
      = (do
        turn ⟨arg7, harg7, arg11, harg11, arg15, harg15, arg21, arg25⟩ arg2 arg5 arg6 arg19 arg20 i t 0 (k0_cond1 t) (k0_cond2 t) (k0_off30 i t) (fun h => k0_off30_inb i t h)
        turn ⟨arg8, harg8, arg12, harg12, arg16, harg16, arg22, arg26⟩ arg2 arg5 arg6 arg19 arg20 i t 1 (k0_cond3 t) (k0_cond4 t) (k0_off53 i t) (fun h => k0_off53_inb i t h)
        turn ⟨arg9, harg9, arg13, harg13, arg17, harg17, arg23, arg27⟩ arg2 arg5 arg6 arg19 arg20 i t 2 (k0_cond5 t) (k0_cond6 t) (k0_off76 i t) (fun h => k0_off76_inb i t h)
        turn ⟨arg10, harg10, arg14, harg14, arg18, harg18, arg24, arg28⟩ arg2 arg5 arg6 arg19 arg20 i t 3 (k0_cond7 t) (k0_cond8 t) (k0_off99 i t) (fun h => k0_off99_inb i t h)
        pure ⟨⟩) := by
  obtain ⟨e3, e5, e7⟩ := cond_wait t
  obtain ⟨e4, e6, e8⟩ := cond_next t
  by_cases h1 : k0_cond1 t = 1#1
  · by_cases h2 : k0_cond2 t = 1#1
    · have h3 : k0_cond3 t = 1#1 := by rw [e3]; exact h1
      have h5 : k0_cond5 t = 1#1 := by rw [e5]; exact h1
      have h7 : k0_cond7 t = 1#1 := by rw [e7]; exact h1
      have h4 : k0_cond4 t = 1#1 := by rw [e4]; exact h2
      have h6 : k0_cond6 t = 1#1 := by rw [e6]; exact h2
      have h8 : k0_cond8 t = 1#1 := by rw [e8]; exact h2
      simp only [k0_t1_body, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part1_eq_skeleton, k0_part1_skel, k0_part12_eq_skeleton, k0_part12_skel, k0_part23_eq_skeleton, k0_part23_skel, k0_part34_eq_skeleton, k0_part34_skel, t2_body_eq, t3_body_eq, t4_body_eq, t5_body_eq, turn, waitIn, waitOut, issueOut, issueIn, dif_pos h1, dif_pos h3, dif_pos h5, dif_pos h7, dif_pos h2, dif_pos h4, dif_pos h6, dif_pos h8, TpuEff.waitDma2, piece_ref, bind_assoc, pure_bind]
      rfl
    · have h3 : k0_cond3 t = 1#1 := by rw [e3]; exact h1
      have h5 : k0_cond5 t = 1#1 := by rw [e5]; exact h1
      have h7 : k0_cond7 t = 1#1 := by rw [e7]; exact h1
      have h4 : ¬ k0_cond4 t = 1#1 := by rw [e4]; exact h2
      have h6 : ¬ k0_cond6 t = 1#1 := by rw [e6]; exact h2
      have h8 : ¬ k0_cond8 t = 1#1 := by rw [e8]; exact h2
      simp only [k0_t1_body, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part1_eq_skeleton, k0_part1_skel, k0_part12_eq_skeleton, k0_part12_skel, k0_part23_eq_skeleton, k0_part23_skel, k0_part34_eq_skeleton, k0_part34_skel, t2_body_eq, t3_body_eq, t4_body_eq, t5_body_eq, turn, waitIn, waitOut, issueOut, issueIn, dif_pos h1, dif_pos h3, dif_pos h5, dif_pos h7, dif_neg h2, dif_neg h4, dif_neg h6, dif_neg h8, TpuEff.waitDma2, piece_ref, bind_assoc, pure_bind]
      rfl
  · by_cases h2 : k0_cond2 t = 1#1
    · have h3 : ¬ k0_cond3 t = 1#1 := by rw [e3]; exact h1
      have h5 : ¬ k0_cond5 t = 1#1 := by rw [e5]; exact h1
      have h7 : ¬ k0_cond7 t = 1#1 := by rw [e7]; exact h1
      have h4 : k0_cond4 t = 1#1 := by rw [e4]; exact h2
      have h6 : k0_cond6 t = 1#1 := by rw [e6]; exact h2
      have h8 : k0_cond8 t = 1#1 := by rw [e8]; exact h2
      simp only [k0_t1_body, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part1_eq_skeleton, k0_part1_skel, k0_part12_eq_skeleton, k0_part12_skel, k0_part23_eq_skeleton, k0_part23_skel, k0_part34_eq_skeleton, k0_part34_skel, t2_body_eq, t3_body_eq, t4_body_eq, t5_body_eq, turn, waitIn, waitOut, issueOut, issueIn, dif_neg h1, dif_neg h3, dif_neg h5, dif_neg h7, dif_pos h2, dif_pos h4, dif_pos h6, dif_pos h8, TpuEff.waitDma2, piece_ref, bind_assoc, pure_bind]
      rfl
    · have h3 : ¬ k0_cond3 t = 1#1 := by rw [e3]; exact h1
      have h5 : ¬ k0_cond5 t = 1#1 := by rw [e5]; exact h1
      have h7 : ¬ k0_cond7 t = 1#1 := by rw [e7]; exact h1
      have h4 : ¬ k0_cond4 t = 1#1 := by rw [e4]; exact h2
      have h6 : ¬ k0_cond6 t = 1#1 := by rw [e6]; exact h2
      have h8 : ¬ k0_cond8 t = 1#1 := by rw [e8]; exact h2
      simp only [k0_t1_body, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part1_eq_skeleton, k0_part1_skel, k0_part12_eq_skeleton, k0_part12_skel, k0_part23_eq_skeleton, k0_part23_skel, k0_part34_eq_skeleton, k0_part34_skel, t2_body_eq, t3_body_eq, t4_body_eq, t5_body_eq, turn, waitIn, waitOut, issueOut, issueIn, dif_neg h1, dif_neg h3, dif_neg h5, dif_neg h7, dif_neg h2, dif_neg h4, dif_neg h6, dif_neg h8, TpuEff.waitDma2, piece_ref, bind_assoc, pure_bind]
      rfl

end Eq

end Cert.Proof.Ring
-- ==== Proof.EqC.lean ====
/-
  The printed tile program is the prologue, the ring and the last waits.
-/
module

public import proofs.«01_k».proof.Proof.EqB

@[expose] public section

set_option maxRecDepth 65536

noncomputable section

namespace Cert.Proof.Ring

open Cert.KernelIdeal Cert.KernelIdeal.Gen
open Idealize.ShloMosaic Idealize.SL.Sem

variable {F : FTy → Type} [FloatOps F]

/-- The ring's turns on one trip. -/
def ringTrip {c : Fin τ.nSC} {s : Fin τ.nSub} (i : grid0.Coords) (S0 S1 S2 S3 : Slot) (g2 : Memref sig .scVector .hbm S4096x6144 .f32)
    (g5 : Memref sig .scVector .hbm S5x4096x2048 .f32) (g6 : Memref sig .scVector .hbm S4096x2048 .i32)
    (p0 p1 : Memref sig .scVector .vmem S2048 .f32) (t : Fin k0_t1_loop.trips) (_ : Unit) :
    Prog (TpuEff nD τ sig (Elt F) Λ₀ (.scVector c s)) Unit := do
  turn S0 g2 g5 g6 p0 p1 i t 0 (k0_cond1 t) (k0_cond2 t) (k0_off30 i t) (fun h => k0_off30_inb i t h)
  turn S1 g2 g5 g6 p0 p1 i t 1 (k0_cond3 t) (k0_cond4 t) (k0_off53 i t) (fun h => k0_off53_inb i t h)
  turn S2 g2 g5 g6 p0 p1 i t 2 (k0_cond5 t) (k0_cond6 t) (k0_off76 i t) (fun h => k0_off76_inb i t h)
  turn S3 g2 g5 g6 p0 p1 i t 3 (k0_cond7 t) (k0_cond8 t) (k0_off99 i t) (fun h => k0_off99_inb i t h)
  pure ⟨⟩

/-- The tile's program over any buffers: the two encodings brought in, four rows asked for, the ring, and the last copies
    waited for. -/
def tileProg {c : Fin τ.nSC} {s : Fin τ.nSub} (i : grid0.Coords) (S0 S1 S2 S3 : Slot) (g2 : Memref sig .scVector .hbm S4096x6144 .f32)
    (g3 g4 : Memref sig .scVector .hbm S2048 .f32) (hg3 : g3.IsWhole) (hg4 : g4.IsWhole)
    (g5 : Memref sig .scVector .hbm S5x4096x2048 .f32) (g6 : Memref sig .scVector .hbm S4096x2048 .i32)
    (p0 p1 : Memref sig .scVector .vmem S2048 .f32) (hp0 : p0.IsWhole) (hp1 : p1.IsWhole) (r0 r1 : DmaSems sig S_) :
    Prog (TpuEff nD τ sig (Elt F) Λ₀ (.scVector c s)) Unit := do
  Prog.lift (.enqueueDma g3 (.here p0) (.dma r0.sem) hg3.wordExact hp0.wordExact ⟨Or.inl rfl, trivial⟩)
  Prog.lift (.waitDma2 r0.sem g3 p0 hg3.wordExact hp0.wordExact)
  Prog.lift (.enqueueDma g4 (.here p1) (.dma r1.sem) hg4.wordExact hp1.wordExact ⟨Or.inl rfl, trivial⟩)
  Prog.lift (.waitDma2 r1.sem g4 p1 hg4.wordExact hp1.wordExact)
  issueIn S0 g2 (k0_off1 i 0#32) (k0_off1_inb i 0)
  issueIn S1 g2 (k0_off1 i 1#32) (k0_off1_inb i 1)
  issueIn S2 g2 (k0_off1 i 2#32) (k0_off1_inb i 2)
  issueIn S3 g2 (k0_off1 i 3#32) (k0_off1_inb i 3)
  Scf.Loop.for k0_t1_loop k0_t1_ok ⟨⟩ (ringTrip i S0 S1 S2 S3 g2 g5 g6 p0 p1)
  waitOut S0 g5 g6
  waitOut S1 g5 g6
  waitOut S2 g5 g6
  waitOut S3 g5 g6
  pure ⟨⟩

section Eq

variable (i : grid0.Coords) (arg2 : Memref sig .scVector .hbm S4096x6144 .f32) (harg2 : arg2.IsWhole) (arg3 : Memref sig .scVector .hbm S2048 .f32) (harg3 : arg3.IsWhole) (arg4 : Memref sig .scVector .hbm S2048 .f32) (harg4 : arg4.IsWhole) (arg5 : Memref sig .scVector .hbm S5x4096x2048 .f32) (harg5 : arg5.IsWhole) (arg6 : Memref sig .scVector .hbm S4096x2048 .i32) (harg6 : arg6.IsWhole) (arg7 : Memref sig .scVector .vmem S6144 .f32) (harg7 : arg7.IsWhole) (arg8 : Memref sig .scVector .vmem S6144 .f32) (harg8 : arg8.IsWhole) (arg9 : Memref sig .scVector .vmem S6144 .f32) (harg9 : arg9.IsWhole) (arg10 : Memref sig .scVector .vmem S6144 .f32) (harg10 : arg10.IsWhole) (arg11 : Memref sig .scVector .vmem S10240 .f32) (harg11 : arg11.IsWhole) (arg12 : Memref sig .scVector .vmem S10240 .f32) (harg12 : arg12.IsWhole) (arg13 : Memref sig .scVector .vmem S10240 .f32) (harg13 : arg13.IsWhole) (arg14 : Memref sig .scVector .vmem S10240 .f32) (harg14 : arg14.IsWhole) (arg15 : Memref sig .scVector .vmem S2048 .i32) (harg15 : arg15.IsWhole) (arg16 : Memref sig .scVector .vmem S2048 .i32) (harg16 : arg16.IsWhole) (arg17 : Memref sig .scVector .vmem S2048 .i32) (harg17 : arg17.IsWhole) (arg18 : Memref sig .scVector .vmem S2048 .i32) (harg18 : arg18.IsWhole) (arg19 : Memref sig .scVector .vmem S2048 .f32) (harg19 : arg19.IsWhole) (arg20 : Memref sig .scVector .vmem S2048 .f32) (harg20 : arg20.IsWhole) (arg21 arg22 arg23 arg24 arg25 arg26 arg27 arg28 v176_r0 v176_r1 : DmaSems sig S_)

set_option maxHeartbeats 4000000 in
/-- The printed tile program is that program over its arguments. -/
theorem k_eq :
    cc0_k (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 arg27 arg28 v176_r0 v176_r1
      = tileProg i ⟨arg7, harg7, arg11, harg11, arg15, harg15, arg21, arg25⟩ ⟨arg8, harg8, arg12, harg12, arg16, harg16, arg22, arg26⟩ ⟨arg9, harg9, arg13, harg13, arg17, harg17, arg23, arg27⟩ ⟨arg10, harg10, arg14, harg14, arg18, harg18, arg24, arg28⟩ arg2 arg3 arg4 harg3 harg4 arg5 arg6 arg19 arg20 harg19 harg20 v176_r0 v176_r1 := by
  have hb : ∀ v2, k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 arg27 arg28 v176_r0 v176_r1 v2 = ringTrip i ⟨arg7, harg7, arg11, harg11, arg15, harg15, arg21, arg25⟩ ⟨arg8, harg8, arg12, harg12, arg16, harg16, arg22, arg26⟩ ⟨arg9, harg9, arg13, harg13, arg17, harg17, arg23, arg27⟩ ⟨arg10, harg10, arg14, harg14, arg18, harg18, arg24, arg28⟩ arg2 arg5 arg6 arg19 arg20 := by
    intro v2; funext t u; exact t1_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 arg27 arg28 v176_r0 v176_r1 v2 t
  simp only [cc0_k_eq_skeleton, cc0_k_skel, k0_part51_eq_skeleton, k0_part51_skel, k0_part52_eq_skeleton, k0_part52_skel, k0_part53_eq_skeleton, k0_part53_skel, k0_part54_eq_skeleton, k0_part54_skel, k0_part55_eq_skeleton, k0_part55_skel, hb, tileProg, waitOut, issueIn, TpuEff.waitDma2, piece_ref, bind_assoc, pure_bind]

end Eq

end Cert.Proof.Ring
-- ==== Proof.Ring.lean ====
/-
  The ring: a turn at one slot moves one row of the tile through, and the whole run of turns moves all of them.
-/
module

public import proofs.«01_k».proof.Proof.Copies
public import proofs.«01_k».proof.Proof.EqC

@[expose] public section

set_option maxRecDepth 65536

noncomputable section

namespace Cert.Proof.Ring

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Ring (rangeSet mem_rangeSet rangeSet_univ bigSep_rangeSet_head bigSep_rangeSet_last bigSep_rangeSet_empty)

variable {F : FTy → Type} [FloatOps F]

local notation "𝕄" => MT nD τ sig (HIx 1) (Elt F) ℕ UU ℕ

section Tail

variable {c : Fin τ.nSC} {s : Fin τ.nSub}

/-- A turn after its waits. -/
def turnTail (S : Slot) (p0 p1 : Memref sig .scVector .vmem S2048 .f32) (i : grid0.Coords) (t : Fin k0_t1_loop.trips) (b : Fin 4)
    (cn : BitVec 1) (off : Fin 2 → Nat) (hoff : cn = 1#1 → ∀ a, off a + S1x6144.size a ≤ S4096x6144.size a) :
    Prog (TpuEff nD τ sig (Elt F) Λ₀ (.scVector c s)) PUnit := do
  Scf.Loop.for k0_t2_loop k0_t2_ok ⟨⟩ (trip S.xin S.o S.mb p0 p1)
  issueOut S gp gm i t b
  if h : cn = 1#1 then issueIn S gx off (hoff h) else pure ⟨⟩

theorem turn_wait (S : Slot) (p0 p1 : Memref sig .scVector .vmem S2048 .f32) (i : grid0.Coords) (t : Fin k0_t1_loop.trips) (b : Fin 4)
    (cw cn : BitVec 1) (off : Fin 2 → Nat) (hoff : cn = 1#1 → ∀ a, off a + S1x6144.size a ≤ S4096x6144.size a) (h : cw = 1#1) :
    turn (F := F) (c := c) (s := s) S gx gp gm p0 p1 i t b cw cn off hoff
      = waitIn S gx >>= fun _ => waitOut S gp gm >>= fun _ => turnTail S p0 p1 i t b cn off hoff := by
  unfold turn turnTail
  simp only [dif_pos h, bind_assoc, pure_bind]
  by_cases h' : cn = 1#1
  · simp only [dif_pos h', bind_pure_comp]; rfl
  · simp only [dif_neg h']

theorem turn_plain (S : Slot) (p0 p1 : Memref sig .scVector .vmem S2048 .f32) (i : grid0.Coords) (t : Fin k0_t1_loop.trips) (b : Fin 4)
    (cw cn : BitVec 1) (off : Fin 2 → Nat) (hoff : cn = 1#1 → ∀ a, off a + S1x6144.size a ≤ S4096x6144.size a) (h : ¬cw = 1#1) :
    turn (F := F) (c := c) (s := s) S gx gp gm p0 p1 i t b cw cn off hoff
      = waitIn S gx >>= fun _ => turnTail S p0 p1 i t b cn off hoff := by
  unfold turn turnTail
  simp only [dif_neg h, pure_bind]
  by_cases h' : cn = 1#1
  · simp only [dif_pos h', bind_pure_comp]; rfl
  · simp only [dif_neg h']

end Tail

variable (d : Dev nD) (c : Fin τ.nSC) (s : Fin τ.nSub)
variable (X : S4096x6144.Idx → F .f32) (A B : S2048.Idx → F .f32) (P : S5x4096x2048.Idx → F .f32) (M : S4096x2048.Idx → BitVec 32)
variable (R : ℕ) (hR : R + 128 ≤ 4096)

theorem row_lt (hR : R + 128 ≤ 4096) (j : Fin 128) : R + j.val < 4096 := by omega

/-- The tile's row `j` of the input, and of the outputs before and after. -/
abbrev xAt (j : Fin 128) : sProp 𝕄 := held d c s (xRow (R + j.val) (row_lt R hR j)) fullShare X
abbrev oldAt (j : Fin 128) : sProp 𝕄 := outRow d c s P M (R + j.val) (row_lt R hR j)
abbrev newAt (j : Fin 128) : sProp 𝕄 := outRow d c s (planesOf X A B) (maskOf X) (R + j.val) (row_lt R hR j)

/-- A slot before the turn on row `n`: the row on its way in (if there is such a row), and the row four before on its way out. -/
def inAt (S : Slot) (n : ℕ) : sProp 𝕄 := if h : n < 128 then inFlight d c s S X (R + n) (by omega) else inFree d c s S
def outAt (S : Slot) (n : ℕ) : sProp 𝕄 := if h : 4 ≤ n ∧ n < 132 then outFlight d c s S X A B (R + (n - 4)) (by omega) else outFree d c s S

/-- The encodings, staged. -/
def encAt (p0 p1 : Memref sig .scVector .vmem S2048 .f32) : sProp 𝕄 :=
  iprop(∃ f0 f1, ⌜p0.view.read (Elt F) f0 = A ∧ p1.view.read (Elt F) f1 = B⌝ ∗ held d c s p0 fullShare f0 ∗ held d c s p1 fullShare f1)

/-- The rows that are at rest before the turn on row `n`. -/
def rowsAt (n : ℕ) : sProp 𝕄 :=
  iprop(bigSep (rangeSet 128 0 n) (xAt d c s X R hR) ∗ bigSep (rangeSet 128 (n + 4) 128) (xAt d c s X R hR)
    ∗ bigSep (rangeSet 128 n 128) (oldAt d c s P M R hR) ∗ bigSep (rangeSet 128 0 (n - 4)) (newAt d c s X A B R hR))

variable {α : Type} (kk : PUnit → Prog (TpuEff nD τ sig (Elt F) Λ₀ (.scVector c s)) α) (Q : α → sProp (MT nD τ sig (HIx 1) (Elt F) ℕ UU ℕ))

/-- A turn after its waits: the row is computed and sent, and the slot's next row is asked for. -/
theorem turnTail_wp (S : Slot) (p0 p1 : Memref sig .scVector .vmem S2048 .f32) (i : grid0.Coords) (t : Fin k0_t1_loop.trips) (b : Fin 4)
    (cn : BitVec 1) (off : Fin 2 → Nat) (hoff : cn = 1#1 → ∀ a, off a + S1x6144.size a ≤ S4096x6144.size a)
    (n : ℕ) (hn : n < 128) (hi : 256 * (i 1).val + 128 * (i 0).val = R) (ht : 4 * t.val + b.val = n)
    (hcn : cn = 1#1 ↔ n + 4 < 128) (he : off = ![R + (n + 4), 0]) :
    iprop(encAt d c s A B p0 p1 ∗ (∃ f, ⌜S.xin.view.read (Elt F) f = rowOf X (R + n) (by omega)⌝ ∗ held d c s S.xin fullShare f)
        ∗ semVal (V d c s, .dma S.si.sem) 0 ∗ outFree d c s S ∗ outRow d c s P M (R + n) (by omega)
        ∗ bigSep (rangeSet 128 (n + 4) 128) (xAt d c s X R hR))
      ⊢ iprop((encAt d c s A B p0 p1 -∗ inAt d c s X R hR S (n + 4) -∗ outAt d c s X A B R hR S (n + 4)
            -∗ bigSep (rangeSet 128 (n + 1 + 4) 128) (xAt d c s X R hR)
            -∗ wp frame (wpE (defs₀ (F := F)) 𝒱₀ (V d c s) none) Set.univ (kk ⟨⟩) Q)
        -∗ wp frame (wpE (defs₀ (F := F)) 𝒱₀ (V d c s) none) Set.univ (turnTail S p0 p1 i t b cn off hoff >>= kk) Q) := by
  unfold encAt outFree turnTail
  simp only [bind_assoc]
  iintro ⟨⟨%f0, %f1, %hAB, H0, H1⟩, ⟨%fx, %hx, Hx⟩, Hsi, ⟨Ho, Hm, Hso⟩, Hrow, Hxs⟩ HK
  iapply (row_wp d c s S.xin S.o S.mb p0 p1 (rowOf X (R + n) (by omega)) A B fx f0 f1 hx hAB.1 hAB.2 _ Q) $$ [Hx H0 H1 Ho Hm]
  · iframe
  iintro %fo %fm %hD ⟨Hx, H0, H1, Ho, Hm⟩
  iapply (issueOut_wp d c s S X A B _ Q i t b (R + n) (by omega) (by omega) P M fo fm hD) $$ [Hrow Ho Hm Hso]
  · iframe
  iintro Hout
  have hout : (outFlight d c s S X A B (R + n) (by omega) : sProp 𝕄) ⊢ outAt d c s X A B R hR S (n + 4) := by
    unfold outAt
    rw [dif_pos (show 4 ≤ n + 4 ∧ n + 4 < 132 by omega)]
    exact .rfl
  by_cases h : n + 4 < 128
  · have hc : cn = 1#1 := hcn.mpr h
    simp only [dif_pos hc]
    ihave Hxs := (Entails.of_eq (bigSep_rangeSet_head (Φ := xAt d c s X R hR) (show n + 4 < 128 from h) h)) $$ Hxs
    icases Hxs with ⟨Hx1, Hxs⟩
    iapply (issueIn_wp d c s S X kk Q (R + (n + 4)) (by omega) off (hoff hc) he) $$ [Hx1 Hx Hsi]
    · isplitl [Hx1]; · iexact Hx1
      unfold inFree
      isplitl [Hx]; · iexists _; iexact Hx
      iexact Hsi
    iintro Hin
    iapply HK $$ [H0 H1] [Hin] [Hout] [Hxs]
    · iexists f0, f1
      isplitr
      · ipureintro; exact hAB
      iframe
    · unfold inAt
      rw [dif_pos h]
      iexact Hin
    · iapply hout $$ Hout
    · rw [show n + 1 + 4 = n + 4 + 1 by omega]
      iexact Hxs
  · have hc : ¬cn = 1#1 := fun e => h (hcn.mp e)
    simp only [dif_neg hc, pure_bind]
    iapply HK $$ [H0 H1] [Hx Hsi] [Hout] [Hxs]
    · iexists f0, f1
      isplitr
      · ipureintro; exact hAB
      iframe
    · unfold inAt
      rw [dif_neg h]
      unfold inFree
      isplitl [Hx]; · iexists _; iexact Hx
      iexact Hsi
    · iapply hout $$ Hout
    · iapply (Entails.of_eq ((bigSep_rangeSet_empty (Φ := xAt d c s X R hR) (show 128 ≤ n + 4 by omega)).trans
        (bigSep_rangeSet_empty (Φ := xAt d c s X R hR) (show 128 ≤ n + 1 + 4 by omega)).symm)) $$ Hxs

/-- A turn. -/
theorem turn_wp (O : CellTallies nD τ sig (HIx 1)) (W : Waits sig (HIx 1))
    (S : Slot) (p0 p1 : Memref sig .scVector .vmem S2048 .f32) (i : grid0.Coords) (t : Fin k0_t1_loop.trips) (b : Fin 4)
    (cw cn : BitVec 1) (off : Fin 2 → Nat) (hoff : cn = 1#1 → ∀ a, off a + S1x6144.size a ≤ S4096x6144.size a)
    (n : ℕ) (hn : n < 128) (hi : 256 * (i 1).val + 128 * (i 0).val = R) (ht : 4 * t.val + b.val = n)
    (hcw : cw = 1#1 ↔ 4 ≤ n) (hcn : cn = 1#1 ↔ n + 4 < 128) (he : off = ![R + (n + 4), 0]) :
    iprop(Transfers.MayWaits (V d c s) none O ∗ Owed d c s O W ∗ encAt d c s A B p0 p1 ∗ rowsAt d c s X A B P M R hR n
        ∗ inAt d c s X R hR S n ∗ outAt d c s X A B R hR S n)
      ⊢ iprop((Owed d c s O W -∗ encAt d c s A B p0 p1 -∗ rowsAt d c s X A B P M R hR (n + 1)
            -∗ (inAt d c s X R hR S (n + 4) ∗ outAt d c s X A B R hR S (n + 4))
            -∗ wp frame (wpE (defs₀ (F := F)) 𝒱₀ (V d c s) none) Set.univ (kk ⟨⟩) Q)
        -∗ wp frame (wpE (defs₀ (F := F)) 𝒱₀ (V d c s) none) Set.univ (turn S gx gp gm p0 p1 i t b cw cn off hoff >>= kk) Q) := by
  unfold rowsAt
  rw [show inAt d c s X R hR S n = inFlight d c s S X (R + n) (by omega) from dif_pos hn,
    bigSep_rangeSet_head (Φ := oldAt d c s P M R hR) hn hn,
    bigSep_rangeSet_last (Φ := xAt d c s X R hR) (show 0 < n + 1 by omega) (by omega)]
  by_cases h : 4 ≤ n
  · rw [turn_wait S p0 p1 i t b cw cn off hoff (hcw.mpr h)]
    rw [show outAt d c s X A B R hR S n = outFlight d c s S X A B (R + (n - 4)) (by omega) from dif_pos ⟨h, by omega⟩,
      bigSep_rangeSet_last (Φ := newAt d c s X A B R hR) (show 0 < n + 1 - 4 by omega) (by omega)]
    simp only [bind_assoc]
    iintro ⟨#HM, HO, He, ⟨Hx0, Hx1, ⟨Hold, Holds⟩, Hnew⟩, Hin, Hout⟩ HK
    iapply (waitIn_wp d c s S X _ Q O W (R + n) (by omega)) $$ [HO Hin]
    · iframe; iexact HM
    iintro HO Hf Hx Hsi
    iapply (waitOut_wp d c s S X A B _ Q O W (R + (n - 4)) (by omega)) $$ [HO Hout]
    · iframe; iexact HM
    iintro HO Hnew1 Hof
    iapply (turnTail_wp d c s X A B P M R hR kk Q S p0 p1 i t b cn off hoff n hn hi ht hcn he) $$ [He Hf Hsi Hof Hold Hx1]
    · iframe
    iintro He Hin Hout Hx1
    iapply HK $$ HO He [Hx0 Hx1 Holds Hnew Hx Hnew1] [Hin Hout]
    · isplitl [Hx Hx0]
      · isplitl [Hx]; · iexact Hx
        iexact Hx0
      isplitl [Hx1]; · iexact Hx1
      isplitl [Holds]; · iexact Holds
      isplitl [Hnew1]
      · have e : n + 1 - 4 - 1 = n - 4 := by omega
        simp only [e]
        iexact Hnew1
      · rw [show n + 1 - 4 - 1 = n - 4 by omega]
        iexact Hnew
    · iframe
  · rw [turn_plain S p0 p1 i t b cw cn off hoff (fun e => h (hcw.mp e))]
    rw [show outAt d c s X A B R hR S n = outFree d c s S from dif_neg (fun e => h e.1),
      show n + 1 - 4 = n - 4 by omega]
    simp only [bind_assoc]
    iintro ⟨#HM, HO, He, ⟨Hx0, Hx1, ⟨Hold, Holds⟩, Hnew⟩, Hin, Hof⟩ HK
    iapply (waitIn_wp d c s S X _ Q O W (R + n) (by omega)) $$ [HO Hin]
    · iframe; iexact HM
    iintro HO Hf Hx Hsi
    iapply (turnTail_wp d c s X A B P M R hR kk Q S p0 p1 i t b cn off hoff n hn hi ht hcn he) $$ [He Hf Hsi Hof Hold Hx1]
    · iframe
    iintro He Hin Hout Hx1
    iapply HK $$ HO He [Hx0 Hx1 Holds Hnew Hx] [Hin Hout]
    · isplitl [Hx Hx0]
      · isplitl [Hx]; · iexact Hx
        iexact Hx0
      isplitl [Hx1]; · iexact Hx1
      isplitl [Holds]; · iexact Holds
      iexact Hnew
    · iframe

end Cert.Proof.Ring
-- ==== Proof.Tile.lean ====
/-
  A tile's whole program: the encodings are brought in, the ring is filled, turned through the tile's rows, and drained.
-/
module

public import proofs.«01_k».proof.Proof.Ring

@[expose] public section

set_option maxRecDepth 65536

noncomputable section

namespace Cert.Proof.Ring

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Ring (rangeSet mem_rangeSet rangeSet_univ bigSep_rangeSet_head bigSep_rangeSet_last bigSep_rangeSet_empty)

variable {F : FTy → Type} [FloatOps F]

local notation "𝕄" => MT nD τ sig (HIx 1) (Elt F) ℕ UU ℕ

theorem wait_iff : ∀ t : Fin k0_t1_loop.trips, k0_cond1 t = 1#1 ↔ 0 < t.val := by decide +kernel
theorem next_iff : ∀ t : Fin k0_t1_loop.trips, k0_cond2 t = 1#1 ↔ t.val < 31 := by decide +kernel
theorem turns_lt (t : Fin k0_t1_loop.trips) : t.val < 32 := t.isLt

variable (d : Dev nD) (c : Fin τ.nSC) (s : Fin τ.nSub)
variable (X : S4096x6144.Idx → F .f32) (A B : S2048.Idx → F .f32) (P : S5x4096x2048.Idx → F .f32) (M : S4096x2048.Idx → BitVec 32)
variable (R : ℕ) (hR : R + 128 ≤ 4096)
variable (O : CellTallies nD τ sig (HIx 1)) (W : Waits sig (HIx 1))
variable (S0 S1 S2 S3 : Slot) (p0 p1 : Memref sig .scVector .vmem S2048 .f32) (i : grid0.Coords)
  (hi : 256 * (i 1).val + 128 * (i 0).val = R)

/-- A slot before the turn on row `n`. -/
def slotAt (S : Slot) (n : ℕ) : sProp 𝕄 := iprop(inAt d c s X R hR S n ∗ outAt d c s X A B R hR S n)

/-- Before the ring's trip `k`. -/
def tripAt (k : ℕ) : sProp 𝕄 :=
  iprop(Transfers.MayWaits (V d c s) none O ∗ Owed d c s O W ∗ encAt d c s A B p0 p1 ∗ rowsAt d c s X A B P M R hR (4 * k)
    ∗ slotAt d c s X A B R hR S0 (4 * k) ∗ slotAt d c s X A B R hR S1 (4 * k + 1) ∗ slotAt d c s X A B R hR S2 (4 * k + 2)
    ∗ slotAt d c s X A B R hR S3 (4 * k + 3))

include hi in
theorem ringTrip_wp (k : Fin k0_t1_loop.trips) (a : PUnit) :
    (tripAt d c s X A B P M R hR O W S0 S1 S2 S3 p0 p1 k.val : sProp 𝕄)
      ⊢ wp frame (wpE (defs₀ (F := F)) 𝒱₀ (V d c s) none) Set.univ (ringTrip i S0 S1 S2 S3 gx gp gm p0 p1 k a)
          (fun _ => tripAt d c s X A B P M R hR O W S0 S1 S2 S3 p0 p1 (k.val + 1)) := by
  have hk := turns_lt k
  have hw := wait_iff k
  have hn := next_iff k
  have cw := cond_wait k
  have cn := cond_next k
  have e : 4 * (k.val + 1) = 4 * k.val + 4 := by omega
  unfold tripAt slotAt ringTrip
  rw [e]
  iintro ⟨#HM, HO, He, Hr, HS0, HS1, HS2, HS3⟩
  iapply (turn_wp d c s X A B P M R hR _ _ O W S0 p0 p1 i k 0 _ _ _ _ (4 * k.val) (by omega) hi rfl (by rw [hw]; omega) (by rw [hn]; omega)
    (by rw [k0_off30_eq]; exact congrArg (fun z => ![z, 0]) (by omega))) $$ [HO He Hr HS0]
  · iframe; iexact HM
  iintro HO He Hr HS0
  iapply (turn_wp d c s X A B P M R hR _ _ O W S1 p0 p1 i k 1 _ _ _ _ (4 * k.val + 1) (by omega) hi rfl (by rw [cw.1, hw]; omega) (by rw [cn.1, hn]; omega)
    (by rw [k0_off53_eq]; exact congrArg (fun z => ![z, 0]) (by omega))) $$ [HO He Hr HS1]
  · iframe; iexact HM
  iintro HO He Hr HS1
  iapply (turn_wp d c s X A B P M R hR _ _ O W S2 p0 p1 i k 2 _ _ _ _ (4 * k.val + 2) (by omega) hi rfl (by rw [cw.2.1, hw]; omega) (by rw [cn.2.1, hn]; omega)
    (by rw [k0_off76_eq]; exact congrArg (fun z => ![z, 0]) (by omega))) $$ [HO He Hr HS2]
  · iframe; iexact HM
  iintro HO He Hr HS2
  iapply (turn_wp d c s X A B P M R hR _ _ O W S3 p0 p1 i k 3 _ _ _ _ (4 * k.val + 3) (by omega) hi rfl (by rw [cw.2.2, hw]; omega) (by rw [cn.2.2, hn]; omega)
    (by rw [k0_off99_eq]; exact congrArg (fun z => ![z, 0]) (by omega))) $$ [HO He Hr HS3]
  · iframe; iexact HM
  iintro HO He Hr HS3
  simp only [wp_pure]
  imodintro
  isplitr; · iexact HM
  isplitl [HO]; · iexact HO
  isplitl [He]; · iexact He
  isplitl [Hr]; · iexact Hr
  isplitl [HS0]; · iexact HS0
  isplitl [HS1]; · iexact HS1
  isplitl [HS2]; · iexact HS2
  iexact HS3

/-- An encoding is brought in. -/
theorem fetch_wp {α : Type} (kk : PUnit → Prog (TpuEff nD τ sig (Elt F) Λ₀ (.scVector c s)) α) (Q : α → sProp (MT nD τ sig (HIx 1) (Elt F) ℕ UU ℕ))
    (g : Memref sig .scVector .hbm S2048 .f32) (hg : g.IsWhole) (p : Memref sig .scVector .vmem S2048 .f32) (hp : p.IsWhole) (r : DmaSems sig S_)
    (q : PosShare TreeShare) (f : Buf (Elt F) (g.view.loc (V d c s))) :
    iprop(Transfers.MayWaits (V d c s) none O ∗ Owed d c s O W ∗ held d c s g q f ∗ (∃ f, held (F := F) d c s p fullShare f) ∗ semVal (V d c s, .dma r.sem) 0)
      ⊢ iprop((Owed d c s O W -∗ held d c s g q f -∗ (∃ f', ⌜p.view.read (Elt F) f' = g.view.read (Elt F) f⌝ ∗ held d c s p fullShare f')
            -∗ semVal (V d c s, .dma r.sem) 0 -∗ wp frame (wpE (defs₀ (F := F)) 𝒱₀ (V d c s) none) Set.univ (kk ⟨⟩) Q)
        -∗ wp frame (wpE (defs₀ (F := F)) 𝒱₀ (V d c s) none) Set.univ
            (Prog.lift (.enqueueDma g (.here p) (.dma r.sem) hg.wordExact hp.wordExact ⟨Or.inl rfl, trivial⟩) >>= fun _ =>
              Prog.lift (.waitDma2 r.sem g p hg.wordExact hp.wordExact) >>= kk) Q) := by
  unfold Owed
  iintro ⟨#HM, ⟨%W', %hW, HO⟩, Hg, ⟨%f0, Hp⟩, Hs⟩ HK
  iapply (Transfers.wp_dmaLocal EC 𝒱₀ (V d c s) none (src := g) (dst := p) none p.view.dmaCredit rfl
    (View.dmaCredit_pos _ (by decide)) Finset.Subset.rfl) $$ [Hg Hp Hs]
  · isplitl [Hg]; · iexact Hg
    isplitl [Hp]; · iexact Hp
    iexact Hs
  iintro Hfl
  iapply (Transfers.wp_waitLocalO EC 𝒱₀ (V d c s) none (dstw := p) none rfl) $$ [Hfl HO]
  · isplitl [Hfl]; · iexact Hfl
    isplitl [HO]; · iexact HO
    iapply (Transfers.MayWaits.elim (SemLoc.dma r.sem)) $$ HM
  iintro ⟨⟨Hp, Hg⟩, Hs, HO⟩
  iapply HK $$ [HO] [Hg] [Hp] [Hs]
  rotate_left
  · iexact Hg
  · iexists _
    isplitr
    rotate_left
    · iexact Hp
    · ipureintro
      exact View.read_write_univ _ _
  · iexact Hs
  iexists _
  isplitr
  rotate_left
  · iexact HO
  · ipureintro
    intro x hx
    rcases Finset.mem_insert.mp hx with rfl | hx
    · exact Or.inr rfl
    · exact hW x hx

/-- A slot, idle. -/
def slotFree (S : Slot) : sProp 𝕄 := iprop(inFree d c s S ∗ outFree d c s S)

/-- The tile's rows, all at rest, with the outputs before and after. -/
theorem rows_start : (iprop(bigSep Finset.univ (xAt d c s X R hR) ∗ bigSep Finset.univ (oldAt d c s P M R hR)) : sProp 𝕄)
    ⊢ iprop((xAt d c s X R hR 0 ∗ xAt d c s X R hR 1 ∗ xAt d c s X R hR 2 ∗ xAt d c s X R hR 3) ∗ rowsAt d c s X A B P M R hR 0) := by
  unfold rowsAt
  rw [← rangeSet_univ (NB := 128)]
  rw [bigSep_rangeSet_empty (Φ := newAt d c s X A B R hR) (show 0 - 4 ≤ 0 by omega),
    bigSep_rangeSet_empty (Φ := xAt d c s X R hR) (show 0 ≤ 0 by omega)]
  rw [bigSep_rangeSet_head (Φ := xAt d c s X R hR) (show 0 < 128 by omega) (by omega),
    bigSep_rangeSet_head (Φ := xAt d c s X R hR) (show 0 + 1 < 128 by omega) (by omega),
    bigSep_rangeSet_head (Φ := xAt d c s X R hR) (show 0 + 1 + 1 < 128 by omega) (by omega),
    bigSep_rangeSet_head (Φ := xAt d c s X R hR) (show 0 + 1 + 1 + 1 < 128 by omega) (by omega)]
  iintro ⟨⟨H0, H1, H2, H3, Hx⟩, Ho⟩
  isplitl [H0 H1 H2 H3]
  · isplitl [H0]; · iexact H0
    isplitl [H1]; · iexact H1
    isplitl [H2]; · iexact H2
    iexact H3
  isplitr; · iempintro
  isplitl [Hx]; · iexact Hx
  isplitl [Ho]; · iexact Ho
  iempintro

theorem rows_end : (iprop(rowsAt d c s X A B P M R hR 128 ∗ newAt d c s X A B R hR 124 ∗ newAt d c s X A B R hR 125 ∗ newAt d c s X A B R hR 126 ∗ newAt d c s X A B R hR 127) : sProp 𝕄)
    ⊢ iprop(bigSep Finset.univ (xAt d c s X R hR) ∗ bigSep Finset.univ (newAt d c s X A B R hR)) := by
  unfold rowsAt
  rw [← rangeSet_univ (NB := 128)]
  rw [bigSep_rangeSet_last (Φ := newAt d c s X A B R hR) (show 0 < 128 by omega) (by omega),
    bigSep_rangeSet_last (Φ := newAt d c s X A B R hR) (show 0 < 128 - 1 by omega) (by omega),
    bigSep_rangeSet_last (Φ := newAt d c s X A B R hR) (show 0 < 128 - 1 - 1 by omega) (by omega),
    bigSep_rangeSet_last (Φ := newAt d c s X A B R hR) (show 0 < 128 - 1 - 1 - 1 by omega) (by omega)]
  rw [bigSep_rangeSet_empty (Φ := oldAt d c s P M R hR) (show 128 ≤ 128 by omega),
    bigSep_rangeSet_empty (Φ := xAt d c s X R hR) (show 128 ≤ 128 + 4 by omega)]
  iintro ⟨⟨Hx, -, -, Hn⟩, H0, H1, H2, H3⟩
  isplitl [Hx]; · iexact Hx
  isplitl [H3]; · iexact H3
  isplitl [H2]; · iexact H2
  isplitl [H1]; · iexact H1
  isplitl [H0]; · iexact H0
  iexact Hn

theorem slot_start (S : Slot) (n : ℕ) (hn : n < 4) :
    (iprop(inFlight d c s S X (R + n) (by clear hi; omega) ∗ outFree d c s S) : sProp 𝕄) ⊢ slotAt d c s X A B R hR S n := by
  unfold slotAt inAt outAt
  rw [dif_pos (show n < 128 by omega), dif_neg (show ¬(4 ≤ n ∧ n < 132) by omega)]

theorem slot_end (S : Slot) (n : ℕ) (hn : 128 ≤ n) (hn' : n < 132) (m : ℕ) (hm : n - 4 = m) :
    (slotAt d c s X A B R hR S n : sProp 𝕄) ⊢ iprop(inFree d c s S ∗ outFlight d c s S X A B (R + m) (by clear hi; omega)) := by
  subst hm
  unfold slotAt inAt outAt
  rw [dif_neg (show ¬n < 128 by omega), dif_pos (show 4 ≤ n ∧ n < 132 by omega)]

include hi in
/-- The tile's program. -/
theorem tileProg_wp (g3 g4 : Memref sig .scVector .hbm S2048 .f32) (hg3 : g3.IsWhole) (hg4 : g4.IsWhole) (hp0 : p0.IsWhole) (hp1 : p1.IsWhole)
    (r0 r1 : DmaSems sig S_) (q3 q4 : PosShare TreeShare) (f3 : Buf (Elt F) (g3.view.loc (V d c s))) (f4 : Buf (Elt F) (g4.view.loc (V d c s)))
    (hA : g3.view.read (Elt F) f3 = A) (hB : g4.view.read (Elt F) f4 = B) :
    iprop(Transfers.MayWaits (V d c s) none O ∗ Owed d c s O W
        ∗ (held d c s g3 q3 f3 ∗ held d c s g4 q4 f4)
        ∗ ((∃ f, held (F := F) d c s p0 fullShare f) ∗ (∃ f, held (F := F) d c s p1 fullShare f) ∗ semVal (V d c s, .dma r0.sem) 0 ∗ semVal (V d c s, .dma r1.sem) 0)
        ∗ (slotFree d c s S0 ∗ slotFree d c s S1 ∗ slotFree d c s S2 ∗ slotFree d c s S3)
        ∗ bigSep Finset.univ (xAt d c s X R hR) ∗ bigSep Finset.univ (oldAt d c s P M R hR))
      ⊢ wp frame (wpE (defs₀ (F := F)) 𝒱₀ (V d c s) none) Set.univ (tileProg i S0 S1 S2 S3 gx g3 g4 hg3 hg4 gp gm p0 p1 hp0 hp1 r0 r1)
          (fun _ => iprop(Owed d c s O W
            ∗ (held d c s g3 q3 f3 ∗ held d c s g4 q4 f4)
            ∗ ((∃ f, held (F := F) d c s p0 fullShare f) ∗ (∃ f, held (F := F) d c s p1 fullShare f) ∗ semVal (V d c s, .dma r0.sem) 0 ∗ semVal (V d c s, .dma r1.sem) 0)
            ∗ (slotFree d c s S0 ∗ slotFree d c s S1 ∗ slotFree d c s S2 ∗ slotFree d c s S3)
            ∗ bigSep Finset.univ (xAt d c s X R hR) ∗ bigSep Finset.univ (newAt d c s X A B R hR))) := by
  unfold tileProg slotFree
  iintro ⟨#HM, HO, ⟨H3, H4⟩, ⟨Hp0, Hp1, Hr0, Hr1⟩, ⟨⟨I0, U0⟩, ⟨I1, U1⟩, ⟨I2, U2⟩, ⟨I3, U3⟩⟩, Hrows⟩
  iapply (fetch_wp d c s O W _ _ g3 hg3 p0 hp0 r0 q3 f3) $$ [HO H3 Hp0 Hr0]
  · iframe; iexact HM
  iintro HO H3 ⟨%f0, %h0, Hp0⟩ Hr0
  iapply (fetch_wp d c s O W _ _ g4 hg4 p1 hp1 r1 q4 f4) $$ [HO H4 Hp1 Hr1]
  · iframe; iexact HM
  iintro HO H4 ⟨%f1, %h1, Hp1⟩ Hr1
  ihave Hrows := (rows_start d c s X A B P M R hR) $$ Hrows
  icases Hrows with ⟨⟨X0, X1, X2, X3⟩, Hrows⟩
  have ho : ∀ b : Fin 4, k0_off1 i (BitVec.ofNat 32 b.val) = ![R + b.val, 0] := fun b => by rw [k0_off1_eq, hi]
  iapply (issueIn_wp d c s S0 X _ _ (R + 0) (by omega) _ _ (ho 0)) $$ [X0 I0]
  · isplitl [X0]; · iexact X0
    iexact I0
  iintro I0
  iapply (issueIn_wp d c s S1 X _ _ (R + 1) (by omega) _ _ (ho 1)) $$ [X1 I1]
  · isplitl [X1]; · iexact X1
    iexact I1
  iintro I1
  iapply (issueIn_wp d c s S2 X _ _ (R + 2) (by omega) _ _ (ho 2)) $$ [X2 I2]
  · isplitl [X2]; · iexact X2
    iexact I2
  iintro I2
  iapply (issueIn_wp d c s S3 X _ _ (R + 3) (by omega) _ _ (ho 3)) $$ [X3 I3]
  · isplitl [X3]; · iexact X3
    iexact I3
  iintro I3
  iapply (Scf.wp_for_bind frame (wpE (defs₀ (F := F)) 𝒱₀ (V d c s) none) Set.univ k0_t1_loop.lb k0_t1_loop.ub k0_t1_loop.st k0_t1_ok
    (init := (⟨⟩ : PUnit)) (body := ringTrip i S0 S1 S2 S3 gx gp gm p0 p1) (I := fun k _ => tripAt d c s X A B P M R hR O W S0 S1 S2 S3 p0 p1 k)
    (fun k a => ringTrip_wp d c s X A B P M R hR O W S0 S1 S2 S3 p0 p1 i hi k a)) $$ [HO Hp0 Hp1 Hrows I0 U0 I1 U1 I2 U2 I3 U3]
  · unfold tripAt
    isplitr; · iexact HM
    isplitl [HO]; · iexact HO
    isplitl [Hp0 Hp1]
    · unfold encAt
      iexists f0, f1
      isplitr
      · ipureintro; exact ⟨h0.trans hA, h1.trans hB⟩
      iframe
    isplitl [Hrows]; · iexact Hrows
    isplitl [I0 U0]; · iapply (slot_start d c s X A B R hR S0 (4 * 0) (by omega)) $$ [I0 U0]; iframe
    isplitl [I1 U1]; · iapply (slot_start d c s X A B R hR S1 (4 * 0 + 1) (by omega)) $$ [I1 U1]; iframe
    isplitl [I2 U2]; · iapply (slot_start d c s X A B R hR S2 (4 * 0 + 2) (by omega)) $$ [I2 U2]; iframe
    iapply (slot_start d c s X A B R hR S3 (4 * 0 + 3) (by omega)) $$ [I3 U3]; iframe
  iintro %a
  have ht : Scf.trips k0_t1_loop.lb k0_t1_loop.ub k0_t1_loop.st = 32 := by decide +kernel
  rw [ht]
  unfold tripAt encAt
  iintro ⟨-, HO, ⟨%f0, %f1, -, Hp0, Hp1⟩, Hrows, Z0, Z1, Z2, Z3⟩
  ihave Z0 := (slot_end d c s X A B R hR S0 (4 * 32) (by omega) (by omega) 124 rfl) $$ Z0
  ihave Z1 := (slot_end d c s X A B R hR S1 (4 * 32 + 1) (by omega) (by omega) 125 rfl) $$ Z1
  ihave Z2 := (slot_end d c s X A B R hR S2 (4 * 32 + 2) (by omega) (by omega) 126 rfl) $$ Z2
  ihave Z3 := (slot_end d c s X A B R hR S3 (4 * 32 + 3) (by omega) (by omega) 127 rfl) $$ Z3
  icases Z0 with ⟨I0, U0⟩
  icases Z1 with ⟨I1, U1⟩
  icases Z2 with ⟨I2, U2⟩
  icases Z3 with ⟨I3, U3⟩
  iapply (waitOut_wp d c s S0 X A B _ _ O W (R + 124) (by omega)) $$ [HO U0]
  · isplitr; · iexact HM
    isplitl [HO]; · iexact HO
    iexact U0
  iintro HO N0 U0
  iapply (waitOut_wp d c s S1 X A B _ _ O W (R + 125) (by omega)) $$ [HO U1]
  · isplitr; · iexact HM
    isplitl [HO]; · iexact HO
    iexact U1
  iintro HO N1 U1
  iapply (waitOut_wp d c s S2 X A B _ _ O W (R + 126) (by omega)) $$ [HO U2]
  · isplitr; · iexact HM
    isplitl [HO]; · iexact HO
    iexact U2
  iintro HO N2 U2
  iapply (waitOut_wp d c s S3 X A B _ _ O W (R + 127) (by omega)) $$ [HO U3]
  · isplitr; · iexact HM
    isplitl [HO]; · iexact HO
    iexact U3
  iintro HO N3 U3
  simp only [wp_pure]
  imodintro
  isplitl [HO]; · iexact HO
  isplitl [H3 H4]; · iframe
  isplitl [Hp0 Hp1 Hr0 Hr1]
  · isplitl [Hp0]; · iexists _; iexact Hp0
    isplitl [Hp1]; · iexists _; iexact Hp1
    iframe
  isplitl [I0 U0 I1 U1 I2 U2 I3 U3]
  · isplitl [I0 U0]
    · isplitl [I0]; · iexact I0
      iexact U0
    isplitl [I1 U1]
    · isplitl [I1]; · iexact I1
      iexact U1
    isplitl [I2 U2]
    · isplitl [I2]; · iexact I2
      iexact U2
    isplitl [I3]; · iexact I3
    iexact U3
  iapply (rows_end d c s X A B P M R hR) $$ [Hrows N0 N1 N2 N3]
  isplitl [Hrows]; · iexact Hrows
  isplitl [N0]; · iexact N0
  isplitl [N1]; · iexact N1
  isplitl [N2]; · iexact N2
  iexact N3

end Cert.Proof.Ring
-- ==== Proof.Deal.lean ====
/-
  How the arrays are dealt to the tiles: tile `(c, s)` has the 128 rows from `256 s + 128 c`, and the tiles' rows are all of
  them; every tile reads the two encodings, a share of each.
-/
module

public import proofs.«01_k».proof.Proof.Tile

@[expose] public section

set_option maxRecDepth 65536

noncomputable section

namespace Cert.Proof.Ring

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The first row of tile `(c, s)`. -/
abbrev base (c : Fin 2) (s : Fin 16) : ℕ := 256 * s.val + 128 * c.val

theorem base_le (c : Fin 2) (s : Fin 16) : base c s + 128 ≤ 4096 := by
  have := c.isLt; have := s.isLt; show 256 * s.val + 128 * c.val + 128 ≤ 4096; omega

/-- A row by its tile and its place there. -/
abbrev RowIx : Type := Fin 2 × Fin 16 × Fin 128
abbrev rowNo (t : RowIx) : ℕ := base t.1 t.2.1 + t.2.2.val

theorem rowNo_lt (t : RowIx) : rowNo t < 4096 := by
  have := base_le t.1 t.2.1; have := t.2.2.isLt; show base t.1 t.2.1 + t.2.2.val < 4096; omega

theorem rowNo_inj (t u : RowIx) (h : rowNo t = rowNo u) : t = u := by
  obtain ⟨c, s, j⟩ := t
  obtain ⟨c', s', j'⟩ := u
  have e : 256 * s.val + 128 * c.val + j.val = 256 * s'.val + 128 * c'.val + j'.val := h
  have := c.isLt; have := c'.isLt; have := j.isLt; have := j'.isLt
  have h1 : s = s' := Fin.ext (by omega)
  have h2 : c = c' := Fin.ext (by subst h1; omega)
  have h3 : j = j' := Fin.ext (by subst h1 h2; omega)
  subst h1 h2 h3
  rfl

theorem rowNo_onto (r : ℕ) (h : r < 4096) : ∃ t : RowIx, rowNo t = r :=
  ⟨(⟨r / 128 % 2, by omega⟩, ⟨r / 256, by omega⟩, ⟨r % 128, by omega⟩), by
    show 256 * (r / 256) + 128 * (r / 128 % 2) + r % 128 = r; omega⟩

variable (d : Dev nD)

abbrev locX : Loc nD τ sig := (SparseCore.T d).loc main_arg0
abbrev locA : Loc nD τ sig := (SparseCore.T d).loc main_v1
abbrev locB : Loc nD τ sig := (SparseCore.T d).loc main_v3
abbrev locP : Loc nD τ sig := (SparseCore.T d).loc main_v4_0
abbrev locM : Loc nD τ sig := (SparseCore.T d).loc main_v4_1

/-- The elements of the rows. -/
abbrev setX (t : RowIx) : Finset S4096x6144.Idx := (xRow (rowNo t) (rowNo_lt t)).view.set
abbrev setM (t : RowIx) : Finset S4096x2048.Idx := (mRow (rowNo t) (rowNo_lt t)).view.set
abbrev setP (t : RowIx × Fin 5) : Finset S5x4096x2048.Idx := (pRow t.2 (rowNo t.1) (rowNo_lt t.1)).view.set

/-- The input is its tiles' rows. -/
theorem deal_x (X : S4096x6144.Idx → F .f32) :
    (locX d ↦{fullShare} X : sProp 𝕄)
      = bigSep Finset.univ fun c : Fin 2 => bigSep Finset.univ fun s : Fin 16 =>
          bigSep Finset.univ (xAt (F := F) d (c.castLE (by decide)) (s.castLE (by decide)) X (base c s) (base_le c s)) := by
  have hd : ∀ t ∈ (Finset.univ : Finset RowIx), ∀ u ∈ (Finset.univ : Finset RowIx), t ≠ u →
      Disjoint (setX t) (setX u) := by
    intro t _ u _ h
    rw [Finset.disjoint_left]
    intro q hq hq'
    exact h (rowNo_inj t u (((mem_xRow _ _ q).mp hq).symm.trans ((mem_xRow _ _ q).mp hq')))
  have hc : (Finset.univ : Finset RowIx).biUnion setX = Finset.univ := by
    ext q
    rw [Finset.mem_biUnion]
    obtain ⟨t, ht⟩ := rowNo_onto (q 0).val (q 0).isLt
    exact ⟨fun _ => Finset.mem_univ q, fun _ => ⟨t, Finset.mem_univ t, (mem_xRow _ _ q).mpr ht.symm⟩⟩
  have e : ((locX d) ↦[(Finset.univ : Finset RowIx).biUnion setX]{fullShare} X : sProp 𝕄)
      = bigSep Finset.univ fun t : RowIx => (locX d) ↦[setX t]{fullShare} X := pointsTo_biUnion _ _ hd
  rw [hc] at e
  refine e.trans ?_
  rw [bigSep_univ_prod]
  refine bigSep_congr fun c _ => ?_
  rw [bigSep_univ_prod]

/-- The mask is its tiles' rows. -/
theorem deal_m (M : S4096x2048.Idx → BitVec 32) :
    (locM d ↦{fullShare} M : sProp 𝕄)
      = bigSep Finset.univ fun c : Fin 2 => bigSep Finset.univ fun s : Fin 16 => bigSep Finset.univ fun j : Fin 128 =>
          held (F := F) d (c.castLE (by decide)) (s.castLE (by decide)) (mRow (base c s + j.val) (rowNo_lt (c, s, j))) fullShare M := by
  have hd : ∀ t ∈ (Finset.univ : Finset RowIx), ∀ u ∈ (Finset.univ : Finset RowIx), t ≠ u →
      Disjoint (setM t) (setM u) := by
    intro t _ u _ h
    rw [Finset.disjoint_left]
    intro q hq hq'
    exact h (rowNo_inj t u (((mem_mRow _ _ q).mp hq).symm.trans ((mem_mRow _ _ q).mp hq')))
  have hc : (Finset.univ : Finset RowIx).biUnion setM = Finset.univ := by
    ext q
    rw [Finset.mem_biUnion]
    obtain ⟨t, ht⟩ := rowNo_onto (q 0).val (q 0).isLt
    exact ⟨fun _ => Finset.mem_univ q, fun _ => ⟨t, Finset.mem_univ t, (mem_mRow _ _ q).mpr ht.symm⟩⟩
  have e : ((locM d) ↦[(Finset.univ : Finset RowIx).biUnion setM]{fullShare} M : sProp 𝕄)
      = bigSep Finset.univ fun t : RowIx => (locM d) ↦[setM t]{fullShare} M := pointsTo_biUnion _ _ hd
  rw [hc] at e
  refine e.trans ?_
  rw [bigSep_univ_prod]
  refine bigSep_congr fun c _ => ?_
  rw [bigSep_univ_prod]

/-- The planes are their tiles' rows, five of each. -/
theorem deal_p (P : S5x4096x2048.Idx → F .f32) :
    (locP d ↦{fullShare} P : sProp 𝕄)
      = bigSep Finset.univ fun c : Fin 2 => bigSep Finset.univ fun s : Fin 16 => bigSep Finset.univ fun j : Fin 128 => bigSep Finset.univ fun p : Fin 5 =>
          held (F := F) d (c.castLE (by decide)) (s.castLE (by decide)) (pRow p (base c s + j.val) (rowNo_lt (c, s, j))) fullShare P := by
  have hd : ∀ t ∈ (Finset.univ : Finset (RowIx × Fin 5)), ∀ u ∈ (Finset.univ : Finset (RowIx × Fin 5)), t ≠ u →
      Disjoint (setP t) (setP u) := by
    intro t _ u _ h
    rw [Finset.disjoint_left]
    intro q hq hq'
    have h1 := (mem_pRow _ _ _ q).mp hq
    have h2 := (mem_pRow _ _ _ q).mp hq'
    exact h (Prod.ext (rowNo_inj t.1 u.1 (h1.2.symm.trans h2.2)) (Fin.ext (h1.1.symm.trans h2.1)))
  have hc : (Finset.univ : Finset (RowIx × Fin 5)).biUnion setP = Finset.univ := by
    ext q
    rw [Finset.mem_biUnion]
    obtain ⟨t, ht⟩ := rowNo_onto (q 1).val (q 1).isLt
    exact ⟨fun _ => Finset.mem_univ q, fun _ => ⟨(t, ⟨(q 0).val, (q 0).isLt⟩), Finset.mem_univ _, (mem_pRow _ _ _ q).mpr ⟨rfl, ht.symm⟩⟩⟩
  have e : ((locP d) ↦[(Finset.univ : Finset (RowIx × Fin 5)).biUnion setP]{fullShare} P : sProp 𝕄)
      = bigSep Finset.univ fun t : RowIx × Fin 5 => (locP d) ↦[setP t]{fullShare} P := pointsTo_biUnion _ _ hd
  rw [hc] at e
  refine e.trans ?_
  rw [bigSep_univ_prod, bigSep_univ_prod]
  refine bigSep_congr fun c _ => ?_
  rw [bigSep_univ_prod]

/-- The rows a tile writes, of the planes and the mask together. -/
theorem deal_out (P : S5x4096x2048.Idx → F .f32) (M : S4096x2048.Idx → BitVec 32) :
    (iprop((locP d ↦{fullShare} P) ∗ (locM d ↦{fullShare} M)) : sProp 𝕄)
      = bigSep Finset.univ fun c : Fin 2 => bigSep Finset.univ fun s : Fin 16 =>
          bigSep Finset.univ (oldAt (F := F) d (c.castLE (by decide)) (s.castLE (by decide)) P M (base c s) (base_le c s)) := by
  rw [deal_p, deal_m, ← bigSep_sep']
  refine bigSep_congr fun c _ => ?_
  rw [← bigSep_sep']
  refine bigSep_congr fun s _ => ?_
  rw [← bigSep_sep']
  rfl

end Cert.Proof.Ring
-- ==== Proof.Own.lean ====
/-
  A tile's own buffers and semaphores: the four slots, the two encodings' buffers, and the two semaphores the encodings come
  in on.
-/
module

public import proofs.«01_k».proof.Proof.Deal
public import proofs.«01_k».proof.Proof.EqC

@[expose] public section

set_option maxRecDepth 65536

noncomputable section

namespace Cert.Proof.Ring

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The four slots, as the launch hands them. -/
abbrev slot0 : Slot := ⟨Memref.whole cc0_scratch0, Memref.isWhole_whole _, Memref.whole cc0_scratch4, Memref.isWhole_whole _,
  Memref.whole cc0_scratch8, Memref.isWhole_whole _, cc0_scratch14, cc0_scratch18⟩
abbrev slot1 : Slot := ⟨Memref.whole cc0_scratch1, Memref.isWhole_whole _, Memref.whole cc0_scratch5, Memref.isWhole_whole _,
  Memref.whole cc0_scratch9, Memref.isWhole_whole _, cc0_scratch15, cc0_scratch19⟩
abbrev slot2 : Slot := ⟨Memref.whole cc0_scratch2, Memref.isWhole_whole _, Memref.whole cc0_scratch6, Memref.isWhole_whole _,
  Memref.whole cc0_scratch10, Memref.isWhole_whole _, cc0_scratch16, cc0_scratch20⟩
abbrev slot3 : Slot := ⟨Memref.whole cc0_scratch3, Memref.isWhole_whole _, Memref.whole cc0_scratch7, Memref.isWhole_whole _,
  Memref.whole cc0_scratch11, Memref.isWhole_whole _, cc0_scratch17, cc0_scratch21⟩

/-- A tile's buffers and its copies' semaphores, by number. -/
def bufNo : Fin 14 → Ref sig .scVector := fun k => ⟨.vmem, k, rfl⟩
def semNo : Fin 10 → SemLoc sig := ![.dma cc0_scratch14.sem, .dma cc0_scratch15.sem, .dma cc0_scratch16.sem, .dma cc0_scratch17.sem,
  .dma cc0_scratch18.sem, .dma cc0_scratch19.sem, .dma cc0_scratch20.sem, .dma cc0_scratch21.sem, .dma cc0_scoped0.sem, .dma cc0_scoped1.sem]

theorem bufNo_inj : Function.Injective bufNo := by decide +kernel
theorem semNo_inj : Function.Injective semNo := by decide +kernel
theorem semNo_scoped : ∀ k, (semNo k).isScoped .scVector = true := by decide +kernel

variable (d : Dev nD) (c : Fin τ.nSC) (s : Fin τ.nSub)

/-- A buffer at some contents; a semaphore at zero. -/
def someBuf (b : Ref sig .scVector) : sProp 𝕄 := iprop(∃ f, (V d c s).loc b ↦{fullShare} f)
def zeroSem (g : SemLoc sig) : sProp 𝕄 := semVal (V d c s, g) 0

/-- A whole buffer, held through its memref. -/
theorem held_whole (b : Ref sig .scVector) (q : PosShare TreeShare) (f : Buf (Elt F) ((V d c s).loc b)) :
    (held d c s (Memref.whole b) q f : sProp 𝕄) = ((V d c s).loc b ↦{q} f) := by
  unfold held
  simp only [Memref.view_whole, View.set_whole]

theorem some_held (b : Ref sig .scVector) : (iprop(∃ f, held (F := F) d c s (Memref.whole b) fullShare f) : sProp 𝕄) = someBuf d c s b := by
  simp only [held_whole]; rfl

/-- The tile's buffers are these fourteen and others. -/
theorem ownBufs_eq : (ownBufs (V d c s) : sProp 𝕄)
    = iprop((bigSep Finset.univ fun k : Fin 14 => someBuf d c s (bufNo k))
        ∗ bigSep (ownRefs (τ := τ) (.scVector c s) \ Finset.univ.image fun k : Fin 14 => (Proc.scVector c s).devRef (bufNo k))
            fun b => iprop(∃ f, ((d, b) : Loc nD τ sig) ↦{fullShare} f)) := by
  unfold ownBufs
  rw [SparseCore.bigSep_sdiff_split' (t := Finset.univ.image fun k : Fin 14 => (Proc.scVector c s).devRef (bufNo k)) ?_,
    SparseCore.bigSep_image_of_injOn (fun a _ b _ e => bufNo_inj (Proc.devRef_injective _ e))]
  · rfl
  intro b hb
  obtain ⟨k, -, rfl⟩ := Finset.mem_image.mp hb
  exact mem_ownRefs_of_owner (p := Proc.scVector c s) rfl

/-- The tile's semaphores are these ten and others. -/
theorem ownSems0_eq : (ownSems0 (V d c s) : sProp 𝕄)
    = iprop((bigSep Finset.univ fun k : Fin 10 => zeroSem d c s (semNo k))
        ∗ bigSep (ownCells (V d c s) \ Finset.univ.image fun k : Fin 10 => ((V d c s, semNo k) : GSem nD τ sig)) fun g => semVal g 0) := by
  unfold ownSems0
  rw [SparseCore.bigSep_sdiff_split' (t := Finset.univ.image fun k : Fin 10 => ((V d c s, semNo k) : GSem nD τ sig)) ?_,
    SparseCore.bigSep_image_of_injOn (fun a _ b _ e => semNo_inj (Prod.mk.inj e).2)]
  · rfl
  intro g hg
  obtain ⟨k, -, rfl⟩ := Finset.mem_image.mp hg
  exact mem_ownCells.mpr ⟨rfl, semNo_scoped k⟩

theorem bigSep_ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide]
  iterate 9 rw [bigSep_insert (by decide)]
  rw [bigSep_singleton]
  rfl

theorem bigSep_fourteen (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [show (Finset.univ : Finset (Fin 14)) = {0, 1, 2, 3, 4, 5, 6, 7, 8, 9, 10, 11, 12, 13} by decide]
  iterate 13 rw [bigSep_insert (by decide)]
  rw [bigSep_singleton]
  rfl

theorem slotFree_0 : (slotFree d c s slot0 : sProp 𝕄) = iprop((someBuf d c s cc0_scratch0 ∗ zeroSem d c s (.dma cc0_scratch14.sem))
    ∗ someBuf d c s cc0_scratch4 ∗ someBuf d c s cc0_scratch8 ∗ zeroSem d c s (.dma cc0_scratch18.sem)) := by
  rw [← some_held d c s cc0_scratch0, ← some_held d c s cc0_scratch4, ← some_held d c s cc0_scratch8]
  rfl
theorem slotFree_1 : (slotFree d c s slot1 : sProp 𝕄) = iprop((someBuf d c s cc0_scratch1 ∗ zeroSem d c s (.dma cc0_scratch15.sem))
    ∗ someBuf d c s cc0_scratch5 ∗ someBuf d c s cc0_scratch9 ∗ zeroSem d c s (.dma cc0_scratch19.sem)) := by
  rw [← some_held d c s cc0_scratch1, ← some_held d c s cc0_scratch5, ← some_held d c s cc0_scratch9]
  rfl
theorem slotFree_2 : (slotFree d c s slot2 : sProp 𝕄) = iprop((someBuf d c s cc0_scratch2 ∗ zeroSem d c s (.dma cc0_scratch16.sem))
    ∗ someBuf d c s cc0_scratch6 ∗ someBuf d c s cc0_scratch10 ∗ zeroSem d c s (.dma cc0_scratch20.sem)) := by
  rw [← some_held d c s cc0_scratch2, ← some_held d c s cc0_scratch6, ← some_held d c s cc0_scratch10]
  rfl
theorem slotFree_3 : (slotFree d c s slot3 : sProp 𝕄) = iprop((someBuf d c s cc0_scratch3 ∗ zeroSem d c s (.dma cc0_scratch17.sem))
    ∗ someBuf d c s cc0_scratch7 ∗ someBuf d c s cc0_scratch11 ∗ zeroSem d c s (.dma cc0_scratch21.sem)) := by
  rw [← some_held d c s cc0_scratch3, ← some_held d c s cc0_scratch7, ← some_held d c s cc0_scratch11]
  rfl

theorem bufs_eq : (bigSep Finset.univ fun k : Fin 14 => someBuf (F := F) d c s (bufNo k))
    = iprop(someBuf d c s cc0_scratch0 ∗ someBuf d c s cc0_scratch1 ∗ someBuf d c s cc0_scratch2 ∗ someBuf d c s cc0_scratch3 ∗ someBuf d c s cc0_scratch4 ∗ someBuf d c s cc0_scratch5 ∗ someBuf d c s cc0_scratch6 ∗ someBuf d c s cc0_scratch7 ∗ someBuf d c s cc0_scratch8 ∗ someBuf d c s cc0_scratch9 ∗ someBuf d c s cc0_scratch10 ∗ someBuf d c s cc0_scratch11 ∗ someBuf d c s cc0_scratch12 ∗ someBuf d c s cc0_scratch13) :=
  bigSep_fourteen _

theorem sems_eq : (bigSep Finset.univ fun k : Fin 10 => zeroSem (F := F) d c s (semNo k))
    = iprop(zeroSem d c s (.dma cc0_scratch14.sem) ∗ zeroSem d c s (.dma cc0_scratch15.sem) ∗ zeroSem d c s (.dma cc0_scratch16.sem) ∗ zeroSem d c s (.dma cc0_scratch17.sem) ∗ zeroSem d c s (.dma cc0_scratch18.sem) ∗ zeroSem d c s (.dma cc0_scratch19.sem) ∗ zeroSem d c s (.dma cc0_scratch20.sem) ∗ zeroSem d c s (.dma cc0_scratch21.sem) ∗ zeroSem d c s (.dma cc0_scoped0.sem) ∗ zeroSem d c s (.dma cc0_scoped1.sem)) :=
  bigSep_ten _

/-- What the tile's program starts from and gives back, of its own. -/
def tileOwn : sProp 𝕄 :=
  iprop(((∃ f, held (F := F) d c s (Memref.whole cc0_scratch12) fullShare f) ∗ (∃ f, held (F := F) d c s (Memref.whole cc0_scratch13) fullShare f)
      ∗ semVal (V d c s, .dma cc0_scoped0.sem) 0 ∗ semVal (V d c s, .dma cc0_scoped1.sem) 0)
    ∗ (slotFree d c s slot0 ∗ slotFree d c s slot1 ∗ slotFree d c s slot2 ∗ slotFree d c s slot3))

/-- The rest of what the launch hands it. -/
def tileRest : sProp 𝕄 :=
  iprop((bigSep (ownRefs (τ := τ) (.scVector c s) \ Finset.univ.image fun k : Fin 14 => (Proc.scVector c s).devRef (bufNo k))
      fun b => iprop(∃ f, ((d, b) : Loc nD τ sig) ↦{fullShare} f))
    ∗ bigSep (ownCells (V d c s) \ Finset.univ.image fun k : Fin 10 => ((V d c s, semNo k) : GSem nD τ sig)) fun g => semVal g 0)

theorem tileOwn_eq : (tileOwn d c s : sProp 𝕄) = iprop((someBuf d c s cc0_scratch12 ∗ someBuf d c s cc0_scratch13
      ∗ zeroSem d c s (.dma cc0_scoped0.sem) ∗ zeroSem d c s (.dma cc0_scoped1.sem))
    ∗ (slotFree d c s slot0 ∗ slotFree d c s slot1 ∗ slotFree d c s slot2 ∗ slotFree d c s slot3)) := by
  rw [← some_held d c s cc0_scratch12, ← some_held d c s cc0_scratch13]
  rfl

theorem own_open (hF : (K (F := F)).Facts) :
    (iprop(scopedBufs (V d c s) ∗ scopedSems0 (V d c s)) : sProp 𝕄) ⊢ iprop(tileOwn d c s ∗ tileRest d c s) := by
  rw [(K (F := F)).scopedBufs_V hF d c s, SparseCore.Cfg.scopedSems0_V (Val := Elt F) d c s, ownSems0_eq, ownBufs_eq, sems_eq, bufs_eq, tileOwn_eq,
    slotFree_0, slotFree_1, slotFree_2, slotFree_3]
  unfold tileRest
  iintro ⟨⟨⟨B0, B1, B2, B3, B4, B5, B6, B7, B8, B9, B10, B11, B12, B13⟩, BR⟩, ⟨⟨S0, S1, S2, S3, S4, S5, S6, S7, S8, S9⟩, SR⟩⟩
  isplitr [BR SR]
  · isplitl [B12 B13 S8 S9]
    · isplitl [B12]; · iexact B12
      isplitl [B13]; · iexact B13
      isplitl [S8]; · iexact S8
      iexact S9
    isplitl [B0 B4 B8 S0 S4]
    · isplitl [B0 S0]
      · isplitl [B0]; · iexact B0
        iexact S0
      isplitl [B4]; · iexact B4
      isplitl [B8]; · iexact B8
      iexact S4
    isplitl [B1 B5 B9 S1 S5]
    · isplitl [B1 S1]
      · isplitl [B1]; · iexact B1
        iexact S1
      isplitl [B5]; · iexact B5
      isplitl [B9]; · iexact B9
      iexact S5
    isplitl [B2 B6 B10 S2 S6]
    · isplitl [B2 S2]
      · isplitl [B2]; · iexact B2
        iexact S2
      isplitl [B6]; · iexact B6
      isplitl [B10]; · iexact B10
      iexact S6
    isplitl [B3 S3]
    · isplitl [B3]; · iexact B3
      iexact S3
    isplitl [B7]; · iexact B7
    isplitl [B11]; · iexact B11
    iexact S7
  isplitl [BR]; · iexact BR
  iexact SR

theorem own_close (hF : (K (F := F)).Facts) :
    (iprop(tileOwn d c s ∗ tileRest d c s) : sProp 𝕄) ⊢ iprop(scopedBufs (V d c s) ∗ scopedSems0 (V d c s)) := by
  rw [(K (F := F)).scopedBufs_V hF d c s, SparseCore.Cfg.scopedSems0_V (Val := Elt F) d c s, ownSems0_eq, ownBufs_eq, sems_eq, bufs_eq, tileOwn_eq,
    slotFree_0, slotFree_1, slotFree_2, slotFree_3]
  unfold tileRest
  iintro ⟨⟨⟨B12, B13, S8, S9⟩, ⟨⟨B0, S0⟩, B4, B8, S4⟩, ⟨⟨B1, S1⟩, B5, B9, S5⟩, ⟨⟨B2, S2⟩, B6, B10, S6⟩, ⟨⟨B3, S3⟩, B7, B11, S7⟩⟩, BR, SR⟩
  isplitr [SR S0 S1 S2 S3 S4 S5 S6 S7 S8 S9]
  · isplitr [BR]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      iexact B13
    iexact BR
  isplitr [SR]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iexact SR

end Cert.Proof.Ring
-- ==== Proof.Launch.lean ====
/-
  The launch: what the call hands each SparseCore and each tile and what it has back, a tile's whole task from that, and how a
  SparseCore's part is its tiles'.
-/
module

public import proofs.«01_k».proof.Proof.Own

@[expose] public section

set_option maxRecDepth 65536

noncomputable section

namespace Cert.Proof.Ring

open Cert.KernelIdeal Cert.KernelIdeal.Gen
open Idealize.ShloMosaic
open Idealize.ShloMosaic.SparseCore (S V T)
open Idealize.ShloMosaic.SparseCore.Cfg (HIx Pay)
open Idealize.ShloMosaic.Transfers (shareTok shareDrop pointsTo_toks_split pointsTo_toks_join)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- A SparseCore and a tile of the grid, as the device's. -/
abbrev coreOf (c : Fin 2) : Fin τ.nSC := c.castLE (by decide)
abbrev tileOf (s : Fin 16) : Fin τ.nSub := s.castLE (by decide)

/-- The shares the encodings are read at, a SparseCore's and a tile's. -/
abbrev coreShare (c : Fin 2) : PosShare TreeShare := shareTok fullShare 2 c
abbrev tileShare (c : Fin 2) (s : Fin 16) : PosShare TreeShare := shareTok (coreShare c) 16 s

section Parts

variable (d : Dev nD) (X : S4096x6144.Idx → F .f32) (A B : S2048.Idx → F .f32) (P : S5x4096x2048.Idx → F .f32) (M : S4096x2048.Idx → BitVec 32)

/-- A share of the two encodings. -/
def encs (q : PosShare TreeShare) : sProp 𝕄 := iprop((locA d ↦{q} A) ∗ locB d ↦{q} B)

/-- A tile's rows, the planes and the mask at given contents. -/
def tileRows (c : Fin 2) (s : Fin 16) : sProp 𝕄 :=
  iprop(bigSep Finset.univ (xAt (F := F) d (coreOf c) (tileOf s) X (base c s) (base_le c s))
    ∗ bigSep Finset.univ (oldAt (F := F) d (coreOf c) (tileOf s) P M (base c s) (base_le c s)))

/-- What a tile has, and what a SparseCore has. -/
def tileHas (c : Fin 2) (s : Fin 16) : sProp 𝕄 := iprop(encs d A B (tileShare c s) ∗ tileRows d X P M c s)
def coreHas (c : Fin 2) : sProp 𝕄 := iprop(encs d A B (coreShare c) ∗ bigSep Finset.univ (tileRows d X P M c))

instance tileHas_storable (c : Fin 2) (s : Fin 16) : BI.Storable (upEmb : UEmb _ 𝕄) (tileHas d X A B P M c s) := by
  unfold tileHas encs tileRows oldAt outRow xAt held; infer_instance
instance coreHas_storable (c : Fin 2) : BI.Storable (upEmb : UEmb _ 𝕄) (coreHas d X A B P M c) := by
  unfold coreHas encs tileRows oldAt outRow xAt held; infer_instance

/-- A share of the encodings dealt into what remains and `n` parts. -/
theorem encs_deal (q : PosShare TreeShare) (n : ℕ) :
    (encs d A B q : sProp 𝕄) ⊢ iprop(encs d A B (shareDrop q n) ∗ bigSep Finset.univ fun k : Fin n => encs d A B (shareTok q n k)) := by
  unfold encs
  rw [bigSep_sep']
  iintro ⟨HA, HB⟩
  ihave HA := (pointsTo_toks_split q n) $$ HA
  ihave HB := (pointsTo_toks_split q n) $$ HB
  icases HA with ⟨A1, A2⟩
  icases HB with ⟨B1, B2⟩
  isplitl [A1 B1]
  · isplitl [A1]; · iexact A1
    iexact B1
  isplitl [A2]; · iexact A2
  iexact B2

theorem encs_join (q : PosShare TreeShare) (n : ℕ) :
    iprop(encs d A B (shareDrop q n) ∗ bigSep Finset.univ fun k : Fin n => encs d A B (shareTok q n k)) ⊢ (encs d A B q : sProp 𝕄) := by
  unfold encs
  rw [bigSep_sep']
  iintro ⟨⟨A1, B1⟩, A2, B2⟩
  isplitl [A1 A2]
  · iapply (pointsTo_toks_join q n)
    isplitl [A1]; · iexact A1
    iexact A2
  iapply (pointsTo_toks_join q n)
  isplitl [B1]; · iexact B1
  iexact B2

/-- A SparseCore's part is its tiles', and a remainder of the encodings. -/
theorem core_deal (c : Fin 2) :
    (coreHas d X A B P M c : sProp 𝕄) ⊢ iprop(encs d A B (shareDrop (coreShare c) 16) ∗ bigSep Finset.univ (tileHas d X A B P M c)) := by
  unfold coreHas
  rw [show (bigSep Finset.univ (tileHas d X A B P M c) : sProp 𝕄)
    = iprop((bigSep Finset.univ fun s : Fin 16 => encs d A B (tileShare c s)) ∗ bigSep Finset.univ (tileRows d X P M c)) from bigSep_sep' _ _ _]
  iintro ⟨HE, HR⟩
  ihave HE := (encs_deal d A B (coreShare c) 16) $$ HE
  icases HE with ⟨HE, HT⟩
  isplitl [HE]; · iexact HE
  isplitl [HT]; · iexact HT
  iexact HR

theorem core_join (c : Fin 2) :
    iprop(encs d A B (shareDrop (coreShare c) 16) ∗ bigSep Finset.univ (tileHas d X A B P M c)) ⊢ (coreHas d X A B P M c : sProp 𝕄) := by
  unfold coreHas
  rw [show (bigSep Finset.univ (tileHas d X A B P M c) : sProp 𝕄)
    = iprop((bigSep Finset.univ fun s : Fin 16 => encs d A B (tileShare c s)) ∗ bigSep Finset.univ (tileRows d X P M c)) from bigSep_sep' _ _ _]
  iintro ⟨HE, HT, HR⟩
  isplitr [HR]
  · iapply (encs_join d A B (coreShare c) 16)
    isplitl [HE]; · iexact HE
    iexact HT
  iexact HR

/-- The arrays whole are the SparseCores' parts, and a remainder of the encodings. -/
theorem rows_deal :
    (iprop((locX d ↦{fullShare} X) ∗ (locP d ↦{fullShare} P) ∗ (locM d ↦{fullShare} M)) : sProp 𝕄)
      = bigSep Finset.univ fun c : Fin 2 => bigSep Finset.univ (tileRows d X P M c) := by
  rw [deal_x, deal_out, ← bigSep_sep']
  refine bigSep_congr fun c _ => ?_
  rw [← bigSep_sep']
  rfl

theorem all_deal :
    (iprop(((locX d ↦{fullShare} X) ∗ (locP d ↦{fullShare} P) ∗ (locM d ↦{fullShare} M)) ∗ encs d A B fullShare) : sProp 𝕄)
      ⊢ iprop(encs d A B (shareDrop fullShare 2) ∗ bigSep Finset.univ (coreHas d X A B P M)) := by
  rw [rows_deal, show (bigSep Finset.univ (coreHas d X A B P M) : sProp 𝕄)
    = iprop((bigSep Finset.univ fun c : Fin 2 => encs d A B (coreShare c)) ∗ bigSep Finset.univ fun c : Fin 2 => bigSep Finset.univ (tileRows d X P M c)) from bigSep_sep' _ _ _]
  iintro ⟨HR, HE⟩
  ihave HE := (encs_deal d A B fullShare 2) $$ HE
  icases HE with ⟨HE, HT⟩
  isplitl [HE]; · iexact HE
  isplitl [HT]; · iexact HT
  iexact HR

theorem all_join :
    iprop(encs d A B (shareDrop fullShare 2) ∗ bigSep Finset.univ (coreHas d X A B P M))
      ⊢ (iprop(((locX d ↦{fullShare} X) ∗ (locP d ↦{fullShare} P) ∗ (locM d ↦{fullShare} M)) ∗ encs d A B fullShare) : sProp 𝕄) := by
  rw [rows_deal, show (bigSep Finset.univ (coreHas d X A B P M) : sProp 𝕄)
    = iprop((bigSep Finset.univ fun c : Fin 2 => encs d A B (coreShare c)) ∗ bigSep Finset.univ fun c : Fin 2 => bigSep Finset.univ (tileRows d X P M c)) from bigSep_sep' _ _ _]
  iintro ⟨HE, HT, HR⟩
  isplitl [HR]; · iexact HR
  iapply (encs_join d A B fullShare 2)
  isplitl [HE]; · iexact HE
  iexact HT

/-- The encodings as a tile names them. -/
abbrev gA : Memref sig .scVector .hbm S2048 .f32 := Memref.whole main_v1_scv
abbrev gB : Memref sig .scVector .hbm S2048 .f32 := Memref.whole main_v3_scv

theorem encs_held (c : Fin τ.nSC) (s : Fin τ.nSub) (q : PosShare TreeShare) :
    (encs d A B q : sProp 𝕄) = iprop(held d c s gA q A ∗ held d c s gB q B) := by
  rw [held_whole, held_whole]
  rfl

end Parts

/-- The grid point of a SparseCore and a tile. -/
def gridAt (c : Fin (grid0.bound 0)) (s : Fin (grid0.bound 1)) : grid0.Coords :=
  fun | 0 => c | 1 => s | ⟨_ + 2, h⟩ => absurd h (Nat.not_lt.2 (Nat.le_add_left _ _))

/-- The body the call runs on tile `(c, s)`. -/
abbrev taskProg (c : Fin (grid0.bound 0)) (s : Fin (grid0.bound 1)) :=
  cc0_k (F := F) (gridAt c s) (Memref.whole main_arg0_scv) (Memref.isWhole_whole _) (Memref.whole main_v1_scv) (Memref.isWhole_whole _)
    (Memref.whole main_v3_scv) (Memref.isWhole_whole _) (Memref.whole main_v4_0_scv) (Memref.isWhole_whole _) (Memref.whole main_v4_1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scoped0 cc0_scoped1

theorem defs₀_vector (c : Fin τ.nSC) (s : Fin τ.nSub) :
    defs₀ (F := F) (.scVector c s) 0 () = SparseCore.onTile hcore0 hsub0 (fun c s => taskProg (F := F) c s) ⟨⟩ c s := rfl

/-- A tile's task. -/
theorem task_wp (hF : (K (F := F)).Facts) (d : Dev nD) (X : S4096x6144.Idx → F .f32) (A B : S2048.Idx → F .f32) (P : S5x4096x2048.Idx → F .f32)
    (M : S4096x2048.Idx → BitVec 32) (c : Fin 2) (s : Fin 16) (O : CellTallies nD τ sig (HIx 1)) (W : Waits sig (HIx 1)) (hO : ∀ g, O g none = 0) :
    iprop(levAts (K (F := F)).L (K (F := F)).lev ∗ emp ∗ tileHas d X A B P M c s
        ∗ scopedBufs (V d (coreOf c) (tileOf s)) ∗ scopedSems0 (V d (coreOf c) (tileOf s)) ∗ owes (V d (coreOf c) (tileOf s)) O W)
      ⊢ wp frame (wpE (defs₀ (F := F)) 𝒱₀ (V d (coreOf c) (tileOf s)) none) Set.univ (taskProg (F := F) c s)
          fun _ => iprop(tileHas d X A B (planesOf X A B) (maskOf X) c s ∗ scopedBufs (V d (coreOf c) (tileOf s)) ∗ scopedSems0 (V d (coreOf c) (tileOf s))
            ∗ ∃ W', ⌜∀ p ∈ W', p ∈ W ∨ p.2 = none⌝ ∗ owes (V d (coreOf c) (tileOf s)) O W') := by
  unfold taskProg
  rw [k_eq]
  unfold tileHas tileRows
  rw [encs_held d A B (coreOf c) (tileOf s) (tileShare c s)]
  iintro ⟨Hlv, -, ⟨HE, HX, HQ⟩, Hb, Hs, HO⟩
  ihave HM := ((K (F := F)).mayWaits_none (thr := V d (coreOf c) (tileOf s)) hO) $$ Hlv
  ihave Hown := (own_open d (coreOf c) (tileOf s) hF) $$ [Hb Hs]
  · isplitl [Hb]; · iexact Hb
    iexact Hs
  icases Hown with ⟨Hown, Hrest⟩
  unfold tileOwn
  icases Hown with ⟨He, Hsl⟩
  iapply wp_wand $$ [HM HO HE He Hsl HX HQ]
  · iapply (tileProg_wp d (coreOf c) (tileOf s) X A B P M (base c s) (base_le c s) O W slot0 slot1 slot2 slot3 (Memref.whole cc0_scratch12)
      (Memref.whole cc0_scratch13) (gridAt c s) rfl gA gB (Memref.isWhole_whole _) (Memref.isWhole_whole _) (Memref.isWhole_whole _) (Memref.isWhole_whole _)
      cc0_scoped0 cc0_scoped1 (tileShare c s) (tileShare c s) A B (View.read_whole _ _) (View.read_whole _ _))
    isplitl [HM]; · iexact HM
    isplitl [HO]
    · unfold Owed
      iexists W
      isplitr
      · ipureintro; exact fun p hp => .inl hp
      iexact HO
    isplitl [HE]; · iexact HE
    isplitl [He]; · iexact He
    isplitl [Hsl]; · iexact Hsl
    isplitl [HX]; · iexact HX
    iexact HQ
  iintro %u ⟨HO, HE, He, Hsl, HX, HQ⟩
  isplitl [HE HX HQ]
  · isplitl [HE]; · iexact HE
    isplitl [HX]; · iexact HX
    iexact HQ
  ihave Hback := (own_close d (coreOf c) (tileOf s) hF) $$ [He Hsl Hrest]
  · unfold tileOwn
    isplitr [Hrest]
    · isplitl [He]; · iexact He
      iexact Hsl
    iexact Hrest
  icases Hback with ⟨Hb, Hs⟩
  isplitl [Hb]; · iexact Hb
  isplitl [Hs]; · iexact Hs
  unfold Owed
  iexact HO

end Cert.Proof.Ring
-- ==== Proof.Call.lean ====
/-
  The call's payload and what the launch theorem asks of it: every tile's task, and a SparseCore's part as its tiles'.
-/
module

public import proofs.«01_k».proof.Proof.Launch

@[expose] public section

set_option maxRecDepth 65536

noncomputable section

namespace Cert.Proof.Ring

open Cert.KernelIdeal Cert.KernelIdeal.Gen
open Idealize.ShloMosaic
open Idealize.ShloMosaic.SparseCore (S V T)
open Idealize.ShloMosaic.SparseCore.Cfg (HIx Pay)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig (HIx 1) (Elt F) ℕ UU ℕ

variable (m : (ℓ : Loc nD τ sig) → Buf (Elt F) ℓ)

/-- The rows and the two encodings a device's call is given, from the launch memory. -/
abbrev givenX (d : Dev nD) : S4096x6144.Idx → F .f32 := m (locX d)
abbrev givenE (d : Dev nD) : S2048x2.Idx → F .f32 := m ((SparseCore.T d).loc main_arg1)
def givenA (d : Dev nD) : S2048.Idx → F .f32 :=
  shapeCast S2048 (extractStridedSlice S2048x1 ![0, 0] (givenE m d) slices_S2048x2_S2048x1_0_0) shapeCasts_S2048x1_S2048
def givenB (d : Dev nD) : S2048.Idx → F .f32 :=
  shapeCast S2048 (extractStridedSlice S2048x1 ![0, 1] (givenE m d) slices_S2048x2_S2048x1_0_1) shapeCasts_S2048x1_S2048

/-- The planes and the mask the call leaves. -/
abbrev donePlanes (d : Dev nD) : S5x4096x2048.Idx → F .f32 := planesOf (givenX m d) (givenA m d) (givenB m d)
abbrev doneMask (d : Dev nD) : S4096x2048.Idx → BitVec 32 := maskOf (givenX m d)

/-- A SparseCore's and a tile's part before the call and after it. -/
abbrev coreIn (d : Dev nD) (c : Fin 2) : sProp 𝕄 := coreHas d (givenX m d) (givenA m d) (givenB m d) (m (locP d)) (m (locM d)) c
abbrev coreOut (d : Dev nD) (c : Fin 2) : sProp 𝕄 := coreHas d (givenX m d) (givenA m d) (givenB m d) (donePlanes m d) (doneMask m d) c
abbrev tileIn (d : Dev nD) (c : Fin 2) (s : Fin 16) : sProp 𝕄 := tileHas d (givenX m d) (givenA m d) (givenB m d) (m (locP d)) (m (locM d)) c s
abbrev tileOut (d : Dev nD) (c : Fin 2) (s : Fin 16) : sProp 𝕄 := tileHas d (givenX m d) (givenA m d) (givenB m d) (donePlanes m d) (doneMask m d) c s

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with | 0 => coreIn m d (Fin.cast nCore_zero c)
  dn := fun q d c => match q with | 0 => coreOut m d (Fin.cast nCore_zero c)
  go := fun q d c i => match q with | 0 => tileIn m d (Fin.cast nCore_zero c) (Fin.cast nSub_zero i)
  td := fun q d c i => match q with | 0 => tileOut m d (Fin.cast nCore_zero c) (Fin.cast nSub_zero i)
  x := fun _ _ => iprop(emp)

instance P_storable : (P (F := F) m).IsStorable where
  st q d c := match q with | 0 => (inferInstance : BI.Storable (upEmb : UEmb _ 𝕄) (coreIn m d (Fin.cast nCore_zero c)))
  dn q d c := match q with | 0 => (inferInstance : BI.Storable (upEmb : UEmb _ 𝕄) (coreOut m d (Fin.cast nCore_zero c)))
  go q d c i := match q with | 0 => (inferInstance : BI.Storable (upEmb : UEmb _ 𝕄) (tileIn m d (Fin.cast nCore_zero c) (Fin.cast nSub_zero i)))
  td q d c i := match q with | 0 => (inferInstance : BI.Storable (upEmb : UEmb _ 𝕄) (tileOut m d (Fin.cast nCore_zero c) (Fin.cast nSub_zero i)))

/-- What a task records among its waits is what the handshake lets it. -/
theorem task_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'
  isplitr
  · ipureintro; exact fun p hp => (hW p hp).imp_right Or.inl
  iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (task_wp hF d (givenX m d) (givenA m d) (givenB m d) (m (locP d)) (m (locM d)) (Fin.cast nCore_zero c) (Fin.cast nSub_zero i) O W hO).trans
    (wp_mono frame _ _ fun _ => task_post)

theorem vecSplit : (K (F := F)).VecSplit' (P m) 0 := by
  intro d c
  show (coreIn m d (Fin.cast nCore_zero c) : sProp 𝕄) ⊢ |={Set.univ}=> iprop(
    (bigSep (Finset.univ : Finset (Fin 16)) (tileIn m d (Fin.cast nCore_zero c)))
      ∗ ((bigSep (Finset.univ : Finset (Fin 16)) (tileOut m d (Fin.cast nCore_zero c))) -∗ coreOut m d (Fin.cast nCore_zero c)))
  iintro H
  ihave H := (core_deal d _ _ _ _ _ _) $$ H
  icases H with ⟨HE, HT⟩
  imodintro
  isplitl [HT]; · iexact HT
  iintro HT
  iapply (core_join d _ _ _ _ _ _)
  isplitl [HE]; · iexact HE
  iexact HT

/-- The launch element: the handshakes' rounds, and no counter yet. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) :=
    (bigSep_congr fun _ _ => bigSep_emp_const _).trans (bigSep_emp_const _)
  have he : (bigSep Finset.univ fun _ : Dev nD => iprop(emp)) = (iprop(emp) : sProp 𝕄) := bigSep_emp_const _
  rw [hx, he]
  unfold u₀
  iintro Hu
  ihave H := (ownU_pair _ _) $$ Hu
  icases H with ⟨HH, -⟩
  imodintro
  isplitl [HH]; · iexact HH
  isplitr <;> iempintro

end Cert.Proof.Ring
-- ==== Proof.Main.lean ====
/-
  @main on the TensorCore: the two encodings taken out of the table, the call, the planes turned and the mask read as a
  predicate; and the whole program's run.
-/
module

public import proofs.«01_k».proof.Proof.Call
public import Idealize.ShloMosaic.Lib.Pipeline.Frame

@[expose] public section

set_option maxRecDepth 65536

noncomputable section

namespace Cert.Proof.Ring

open Cert.KernelIdeal Cert.KernelIdeal.Gen
open Idealize.ShloMosaic
open Idealize.ShloMosaic.SparseCore (S V T)
open Idealize.ShloMosaic.SparseCore.Cfg (HIx Pay)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (ucRefs unscopedBufs_held sub_ucRefs)

variable {F : FTy → Type} [FloatOps F]

local notation "𝕄" => MT nD τ sig (HIx 1) (Elt F) ℕ UU ℕ

/-! ## The operations -/

abbrev op1 : HloOp τ sig (Elt F) := StableHlo.unary main_arg1 main_v0 ((extractStridedSlice S2048x1 ![0, 0] · slices_S2048x2_S2048x1_0_0) : (⟨S2048x2, .f32⟩ : BufTy).Contents (Elt F) → (⟨S2048x1, .f32⟩ : BufTy).Contents (Elt F))
abbrev op2 : HloOp τ sig (Elt F) := StableHlo.reshape main_v0 main_v1 (rfl : (.f32 : EltTy) = .f32) shapeCasts_S2048x1_S2048
abbrev op3 : HloOp τ sig (Elt F) := StableHlo.unary main_arg1 main_v2 ((extractStridedSlice S2048x1 ![0, 1] · slices_S2048x2_S2048x1_0_1) : (⟨S2048x2, .f32⟩ : BufTy).Contents (Elt F) → (⟨S2048x1, .f32⟩ : BufTy).Contents (Elt F))
abbrev op4 : HloOp τ sig (Elt F) := StableHlo.reshape main_v2 main_v3 (rfl : (.f32 : EltTy) = .f32) shapeCasts_S2048x1_S2048
abbrev op5 : HloOp τ sig (Elt F) := StableHlo.unary main_v4_0 main_v5 ((transpose S4096x2048x5 [1, 2, 0] · transposes_S5x4096x2048_S4096x2048x5_1_2_0) : (⟨S5x4096x2048, .f32⟩ : BufTy).Contents (Elt F) → (⟨S4096x2048x5, .f32⟩ : BufTy).Contents (Elt F))
abbrev op6 : HloOp τ sig (Elt F) := StableHlo.nullary main_c (constantI S_ 32 0#32)
abbrev op7 : HloOp τ sig (Elt F) := StableHlo.unary main_c main_v6 (broadcastInDim S4096x2048 ![] bcast_S_S4096x2048 : (⟨S_, .i32⟩ : BufTy).Contents (Elt F) → (⟨S4096x2048, .i32⟩ : BufTy).Contents (Elt F))
abbrev op8 : HloOp τ sig (Elt F) := StableHlo.binary main_v4_1 main_v6 main_v7 (cmpi .ne : (⟨S4096x2048, .i32⟩ : BufTy).Contents (Elt F) → (⟨S4096x2048, .i32⟩ : BufTy).Contents (Elt F) → (⟨S4096x2048, .i1⟩ : BufTy).Contents (Elt F))
abbrev op9 : HloOp τ sig (Elt F) := StableHlo.unary main_v7 main_v8 (id : (⟨S4096x2048, .i1⟩ : BufTy).Contents (Elt F) → (⟨S4096x2048, .i1⟩ : BufTy).Contents (Elt F))

theorem main_eq (d : Dev nD) :
    main (F := F) d = (do
      hlo rfl op1 (fun _ => .ret ⟨⟩)
      hlo rfl op2 (fun _ => .ret ⟨⟩)
      hlo rfl op3 (fun _ => .ret ⟨⟩)
      hlo rfl op4 (fun _ => .ret ⟨⟩)
      (K (F := F)).run d 0
      hlo rfl op5 (fun _ => .ret ⟨⟩)
      hlo rfl op6 (fun _ => .ret ⟨⟩)
      hlo rfl op7 (fun _ => .ret ⟨⟩)
      hlo rfl op8 (fun _ => .ret ⟨⟩)
      hlo rfl op9 (fun _ => .ret ⟨⟩)
      pure ⟨⟩) := rfl

/-! ## The arrays' contents along @main -/

abbrev dref (b : Ref sig .tc) : DevRef τ sig := Proc.devRef .tc b

variable (m : (ℓ : Loc nD τ sig) → Buf (Elt F) ℓ) (ρ : Dev nD → PrngReg)

def V0 (d : Dev nD) : Valuation τ sig (Elt F) := fun b => m (d, b)
def V1 (d : Dev nD) : Valuation τ sig (Elt F) := op4.result (op3.result (op2.result (op1.result (V0 m d))))
def V2 (d : Dev nD) : Valuation τ sig (Elt F) :=
  Function.update (Function.update (V1 m d) (dref main_v4_0) (donePlanes m d)) (dref main_v4_1) (doneMask m d)
def V3 (d : Dev nD) : Valuation τ sig (Elt F) := op9.result (op8.result (op7.result (op6.result (op5.result (V2 m d)))))

/-- An operation leaves an array it does not write. -/
theorem aside (op : HloOp τ sig (Elt F)) {W : Valuation τ sig (Elt F)} {y r : Ref sig .tc} (hw : op.writes = {dref y}) (h : r ≠ y) :
    op.result W (dref r) = W (dref r) := StableHlo.result_of_writes_ne op W y r hw h

theorem V1_of_ne (d : Dev nD) {r : Ref sig .tc} (h0 : r ≠ main_v0) (h1 : r ≠ main_v1) (h2 : r ≠ main_v2) (h3 : r ≠ main_v3) :
    V1 m d (dref r) = m (d, dref r) := by
  unfold V1
  rw [aside op4 rfl h3, aside op3 rfl h2, aside op2 rfl h1, aside op1 rfl h0]
  rfl

theorem V1_x (d : Dev nD) : V1 m d (dref main_arg0) = givenX m d := V1_of_ne m d (by decide) (by decide) (by decide) (by decide)
theorem V1_e (d : Dev nD) : V1 m d (dref main_arg1) = givenE m d := V1_of_ne m d (by decide) (by decide) (by decide) (by decide)
theorem V1_p (d : Dev nD) : V1 m d (dref main_v4_0) = m (locP d) := V1_of_ne m d (by decide) (by decide) (by decide) (by decide)
theorem V1_m (d : Dev nD) : V1 m d (dref main_v4_1) = m (locM d) := V1_of_ne m d (by decide) (by decide) (by decide) (by decide)
theorem V1_a (d : Dev nD) : V1 m d (dref main_v1) = givenA m d := by
  unfold V1
  rw [aside op4 (y := main_v3) rfl (by decide), aside op3 (y := main_v2) rfl (by decide), StableHlo.reshape_result, StableHlo.unary_result]
  rfl
theorem V1_b (d : Dev nD) : V1 m d (dref main_v3) = givenB m d := by
  unfold V1
  rw [StableHlo.reshape_result, StableHlo.unary_result, aside op2 (y := main_v1) rfl (by decide), aside op1 (y := main_v0) rfl (by decide)]
  rfl

theorem V2_of_ne (d : Dev nD) (b : DevRef τ sig) (h0 : b ≠ dref main_v4_0) (h1 : b ≠ dref main_v4_1) : V2 m d b = V1 m d b := by
  unfold V2
  rw [Function.update_of_ne h1, Function.update_of_ne h0]
theorem V2_p (d : Dev nD) : V2 m d (dref main_v4_0) = donePlanes m d := by
  unfold V2
  rw [Function.update_of_ne (by decide), Function.update_self]
theorem V2_m (d : Dev nD) : V2 m d (dref main_v4_1) = doneMask m d := by
  unfold V2
  rw [Function.update_self]

/-- The results. -/
def outVal (d : Dev nD) : S4096x2048x5.Idx → F .f32 := transpose S4096x2048x5 [1, 2, 0] (donePlanes m d) transposes_S5x4096x2048_S4096x2048x5_1_2_0
def maskVal (d : Dev nD) : S4096x2048.Idx → BitVec 1 := cmpi .ne (doneMask m d) (broadcastInDim S4096x2048 ![] bcast_S_S4096x2048 (constantI S_ 32 0#32))

theorem V3_of_ne (d : Dev nD) {r : Ref sig .tc} (h5 : r ≠ main_v5) (hc : r ≠ main_c) (h6 : r ≠ main_v6) (h7 : r ≠ main_v7) (h8 : r ≠ main_v8) :
    V3 m d (dref r) = V2 m d (dref r) := by
  unfold V3
  rw [aside op9 rfl h8, aside op8 rfl h7, aside op7 rfl h6, aside op6 rfl hc, aside op5 rfl h5]
theorem V3_x (d : Dev nD) : V3 m d (dref main_arg0) = m (locX d) := by
  rw [V3_of_ne m d (by decide) (by decide) (by decide) (by decide) (by decide), V2_of_ne m d _ (by decide) (by decide), V1_x]
theorem V3_e (d : Dev nD) : V3 m d (dref main_arg1) = m ((SparseCore.T d).loc main_arg1) := by
  rw [V3_of_ne m d (by decide) (by decide) (by decide) (by decide) (by decide), V2_of_ne m d _ (by decide) (by decide), V1_e]
theorem V3_out (d : Dev nD) : V3 m d (dref main_v5) = outVal m d := by
  unfold V3
  rw [aside op9 (y := main_v8) rfl (by decide), aside op8 (y := main_v7) rfl (by decide), aside op7 (y := main_v6) rfl (by decide),
    aside op6 (y := main_c) rfl (by decide), StableHlo.unary_result, V2_p]
  rfl
theorem V3_mask (d : Dev nD) : V3 m d (dref main_v8) = maskVal m d := by
  unfold V3
  have hc : op6.result (op5.result (V2 m d)) (dref main_c) = constantI S_ 32 0#32 := StableHlo.nullary_result main_c _ _ _
  rw [StableHlo.unary_result, StableHlo.binary_result, StableHlo.unary_result, hc, aside op7 (y := main_v6) rfl (by decide),
    aside op6 (y := main_c) rfl (by decide), aside op5 (y := main_v5) rfl (by decide), V2_m]
  rfl

/-! ## The arrays held -/

/-- What the call takes, and what the claims read. -/
abbrev callRefs : Finset (DevRef τ sig) := {dref main_arg0, dref main_v4_0, dref main_v4_1, dref main_v1, dref main_v3}
abbrev readRefs : Finset (DevRef τ sig) := {dref main_arg0, dref main_arg1, dref main_v5, dref main_v8}

theorem callRefs_sub : callRefs ⊆ ucRefs τ sig := by decide
theorem readRefs_sub : readRefs ⊆ ucRefs τ sig := by decide

theorem regroup (A B C : sProp 𝕄) : iprop((A ∗ B) ∗ C) = iprop(A ∗ B ∗ C) := equiv_iff.mp ⟨BI.sep_assoc, BI.sep_assoc'⟩

theorem held_call (d : Dev nD) (W : Valuation τ sig (Elt F)) :
    (StableHlo.held (SparseCore.T d) callRefs W : sProp 𝕄)
      = iprop(((locX d ↦{fullShare} W (dref main_arg0)) ∗ (locP d ↦{fullShare} W (dref main_v4_0)) ∗ (locM d ↦{fullShare} W (dref main_v4_1)))
          ∗ (locA d ↦{fullShare} W (dref main_v1)) ∗ (locB d ↦{fullShare} W (dref main_v3))) := by
  unfold StableHlo.held callRefs
  rw [SparseCore.bigSep_insert' (by decide), SparseCore.bigSep_insert' (by decide), SparseCore.bigSep_insert' (by decide), SparseCore.bigSep_insert' (by decide),
    bigSep_singleton]
  rw [regroup, regroup]

/-- What @main leaves the claims. -/
def FIN (d : Dev nD) : sProp 𝕄 :=
  iprop((locX d ↦{fullShare} m (locX d)) ∗ ((SparseCore.T d).loc main_arg1 ↦{fullShare} m ((SparseCore.T d).loc main_arg1))
    ∗ ((SparseCore.T d).loc main_v5 ↦{fullShare} outVal m d) ∗ ((SparseCore.T d).loc main_v8 ↦{fullShare} maskVal m d))

theorem held_read (d : Dev nD) : (StableHlo.held (SparseCore.T d) readRefs (V3 m d) : sProp 𝕄) = FIN m d := by
  unfold StableHlo.held readRefs FIN
  rw [SparseCore.bigSep_insert' (by decide), SparseCore.bigSep_insert' (by decide), SparseCore.bigSep_insert' (by decide), bigSep_singleton,
    V3_x, V3_e, V3_out, V3_mask]

/-- The arrays before the call are what it takes, and the rest; and so after it. -/
theorem before_call (d : Dev nD) :
    (StableHlo.held (SparseCore.T d) (ucRefs τ sig) (V1 m d) : sProp 𝕄)
      = iprop((((locX d ↦{fullShare} givenX m d) ∗ (locP d ↦{fullShare} m (locP d)) ∗ (locM d ↦{fullShare} m (locM d))) ∗ encs d (givenA m d) (givenB m d) fullShare)
          ∗ StableHlo.held (SparseCore.T d) (ucRefs τ sig \ callRefs) (V1 m d)) := by
  rw [StableHlo.held_sub_split _ callRefs_sub, held_call, V1_x, V1_p, V1_m, V1_a, V1_b]
  rfl
theorem after_call (d : Dev nD) :
    (StableHlo.held (SparseCore.T d) (ucRefs τ sig) (V2 m d) : sProp 𝕄)
      = iprop((((locX d ↦{fullShare} givenX m d) ∗ (locP d ↦{fullShare} donePlanes m d) ∗ (locM d ↦{fullShare} doneMask m d)) ∗ encs d (givenA m d) (givenB m d) fullShare)
          ∗ StableHlo.held (SparseCore.T d) (ucRefs τ sig \ callRefs) (V1 m d)) := by
  rw [StableHlo.held_sub_split _ callRefs_sub, held_call, V2_p, V2_m, V2_of_ne m d _ (by decide) (by decide), V2_of_ne m d _ (by decide) (by decide),
    V2_of_ne m d _ (by decide) (by decide), V1_x, V1_a, V1_b,
    StableHlo.held_congr (SparseCore.T d) (S := ucRefs τ sig \ callRefs) (V := V2 m d) (V' := V1 m d) fun b hb => V2_of_ne m d b
      (fun e => (Finset.mem_sdiff.mp hb).2 (e ▸ by decide)) (fun e => (Finset.mem_sdiff.mp hb).2 (e ▸ by decide))]
  rfl

theorem launch_held (d : Dev nD) :
    (unscopedBufs d (fun b => m ((SparseCore.T d).loc b)) : sProp 𝕄) = StableHlo.held (SparseCore.T d) (ucRefs τ sig) (V0 m d) :=
  unscopedBufs_held d (V0 m d)

end Cert.Proof.Ring
-- ==== Proof.Run.lean ====
/-
  The whole program's run: every weakly fair execution ends, the arguments unchanged, the results at the planes turned and the
  mask's predicate, and every semaphore at zero.
-/
module

public import proofs.«01_k».proof.Proof.Main

@[expose] public section

set_option maxRecDepth 65536

noncomputable section

namespace Cert.Proof.Ring

open Cert.KernelIdeal Cert.KernelIdeal.Gen
open Idealize.ShloMosaic
open Idealize.ShloMosaic.SparseCore (S V T)
open Idealize.ShloMosaic.SparseCore.Cfg (HIx Pay)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (ucRefs unscopedBufs_held sub_ucRefs)

variable {F : FTy → Type} [FloatOps F]

local notation "𝕄" => MT nD τ sig (HIx 1) (Elt F) ℕ UU ℕ

variable (m : (ℓ : Loc nD τ sig) → Buf (Elt F) ℓ) (ρ : Dev nD → PrngReg)

theorem st0_eq (d : Dev nD) : (bigSep Finset.univ fun c : Fin ((K (F := F)).nCore 0) => (P m).st 0 d c) = (bigSep Finset.univ (coreIn m d) : sProp 𝕄) := rfl
theorem dn0_eq (d : Dev nD) : (bigSep Finset.univ fun c : Fin ((K (F := F)).nCore 0) => (P m).dn 0 d c) = (bigSep Finset.univ (coreOut m d) : sProp 𝕄) := rfl

theorem V1_eq (d : Dev nD) : op4.result (op3.result (op2.result (op1.result (V0 m d)))) = V1 m d := rfl
theorem V3_eq (d : Dev nD) : op9.result (op8.result (op7.result (op6.result (op5.result (V2 m d))))) = V3 m d := rfl

theorem op1_sub : (op1 (F := F)).bufs ⊆ ucRefs τ sig := sub_ucRefs _ (StableHlo.unary_bufs_sub ..)
theorem op2_sub : (op2 (F := F)).bufs ⊆ ucRefs τ sig := sub_ucRefs _ (StableHlo.reshape_bufs_sub ..)
theorem op3_sub : (op3 (F := F)).bufs ⊆ ucRefs τ sig := sub_ucRefs _ (StableHlo.unary_bufs_sub ..)
theorem op4_sub : (op4 (F := F)).bufs ⊆ ucRefs τ sig := sub_ucRefs _ (StableHlo.reshape_bufs_sub ..)
theorem op5_sub : (op5 (F := F)).bufs ⊆ ucRefs τ sig := sub_ucRefs _ (StableHlo.unary_bufs_sub ..)
theorem op6_sub : (op6 (F := F)).bufs ⊆ ucRefs τ sig := sub_ucRefs _ (StableHlo.nullary_bufs_sub ..)
theorem op7_sub : (op7 (F := F)).bufs ⊆ ucRefs τ sig := sub_ucRefs _ (StableHlo.unary_bufs_sub ..)
theorem op8_sub : (op8 (F := F)).bufs ⊆ ucRefs τ sig := sub_ucRefs _ (StableHlo.binary_bufs_sub ..)
theorem op9_sub : (op9 (F := F)).bufs ⊆ ucRefs τ sig := sub_ucRefs _ (StableHlo.unary_bufs_sub ..)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held, main_eq]
  simp only [wp_bind, wp_pure]
  iintro ⟨#Hctx, Hst, ⟨Hb, Hh, Hts, -⟩, -⟩
  iapply (StableHlo.wp_hlo_within 𝒱 (SparseCore.T d) none Set.univ (op := op1) (S := ucRefs τ sig) op1_sub (V := V0 m d)) $$ [Hb Hh]
  · isplitl [Hb]; · iexact Hb
    iexact Hh
  iintro ⟨Hb, Hh⟩
  rw [wp_ret]; imodintro
  iapply (StableHlo.wp_hlo_within 𝒱 (SparseCore.T d) none Set.univ (op := op2) (S := ucRefs τ sig) op2_sub) $$ [Hb Hh]
  · isplitl [Hb]; · iexact Hb
    iexact Hh
  iintro ⟨Hb, Hh⟩
  rw [wp_ret]; imodintro
  iapply (StableHlo.wp_hlo_within 𝒱 (SparseCore.T d) none Set.univ (op := op3) (S := ucRefs τ sig) op3_sub) $$ [Hb Hh]
  · isplitl [Hb]; · iexact Hb
    iexact Hh
  iintro ⟨Hb, Hh⟩
  rw [wp_ret]; imodintro
  iapply (StableHlo.wp_hlo_within 𝒱 (SparseCore.T d) none Set.univ (op := op4) (S := ucRefs τ sig) op4_sub) $$ [Hb Hh]
  · isplitl [Hb]; · iexact Hb
    iexact Hh
  iintro ⟨Hb, Hh⟩
  rw [wp_ret]; imodintro
  ihave Hh := (Entails.of_eq ((congrArg (StableHlo.held (SparseCore.T d) (ucRefs τ sig)) (V1_eq m d)).trans (before_call m d))) $$ Hh
  icases Hh with ⟨Hcall, Hrest⟩
  ihave Hcall := (all_deal d _ _ _ _ _) $$ Hcall
  icases Hcall with ⟨HE, Hcores⟩
  iapply ((K (F := F)).wp_run (D (F := F)) 𝒱 (EH := EH) (P := P m) κ d 0) $$ [Hst Hcores Hb HE Hrest Hts]
  isplitr; · iexact Hctx
  isplitl [Hst]; · iexact Hst
  isplitl [Hcores]
  · rw [st0_eq]; iexact Hcores
  iintro ⟨Hst, Hdn⟩
  ihave Hdn := (Entails.of_eq (dn0_eq m d)) $$ Hdn
  ihave Hcall := (all_join d _ _ _ _ _) $$ [HE Hdn]
  · isplitl [HE]; · iexact HE
    iexact Hdn
  ihave Hh := (Entails.of_eq (after_call m d).symm) $$ [Hcall Hrest]
  · isplitl [Hcall]; · iexact Hcall
    iexact Hrest
  iapply (StableHlo.wp_hlo_within 𝒱 (SparseCore.T d) none Set.univ (op := op5) (S := ucRefs τ sig) op5_sub (V := V2 m d)) $$ [Hb Hh]
  · isplitl [Hb]; · iexact Hb
    iexact Hh
  iintro ⟨Hb, Hh⟩
  rw [wp_ret]; imodintro
  iapply (StableHlo.wp_hlo_within 𝒱 (SparseCore.T d) none Set.univ (op := op6) (S := ucRefs τ sig) op6_sub) $$ [Hb Hh]
  · isplitl [Hb]; · iexact Hb
    iexact Hh
  iintro ⟨Hb, Hh⟩
  rw [wp_ret]; imodintro
  iapply (StableHlo.wp_hlo_within 𝒱 (SparseCore.T d) none Set.univ (op := op7) (S := ucRefs τ sig) op7_sub) $$ [Hb Hh]
  · isplitl [Hb]; · iexact Hb
    iexact Hh
  iintro ⟨Hb, Hh⟩
  rw [wp_ret]; imodintro
  iapply (StableHlo.wp_hlo_within 𝒱 (SparseCore.T d) none Set.univ (op := op8) (S := ucRefs τ sig) op8_sub) $$ [Hb Hh]
  · isplitl [Hb]; · iexact Hb
    iexact Hh
  iintro ⟨Hb, Hh⟩
  rw [wp_ret]; imodintro
  iapply (StableHlo.wp_hlo_within 𝒱 (SparseCore.T d) none Set.univ (op := op9) (S := ucRefs τ sig) op9_sub) $$ [Hb Hh]
  · isplitl [Hb]; · iexact Hb
    iexact Hh
  iintro ⟨Hb, Hh⟩
  rw [wp_ret]; imodintro; imodintro
  ihave Hh := (Entails.of_eq ((congrArg (StableHlo.held (SparseCore.T d) (ucRefs τ sig)) (V3_eq m d)).trans
    (StableHlo.held_sub_split (SparseCore.T d) readRefs_sub (V3 m d)))) $$ Hh
  icases Hh with ⟨Hread, -⟩
  ihave Hread := (Entails.of_eq (held_read m d)) $$ Hread
  isplitl [Hst]; · iexact Hst
  isplitl [Hread]; · iexact Hread
  isplitl [Hb] <;> iassumption

/-- What the claims read of a final memory, on one device. -/
def fq (d : Dev nD) (s : Phys nD τ sig (Elt F)) : Prop :=
  s.mem.mem (locX d) = m (locX d) ∧ s.mem.mem ((SparseCore.T d).loc main_arg1) = m ((SparseCore.T d).loc main_arg1)
    ∧ s.mem.mem ((SparseCore.T d).loc main_v5) = outVal m d ∧ s.mem.mem ((SparseCore.T d).loc main_v8) = maskVal m d

/-- An array held whole is the memory's. -/
theorem read_back (s : Phys nD τ sig (Elt F)) (ℓ : Loc nD τ sig) (f : Buf (Elt F) ℓ) :
    (iprop(SI s ∗ (ℓ ↦{fullShare} f)) : sProp 𝕄) ⊢ iprop(⌜s.mem.mem ℓ = f⌝ ∗ SI s) := by
  iintro H
  ihave H := (persistent_entails_right (SI_pointsTo_agree (st := s) (ℓ := ℓ) (I := Finset.univ) (q := fullShare) (f := f))) $$ H
  icases H with ⟨%h, HS, -⟩
  isplitr
  · ipureintro; exact funext fun i => h i (Finset.mem_univ i)
  iexact HS

theorem hfin (d : Dev nD) (s : Phys nD τ sig (Elt F)) : iprop(FIN m d ∗ SI s) ⊢ (⌜fq m d s⌝ : sProp 𝕄) := by
  unfold FIN
  iintro ⟨⟨Hx, He, Ho, Hk⟩, HS⟩
  ihave H := (read_back s _ _) $$ [HS Hx]
  · isplitl [HS]; · iexact HS
    iexact Hx
  icases H with ⟨%hx, HS⟩
  ihave H := (read_back s _ _) $$ [HS He]
  · isplitl [HS]; · iexact HS
    iexact He
  icases H with ⟨%he, HS⟩
  ihave H := (read_back s _ _) $$ [HS Ho]
  · isplitl [HS]; · iexact HS
    iexact Ho
  icases H with ⟨%ho, HS⟩
  ihave H := (read_back s _ _) $$ [HS Hk]
  · isplitl [HS]; · iexact HS
    iexact Hk
  icases H with ⟨%hk, -⟩
  ipureintro
  exact ⟨hx, he, ho, hk⟩

/-- What the run ends in. -/
def QC : PUnit × MemSt nD τ sig (Elt F) → Prop := fun r =>
  (∀ d : Dev nD, r.2.mem (locX d) = m (locX d) ∧ r.2.mem ((SparseCore.T d).loc main_arg1) = m ((SparseCore.T d).loc main_arg1)
    ∧ r.2.mem ((SparseCore.T d).loc main_v5) = outVal m d ∧ r.2.mem ((SparseCore.T d).loc main_v8) = maskVal m d) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Ring
-- ==== Proof.Value.lean ====
/-
  The reference's two results, element by element, are what the kernel's program leaves: the five planes turned and the
  mask's predicate.
-/
module

public import proofs.«01_k».proof.Proof.Run
public import proofs.«01_k».proof.Proof.Gen.ReferenceIdeal.Run
public import Idealize.ShloMosaic.Lib.Pipeline.Value

@[expose] public section

set_option maxRecDepth 65536

noncomputable section

namespace Cert.Proof.Ring

open Cert.ReferenceIdeal Cert.ReferenceIdeal.Gen
open Idealize.ShloMosaic Idealize.SL.Sem

variable {F : FTy → Type} [FloatOps F]

section Reads

variable (X : S4096x6144.Idx → F .f32) (E : S2048x2.Idx → F .f32)

/-- The points of the rows: coordinate `k` of point `n` of row `b` is element `3 n + k` of the row. -/
abbrev points : S4096x2048x3.Idx → F .f32 := shapeCast S4096x2048x3 X shapeCasts_S4096x6144_S4096x2048x3

theorem points_at (i : S4096x2048x3.Idx) :
    points X i = X (ixX (i 0).val (3 * (i 1).val + (i 2).val) (i 0).isLt
      (by have h1 : (i 1).val < 2048 := (i 1).isLt; have h2 : (i 2).val < 3 := (i 2).isLt; omega)) := by
  refine shapeCast_apply X _ i _ ?_
  rw [Shape.rowMajor_val_two, Shape.rowMajor_val_three]
  show (i 0).val * 6144 + (3 * (i 1).val + (i 2).val) = ((i 0).val * 2048 + (i 1).val) * 3 + (i 2).val
  omega

/-- The third coordinates, as the reference takes them out. -/
abbrev thirds : S4096x2048.Idx → F .f32 :=
  shapeCast S4096x2048 (extractStridedSlice S4096x2048x1 ![0, 0, 2] (points X) slices_S4096x2048x3_S4096x2048x1_0_0_2) shapeCasts_S4096x2048x1_S4096x2048

/-- An index of the points, and of the unit plane of them. -/
abbrev ixQ (b n k : Nat) (hb : b < 4096) (hn : n < 2048) (hk : k < 3) : S4096x2048x3.Idx
  | 0 => ⟨b, hb⟩
  | 1 => ⟨n, hn⟩
  | 2 => ⟨k, hk⟩
abbrev ixU (b n : Nat) (hb : b < 4096) (hn : n < 2048) : S4096x2048x1.Idx
  | 0 => ⟨b, hb⟩
  | 1 => ⟨n, hn⟩
  | 2 => ⟨0, Nat.one_pos⟩

theorem thirds_at (b n : Nat) (hb : b < 4096) (hn : n < 2048) : thirds X (ixM b n hb hn) = X (ixX b (3 * n + 2) hb (by omega)) := by
  refine (shapeCast_apply _ _ (ixM b n hb hn) (ixU b n hb hn) ?_).trans ((extractStridedSlice_apply _ _ _ _ (ixQ b n 2 hb hn (by decide)) ?_).trans ?_)
  · rw [Shape.rowMajor_val_two, Shape.rowMajor_val_three]
    show (b * 2048 + n) * 1 + 0 = b * 2048 + n
    omega
  · intro a
    match a with
    | 0 => exact (Nat.zero_add b).symm
    | 1 => exact (Nat.zero_add n).symm
    | 2 => rfl
  · rw [points_at]

/-- The reference's mask. -/
def refMask : S4096x2048.Idx → BitVec 1 :=
  cmpf .ogt (thirds X) (broadcastInDim S4096x2048 ![] bcast_S_S4096x2048 (constant S_ .f32 0x00000000#32))

theorem refMask_at (b n : Nat) (hb : b < 4096) (hn : n < 2048) : refMask X (ixM b n hb hn) = posBit (X (ixX b (3 * n + 2) hb (by omega))) := by
  rw [← thirds_at X b n hb hn]
  rfl

/-- The encodings under every row. -/
abbrev spread : S4096x2048x2.Idx → F .f32 :=
  broadcastInDim S4096x2048x2 ![0, 1, 2] bcast_S1x2048x2_S4096x2048x2_0_1_2 (broadcastInDim S1x2048x2 ![1, 2] bcast_S2048x2_S1x2048x2_1_2 E)

abbrev ixE (n k : Nat) (hn : n < 2048) (hk : k < 2) : S2048x2.Idx
  | 0 => ⟨n, hn⟩
  | 1 => ⟨k, hk⟩
abbrev ixS (b n k : Nat) (hb : b < 4096) (hn : n < 2048) (hk : k < 2) : S4096x2048x2.Idx
  | 0 => ⟨b, hb⟩
  | 1 => ⟨n, hn⟩
  | 2 => ⟨k, hk⟩
abbrev ixR (b n k : Nat) (hb : b < 4096) (hn : n < 2048) (hk : k < 5) : S4096x2048x5.Idx
  | 0 => ⟨b, hb⟩
  | 1 => ⟨n, hn⟩
  | 2 => ⟨k, hk⟩

theorem spread_at (b n k : Nat) (hb : b < 4096) (hn : n < 2048) (hk : k < 2) : spread E (ixS b n k hb hn hk) = E (ixE n k hn hk) := by
  unfold spread broadcastInDim
  congr 1
  funext a
  match a with
  | 0 => rfl
  | 1 => rfl

/-- The reference's rows: each point's three coordinates and two encodings, zero where the mask is not set. -/
def refOut : S4096x2048x5.Idx → F .f32 :=
  select (broadcastInDim S4096x2048x5 ![0, 1, 2] bcast_S4096x2048x1_S4096x2048x5_0_1_2 (broadcastInDim S4096x2048x1 ![0, 1] bcast_S4096x2048_S4096x2048x1_0_1 (refMask X)))
    (concatenate S4096x2048x5 2 [⟨S4096x2048x3, points X⟩, ⟨S4096x2048x2, spread E⟩] concatenates_S4096x2048x3_S4096x2048x2_S4096x2048x5_d2)
    (broadcastInDim S4096x2048x5 ![] bcast_S_S4096x2048x5 (constant S_ .f32 0x00000000#32))

/-- The coordinates and encodings side by side. -/
abbrev joined : S4096x2048x5.Idx → F .f32 :=
  concatenate S4096x2048x5 2 [⟨S4096x2048x3, points X⟩, ⟨S4096x2048x2, spread E⟩] concatenates_S4096x2048x3_S4096x2048x2_S4096x2048x5_d2

theorem joined_coord (b n k : Nat) (hb : b < 4096) (hn : n < 2048) (hk : k < 3) :
    joined X E (ixR b n k hb hn (by omega)) = X (ixX b (3 * n + k) hb (by omega)) := by
  refine (concatenate_pair_apply_left (2 : Fin S4096x2048x5.rank) (points X) (spread E) _ _ rfl (ixQ b n k hb hn hk) ?_).trans (points_at X _)
  intro a
  match a with
  | 0 => rfl
  | 1 => rfl
  | 2 => rfl

theorem joined_enc (b n k : Nat) (hb : b < 4096) (hn : n < 2048) (hk : k < 2) :
    joined X E (ixR b n (k + 3) hb hn (by omega)) = E (ixE n k hn hk) := by
  refine (concatenate_pair_apply_right (2 : Fin S4096x2048x5.rank) (points X) (spread E) _ _ rfl rfl (ixS b n k hb hn hk) ?_ rfl).trans (spread_at E ..)
  intro a ha
  match a with
  | 0 => rfl
  | 1 => rfl
  | 2 => exact absurd rfl ha

theorem refOut_at (b n k : Nat) (hb : b < 4096) (hn : n < 2048) (hk : k < 5) :
    refOut X E (ixR b n k hb hn hk) = keep (X (ixX b (3 * n + 2) hb (by omega))) (joined X E (ixR b n k hb hn hk)) := by
  have e : broadcastInDim S4096x2048x5 ![0, 1, 2] bcast_S4096x2048x1_S4096x2048x5_0_1_2 (broadcastInDim S4096x2048x1 ![0, 1] bcast_S4096x2048_S4096x2048x1_0_1 (refMask X))
      (ixR b n k hb hn hk) = posBit (X (ixX b (3 * n + 2) hb (by omega))) := by
    rw [← refMask_at X b n hb hn]
    unfold broadcastInDim
    congr 1
    funext a
    match a with
    | 0 => rfl
    | 1 => rfl
  unfold keep
  rw [← e]
  rfl

end Reads

/-! ## The kernel's results -/

/-- An index of a column of the table. -/
abbrev ixC (n : Nat) (hn : n < 2048) : Cert.KernelIdeal.S2048x1.Idx
  | 0 => ⟨n, hn⟩
  | 1 => ⟨0, Nat.one_pos⟩

/-- An encoding taken out of the table. -/
theorem enc_at (E : S2048x2.Idx → F .f32) (k : Nat) (hk : k < 2) (h : S2048x2.Slices ![0, k] Cert.KernelIdeal.S2048x1)
    (h' : Cert.KernelIdeal.S2048x1.ShapeCasts Cert.KernelIdeal.S2048) (n : Nat) (hn : n < 2048) :
    shapeCast Cert.KernelIdeal.S2048 (extractStridedSlice Cert.KernelIdeal.S2048x1 ![0, k] E h) h' (ix2048 n hn) = E (ixE n k hn hk) := by
  refine (shapeCast_apply _ _ (ix2048 n hn) (ixC n hn) ?_).trans (extractStridedSlice_apply _ _ _ _ _ ?_)
  · rw [Shape.rowMajor_val_two, Shape.rowMajor_val_one]
    show n * 1 + 0 = n
    omega
  · intro a
    match a with
    | 0 => exact (Nat.zero_add n).symm
    | 1 => rfl

variable (m : (ℓ : Loc Cert.KernelIdeal.nD Cert.KernelIdeal.τ Cert.KernelIdeal.sig) → Buf (Elt F) ℓ) (d : Dev Cert.KernelIdeal.nD)

theorem outVal_at (b n k : Nat) (hb : b < 4096) (hn : n < 2048) (hk : k < 5) : outVal m d (ixR b n k hb hn hk) = donePlanes m d (ixP k b n hk hb hn) := by
  refine transpose_apply _ _ _ _ _ ?_
  intro a
  match a with
  | 0 => rfl
  | 1 => rfl
  | 2 => rfl

theorem out_eq : outVal m d = refOut (givenX m d) (givenE m d) := by
  funext i
  obtain ⟨b, n, k, hb, hn, hk, rfl⟩ : ∃ (b n k : Nat) (hb : b < 4096) (hn : n < 2048) (hk : k < 5), i = ixR b n k hb hn hk :=
    ⟨(i 0).val, (i 1).val, (i 2).val, (i 0).isLt, (i 1).isLt, (i 2).isLt, funext fun a => by
      match a with
      | 0 => rfl
      | 1 => rfl
      | 2 => rfl⟩
  refine (outVal_at m d b n k hb hn hk).trans (Eq.trans ?_ (refOut_at (givenX m d) (givenE m d) b n k hb hn hk).symm)
  match k, hk with
  | 0, _ => rw [joined_coord (givenX m d) (givenE m d) b n 0 hb hn (by decide)]; rfl
  | 1, _ => rw [joined_coord (givenX m d) (givenE m d) b n 1 hb hn (by decide)]; rfl
  | 2, _ => rw [joined_coord (givenX m d) (givenE m d) b n 2 hb hn (by decide)]; rfl
  | 3, _ => rw [joined_enc (givenX m d) (givenE m d) b n 0 hb hn (by decide), ← enc_at (givenE m d) 0 (by decide) Cert.KernelIdeal.Gen.slices_S2048x2_S2048x1_0_0 Cert.KernelIdeal.Gen.shapeCasts_S2048x1_S2048 n hn]; rfl
  | 4, _ => rw [joined_enc (givenX m d) (givenE m d) b n 1 hb hn (by decide), ← enc_at (givenE m d) 1 (by decide) Cert.KernelIdeal.Gen.slices_S2048x2_S2048x1_0_1 Cert.KernelIdeal.Gen.shapeCasts_S2048x1_S2048 n hn]; rfl

/-- The mask word is not zero exactly where the bit is set. -/
theorem ne_zero_bit (b : BitVec 1) : IntOp.cmpi .ne (Scalar.select b 1#32 0#32) 0#32 = b := by
  revert b; decide

theorem mask_eq : maskVal m d = refMask (givenX m d) := by
  funext q
  obtain ⟨b, n, hb, hn, rfl⟩ : ∃ (b n : Nat) (hb : b < 4096) (hn : n < 2048), q = ixM b n hb hn :=
    ⟨(q 0).val, (q 1).val, (q 0).isLt, (q 1).isLt, funext fun a => by
      match a with
      | 0 => rfl
      | 1 => rfl⟩
  exact (ne_zero_bit _).trans (refMask_at (givenX m d) b n hb hn).symm

end Cert.Proof.Ring
-- ==== Proof.Claims.lean ====
/-
  The claims: the three frames, and the kernel's results equal to the reference's.
-/
module

public import proofs.«01_k».proof.Proof.Value
public import proofs.«01_k».proof.Proof.Gen.Kernel
public import Idealize.ShloMosaic.Init

@[expose] public section

set_option maxRecDepth 65536

noncomputable section

namespace Cert.Proof.Ring

open Idealize.ShloMosaic Idealize.SL.Sem

theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The two printings are the same text, so the run is this one's too. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal := by
  intro m ρ m' ρ' _ hm
  refine ⟨fun c => outVal m c, fun c => maskVal m c, ?_, ?_⟩
  · exact (θ_run Cert.KernelIdeal.defs _ _).mono (fun _ h c => ⟨(h.1 c).2.2.1, (h.1 c).2.2.2, (h.1 c).1, (h.1 c).2.1⟩) (run_main (F := Ideal) m ρ)
  · refine (θ_run Cert.ReferenceIdeal.defs _ _).mono (fun r h c => ⟨(h c).1.trans ?_, (h c).2.1.trans ?_, (h c).2.2⟩) (Cert.ReferenceIdeal.Value.run (F := Ideal) m' ρ')
    · show _ = outVal m c
      rw [out_eq m c, (hm c).1, (hm c).2]
      rfl
    · show _ = maskVal m c
      rw [mask_eq m c, (hm c).1]
      rfl

end Cert.Proof.Ring
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Ring.frame_kernel, Ring.frame_ideal, Ring.frame_reference, trivial, Ring.algebraic⟩

end Cert.Proof

end
